-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Keys (m : (ℓ : Loc Cert.Keys.nD Cert.Keys.τ Cert.Keys.sig) → Buf (Elt Bits) ℓ) : Prop :=
  True

def Pre_Distances (m : (ℓ : Loc Cert.Distances.nD Cert.Distances.τ Cert.Distances.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2))
      ∧ r.2.sem = fun _ => 0)

def quiescent_Distances [hDistances : Cert.Distances.Facts] : Prop :=
  ∀ (m : (ℓ : Loc Cert.Distances.nD Cert.Distances.τ Cert.Distances.sig) → Buf (Elt Bits) ℓ) (g : Dev Cert.Distances.nD → PrngReg), Pre_Distances m →
    θ_run (Cert.Distances.defs (F := Bits)) (onTc (τ := Cert.Distances.τ) (Cert.Distances.main (F := Bits))) ⟨m, fun _ => 0, g⟩ (fun r => (∀ c : Dev Cert.Distances.nD,
      r.2.mem ((c.tc : Thread Cert.Distances.nD Cert.Distances.τ).loc Cert.Distances.main_arg0) = m ((c.tc : Thread Cert.Distances.nD Cert.Distances.τ).loc Cert.Distances.main_arg0)
      ∧ r.2.mem ((c.tc : Thread Cert.Distances.nD Cert.Distances.τ).loc Cert.Distances.main_arg1) = m ((c.tc : Thread Cert.Distances.nD Cert.Distances.τ).loc Cert.Distances.main_arg1)
      ∧ r.2.mem ((c.tc : Thread Cert.Distances.nD Cert.Distances.τ).loc Cert.Distances.main_arg2) = m ((c.tc : Thread Cert.Distances.nD Cert.Distances.τ).loc Cert.Distances.main_arg2))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v36) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Keys_Distances [hKeys : Cert.Keys.Facts] [hDistances : Cert.Distances.Facts] : Prop :=
  ∀ (m : (ℓ : Loc Cert.Keys.nD Cert.Keys.τ Cert.Keys.sig) → Buf (Elt Bits) ℓ) (g : Dev Cert.Keys.nD → PrngReg)
    (m' : (ℓ : Loc Cert.Distances.nD Cert.Distances.τ Cert.Distances.sig) → Buf (Elt Bits) ℓ) (g' : Dev Cert.Distances.nD → PrngReg), Pre_Keys m →
    (∀ c : Dev Cert.Keys.nD,
      m' ((c.tc : Thread Cert.Distances.nD Cert.Distances.τ).loc Cert.Distances.main_arg0) = m ((c.tc : Thread Cert.Keys.nD Cert.Keys.τ).loc Cert.Keys.main_arg0)
      ∧ m' ((c.tc : Thread Cert.Distances.nD Cert.Distances.τ).loc Cert.Distances.main_arg1) = m ((c.tc : Thread Cert.Keys.nD Cert.Keys.τ).loc Cert.Keys.main_arg1)
      ∧ m' ((c.tc : Thread Cert.Distances.nD Cert.Distances.τ).loc Cert.Distances.main_arg2) = m ((c.tc : Thread Cert.Keys.nD Cert.Keys.τ).loc Cert.Keys.main_arg2)) →
    ∃ (v0 : (c : Dev Cert.Keys.nD) → Buf (Elt Bits) ((c.tc : Thread Cert.Keys.nD Cert.Keys.τ).loc Cert.Keys.main_v3)),
      θ_run (Cert.Keys.defs (F := Bits)) (onTc (τ := Cert.Keys.τ) (Cert.Keys.main (F := Bits))) ⟨m, fun _ => 0, g⟩ (fun r => ∀ c : Dev Cert.Keys.nD,
          r.2.mem ((c.tc : Thread Cert.Keys.nD Cert.Keys.τ).loc Cert.Keys.main_v3) = v0 c
          ∧ r.2.mem ((c.tc : Thread Cert.Keys.nD Cert.Keys.τ).loc Cert.Keys.main_arg0) = m ((c.tc : Thread Cert.Keys.nD Cert.Keys.τ).loc Cert.Keys.main_arg0)
          ∧ r.2.mem ((c.tc : Thread Cert.Keys.nD Cert.Keys.τ).loc Cert.Keys.main_arg1) = m ((c.tc : Thread Cert.Keys.nD Cert.Keys.τ).loc Cert.Keys.main_arg1)
          ∧ r.2.mem ((c.tc : Thread Cert.Keys.nD Cert.Keys.τ).loc Cert.Keys.main_arg2) = m ((c.tc : Thread Cert.Keys.nD Cert.Keys.τ).loc Cert.Keys.main_arg2))
      ∧ θ_run (Cert.Distances.defs (F := Bits)) (onTc (τ := Cert.Distances.τ) (Cert.Distances.main (F := Bits))) ⟨m', fun _ => 0, g'⟩ (fun r => ∀ c : Dev Cert.Distances.nD,
          r.2.mem ((c.tc : Thread Cert.Distances.nD Cert.Distances.τ).loc Cert.Distances.main_v12) = v0 c
          ∧ r.2.mem ((c.tc : Thread Cert.Distances.nD Cert.Distances.τ).loc Cert.Distances.main_arg0) = m' ((c.tc : Thread Cert.Distances.nD Cert.Distances.τ).loc Cert.Distances.main_arg0)
          ∧ r.2.mem ((c.tc : Thread Cert.Distances.nD Cert.Distances.τ).loc Cert.Distances.main_arg1) = m' ((c.tc : Thread Cert.Distances.nD Cert.Distances.τ).loc Cert.Distances.main_arg1)
          ∧ r.2.mem ((c.tc : Thread Cert.Distances.nD Cert.Distances.τ).loc Cert.Distances.main_arg2) = m' ((c.tc : Thread Cert.Distances.nD Cert.Distances.τ).loc Cert.Distances.main_arg2))

def Claim : Prop :=
  ∃ (hKernel : Cert.Kernel.Facts) (hKernelIdeal : Cert.KernelIdeal.Facts) (hReference : Cert.Reference.Facts) (hReferenceIdeal : Cert.ReferenceIdeal.Facts) (hKeys : Cert.Keys.Facts) (hDistances : Cert.Distances.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ quiescent_Keys (hKeys := hKeys)
    ∧ quiescent_Distances (hDistances := hDistances)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ bitexact_Keys_Distances (hKeys := hKeys) (hDistances := hDistances)
-- ==== Kernel.lean ====
abbrev S425984 : Shape := ⟨1, ![425984]⟩
abbrev S131072x128 : Shape := ⟨2, ![131072, 128]⟩
abbrev S262144x128 : Shape := ⟨2, ![262144, 128]⟩
abbrev S32768x128 : Shape := ⟨2, ![32768, 128]⟩
abbrev S294912x128 : Shape := ⟨2, ![294912, 128]⟩
abbrev S3328 : Shape := ⟨1, ![3328]⟩
abbrev S2048 : Shape := ⟨1, ![2048]⟩
abbrev S256 : Shape := ⟨1, ![256]⟩
abbrev S1024 : Shape := ⟨1, ![1024]⟩
abbrev S512 : Shape := ⟨1, ![512]⟩
abbrev S2x128x128 : Shape := ⟨3, ![2, 128, 128]⟩
abbrev S_ : Shape := ⟨0, ![]⟩
abbrev S16 : Shape := ⟨1, ![16]⟩
abbrev S1x128x128 : Shape := ⟨3, ![1, 128, 128]⟩
abbrev S128x128 : Shape := ⟨2, ![128, 128]⟩
abbrev S128 : Shape := ⟨1, ![128]⟩

abbrev nBuf : Table → Nat
  | .hbm => 6
  | .local .scVector .vmem => 10
  | _ => 0

abbrev bufTy : (tb : Table) → Fin (nBuf tb) → BufTy
  | .hbm, ⟨0, _⟩ => ⟨S425984, .i32⟩
  | .hbm, ⟨1, _⟩ => ⟨S131072x128, .f32⟩
  | .hbm, ⟨2, _⟩ => ⟨S262144x128, .f32⟩
  | .hbm, ⟨3, _⟩ => ⟨S32768x128, .f32⟩
  | .hbm, ⟨4, _⟩ => ⟨S131072x128, .f32⟩
  | .hbm, ⟨5, _⟩ => ⟨S294912x128, .f32⟩
  | .local .scVector .vmem, ⟨0, _⟩ => ⟨S3328, .i32⟩
  | .local .scVector .vmem, ⟨1, _⟩ => ⟨S2048, .i32⟩
  | .local .scVector .vmem, ⟨2, _⟩ => ⟨S2048, .i32⟩
  | .local .scVector .vmem, ⟨3, _⟩ => ⟨S2048, .i32⟩
  | .local .scVector .vmem, ⟨4, _⟩ => ⟨S2048, .i32⟩
  | .local .scVector .vmem, ⟨5, _⟩ => ⟨S256, .i32⟩
  | .local .scVector .vmem, ⟨6, _⟩ => ⟨S1024, .i32⟩
  | .local .scVector .vmem, ⟨7, _⟩ => ⟨S512, .i32⟩
  | .local .scVector .vmem, ⟨8, _⟩ => ⟨S512, .i32⟩
  | .local .scVector .vmem, ⟨9, _⟩ => ⟨S2x128x128, .f32⟩
  | _, _ => ⟨S425984, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_2 : BitVec 32 := 4#32
  let v5 : BitVec 32 := Scalar.muli v1 c4_i32_2
  let c0_i32_0 : BitVec 32 := 0#32
  let c1_i32 : BitVec 32 := 1#32
  let arg20 : BitVec 32 := Scf.iv c0_i32_0 c1_i32 k0_t1
  let v6 : BitVec 32 := Scalar.addi v5 arg20
  let c3328_i32 : BitVec 32 := 3328#32
  let v7 : BitVec 32 := Scalar.muli v6 c3328_i32
  ![v7.toNat]
@[reducible] def k0_t2_loop : Scf.Loop 32 :=
  let c0_i32_4 : BitVec 32 := 0#32
  let c16_i32 : BitVec 32 := 16#32
  let v8 : BitVec 32 := Scalar.addi c0_i32_4 c16_i32
  let c1_i32_5 : BitVec 32 := 1#32
  ⟨c0_i32_4, v8, c1_i32_5⟩
def k0_off2 (k0_t2 : Fin k0_t2_loop.trips) : Fin 1 → Nat :=
  let c0_i32_4 : BitVec 32 := 0#32
  let c1_i32_5 : BitVec 32 := 1#32
  let arg22 : BitVec 32 := Scf.iv c0_i32_4 c1_i32_5 k0_t2
  let c16_i32_291 : BitVec 32 := 16#32
  let v131 : BitVec 32 := Scalar.muli arg22 c16_i32_291
  let v132 : Index := Scalar.indexCast v131
  ![v132.toNat]
@[reducible] def k0_t3_loop : Scf.Loop 32 :=
  let c0_i32_8 : BitVec 32 := 0#32
  let c128_i32 : BitVec 32 := 128#32
  let v10 : BitVec 32 := Scalar.addi c0_i32_8 c128_i32
  let c1_i32_9 : BitVec 32 := 1#32
  ⟨c0_i32_8, v10, c1_i32_9⟩
def k0_off3 (k0_t3 : Fin k0_t3_loop.trips) : Fin 1 → Nat :=
  let c0_i32_291 : BitVec 32 := 0#32
  let c0_i32_8 : BitVec 32 := 0#32
  let c1_i32_9 : BitVec 32 := 1#32
  let arg22 : BitVec 32 := Scf.iv c0_i32_8 c1_i32_9 k0_t3
  let c16_i32_290 : BitVec 32 := 16#32
  let v130 : BitVec 32 := Scalar.muli arg22 c16_i32_290
  let v131 : BitVec 32 := Scalar.addi c0_i32_291 v130
  let v132 : Index := Scalar.indexCast v131
  ![v132.toNat]

def k0_chk1 (v137 : IVec S16 32) : Prop :=
  (∀ a x, ((![v137] : Fin 1 → IVec S16 32) a x).toNat < S256.size a)
theorem k0_idx1_inb : ∀ (v137 : IVec S16 32) (k0_hw1 : k0_chk1 v137), ∀ a x, ((![v137] : Fin 1 → IVec S16 32) a x).toNat < S256.size a := fun v137 k0_hw1 => k0_hw1
@[reducible] def k0_t4_loop : Scf.Loop 32 :=
  let c0_i32_12 : BitVec 32 := 0#32
  let c16_i32_13 : BitVec 32 := 16#32
  let v12 : BitVec 32 := Scalar.addi c0_i32_12 c16_i32_13
  let c1_i32_14 : BitVec 32 := 1#32
  ⟨c0_i32_12, v12, c1_i32_14⟩
def k0_off4 (k0_t4 : Fin k0_t4_loop.trips) : Fin 1 → Nat :=
  let c0_i32_12 : BitVec 32 := 0#32
  let c1_i32_14 : BitVec 32 := 1#32
  let arg22 : BitVec 32 := Scf.iv c0_i32_12 c1_i32_14 k0_t4
  let c16_i32_290 : BitVec 32 := 16#32
  let v130 : BitVec 32 := Scalar.muli arg22 c16_i32_290
  let v131 : Index := Scalar.indexCast v130
  ![v131.toNat]
@[reducible] def k0_t5_loop : Scf.Loop 32 :=
  let c0_i32_17 : BitVec 32 := 0#32
  let c128_i32_18 : BitVec 32 := 128#32
  let v14 : BitVec 32 := Scalar.addi c0_i32_17 c128_i32_18
  let c1_i32_19 : BitVec 32 := 1#32
  ⟨c0_i32_17, v14, c1_i32_19⟩
def k0_off5 (k0_t5 : Fin k0_t5_loop.trips) : Fin 1 → Nat :=
  let c0_i32_291 : BitVec 32 := 0#32
  let c0_i32_17 : BitVec 32 := 0#32
  let c1_i32_19 : BitVec 32 := 1#32
  let arg22 : BitVec 32 := Scf.iv c0_i32_17 c1_i32_19 k0_t5
  let c16_i32_290 : BitVec 32 := 16#32
  let v130 : BitVec 32 := Scalar.muli arg22 c16_i32_290
  let v131 : BitVec 32 := Scalar.addi c0_i32_291 v130
  let v132 : Index := Scalar.indexCast v131
  ![v132.toNat]

def k0_chk3 (v145 : IVec S16 32) : Prop :=
  (∀ a x, ((![v145] : Fin 1 → IVec S16 32) a x).toNat < S2048.size a) ∧
  (∀ a x, ((![v145] : Fin 1 → IVec S16 32) a x).toNat < S2048.size a)
theorem k0_idx3_inb : ∀ (v145 : IVec S16 32) (k0_hw3 : k0_chk3 v145), ∀ a x, ((![v145] : Fin 1 → IVec S16 32) a x).toNat < S2048.size a := fun v145 k0_hw3 => k0_hw3.1
theorem k0_idx4_inb : ∀ (v145 : IVec S16 32) (k0_hw3 : k0_chk3 v145), ∀ a x, ((![v145] : Fin 1 → IVec S16 32) a x).toNat < S2048.size a := fun v145 k0_hw3 => k0_hw3.2

def k0_chk2 (v140 : IVec S16 32) : Prop :=
  (∀ a x, ((![v140] : Fin 1 → IVec S16 32) a x).toNat < S256.size a) ∧
  (∀ a x, ((![v140] : Fin 1 → IVec S16 32) a x).toNat < S256.size a)
theorem k0_idx2_inb : ∀ (v140 : IVec S16 32) (k0_hw2 : k0_chk2 v140), ∀ a x, ((![v140] : Fin 1 → IVec S16 32) a x).toNat < S256.size a := fun v140 k0_hw2 => k0_hw2.1
theorem k0_idx5_inb : ∀ (v140 : IVec S16 32) (k0_hw2 : k0_chk2 v140), ∀ a x, ((![v140] : Fin 1 → IVec S16 32) a x).toNat < S256.size a := fun v140 k0_hw2 => k0_hw2.2
@[reducible] def k0_t6_loop : Scf.Loop 32 :=
  let c0_i32_22 : BitVec 32 := 0#32
  let c16_i32_23 : BitVec 32 := 16#32
  let v16 : BitVec 32 := Scalar.addi c0_i32_22 c16_i32_23
  let c1_i32_24 : BitVec 32 := 1#32
  ⟨c0_i32_22, v16, c1_i32_24⟩
def k0_off6 (k0_t6 : Fin k0_t6_loop.trips) : Fin 1 → Nat :=
  let c0_i32_22 : BitVec 32 := 0#32
  let c1_i32_24 : BitVec 32 := 1#32
  let arg22 : BitVec 32 := Scf.iv c0_i32_22 c1_i32_24 k0_t6
  let c16_i32_291 : BitVec 32 := 16#32
  let v131 : BitVec 32 := Scalar.muli arg22 c16_i32_291
  let v132 : Index := Scalar.indexCast v131
  ![v132.toNat]
@[reducible] def k0_t7_loop : Scf.Loop 32 :=
  let c0_i32_27 : BitVec 32 := 0#32
  let c128_i32_28 : BitVec 32 := 128#32
  let v18 : BitVec 32 := Scalar.addi c0_i32_27 c128_i32_28
  let c1_i32_29 : BitVec 32 := 1#32
  ⟨c0_i32_27, v18, c1_i32_29⟩
def k0_off7 (k0_t7 : Fin k0_t7_loop.trips) : Fin 1 → Nat :=
  let c0_i32_27 : BitVec 32 := 0#32
  let c1_i32_29 : BitVec 32 := 1#32
  let arg22 : BitVec 32 := Scf.iv c0_i32_27 c1_i32_29 k0_t7
  let c16_i32_290 : BitVec 32 := 16#32
  let v130 : BitVec 32 := Scalar.muli arg22 c16_i32_290
  let v131 : Index := Scalar.indexCast v130
  ![v131.toNat]

def k0_chk4 (v136 : IVec S16 32) : Prop :=
  (∀ a x, ((![v136] : Fin 1 → IVec S16 32) a x).toNat < S256.size a)
theorem k0_idx6_inb : ∀ (v136 : IVec S16 32) (k0_hw4 : k0_chk4 v136), ∀ a x, ((![v136] : Fin 1 → IVec S16 32) a x).toNat < S256.size a := fun v136 k0_hw4 => k0_hw4
@[reducible] def k0_t8_loop : Scf.Loop 32 :=
  let c0_i32_32 : BitVec 32 := 0#32
  let c16_i32_33 : BitVec 32 := 16#32
  let v20 : BitVec 32 := Scalar.addi c0_i32_32 c16_i32_33
  let c1_i32_34 : BitVec 32 := 1#32
  ⟨c0_i32_32, v20, c1_i32_34⟩
def k0_off8 (k0_t8 : Fin k0_t8_loop.trips) : Fin 1 → Nat :=
  let c0_i32_32 : BitVec 32 := 0#32
  let c1_i32_34 : BitVec 32 := 1#32
  let arg22 : BitVec 32 := Scf.iv c0_i32_32 c1_i32_34 k0_t8
  let c16_i32_290 : BitVec 32 := 16#32
  let v130 : BitVec 32 := Scalar.muli arg22 c16_i32_290
  let v131 : Index := Scalar.indexCast v130
  ![v131.toNat]
@[reducible] def k0_t9_loop : Scf.Loop 32 :=
  let c0_i32_37 : BitVec 32 := 0#32
  let c128_i32_38 : BitVec 32 := 128#32
  let v22 : BitVec 32 := Scalar.addi c0_i32_37 c128_i32_38
  let c1_i32_39 : BitVec 32 := 1#32
  ⟨c0_i32_37, v22, c1_i32_39⟩
def k0_off9 (k0_t9 : Fin k0_t9_loop.trips) : Fin 1 → Nat :=
  let c0_i32_37 : BitVec 32 := 0#32
  let c1_i32_39 : BitVec 32 := 1#32
  let arg22 : BitVec 32 := Scf.iv c0_i32_37 c1_i32_39 k0_t9
  let c16_i32_290 : BitVec 32 := 16#32
  let v130 : BitVec 32 := Scalar.muli arg22 c16_i32_290
  let v131 : Index := Scalar.indexCast v130
  ![v131.toNat]

def k0_chk6 (v144 : IVec S16 32) : Prop :=
  (∀ a x, ((![v144] : Fin 1 → IVec S16 32) a x).toNat < S2048.size a) ∧
  (∀ a x, ((![v144] : Fin 1 → IVec S16 32) a x).toNat < S2048.size a)
theorem k0_idx8_inb : ∀ (v144 : IVec S16 32) (k0_hw6 : k0_chk6 v144), ∀ a x, ((![v144] : Fin 1 → IVec S16 32) a x).toNat < S2048.size a := fun v144 k0_hw6 => k0_hw6.1
theorem k0_idx9_inb : ∀ (v144 : IVec S16 32) (k0_hw6 : k0_chk6 v144), ∀ a x, ((![v144] : Fin 1 → IVec S16 32) a x).toNat < S2048.size a := fun v144 k0_hw6 => k0_hw6.2

def k0_chk5 (v139 : IVec S16 32) : Prop :=
  (∀ a x, ((![v139] : Fin 1 → IVec S16 32) a x).toNat < S256.size a) ∧
  (∀ a x, ((![v139] : Fin 1 → IVec S16 32) a x).toNat < S256.size a)
theorem k0_idx7_inb : ∀ (v139 : IVec S16 32) (k0_hw5 : k0_chk5 v139), ∀ a x, ((![v139] : Fin 1 → IVec S16 32) a x).toNat < S256.size a := fun v139 k0_hw5 => k0_hw5.1
theorem k0_idx10_inb : ∀ (v139 : IVec S16 32) (k0_hw5 : k0_chk5 v139), ∀ a x, ((![v139] : Fin 1 → IVec S16 32) a x).toNat < S256.size a := fun v139 k0_hw5 => k0_hw5.2
@[reducible] def k0_t10_loop : Scf.Loop 32 :=
  let c0_i32_42 : BitVec 32 := 0#32
  let c16_i32_43 : BitVec 32 := 16#32
  let v24 : BitVec 32 := Scalar.addi c0_i32_42 c16_i32_43
  let c1_i32_44 : BitVec 32 := 1#32
  ⟨c0_i32_42, v24, c1_i32_44⟩
def k0_off10 (k0_t10 : Fin k0_t10_loop.trips) : Fin 1 → Nat :=
  let c0_i32_42 : BitVec 32 := 0#32
  let c1_i32_44 : BitVec 32 := 1#32
  let arg22 : BitVec 32 := Scf.iv c0_i32_42 c1_i32_44 k0_t10
  let c16_i32_291 : BitVec 32 := 16#32
  let v131 : BitVec 32 := Scalar.muli arg22 c16_i32_291
  let v132 : Index := Scalar.indexCast v131
  ![v132.toNat]
@[reducible] def k0_t11_loop : Scf.Loop 32 :=
  let c0_i32_47 : BitVec 32 := 0#32
  let c128_i32_48 : BitVec 32 := 128#32
  let v26 : BitVec 32 := Scalar.addi c0_i32_47 c128_i32_48
  let c1_i32_49 : BitVec 32 := 1#32
  ⟨c0_i32_47, v26, c1_i32_49⟩
def k0_off11 (k0_t11 : Fin k0_t11_loop.trips) : Fin 1 → Nat :=
  let c0_i32_47 : BitVec 32 := 0#32
  let c1_i32_49 : BitVec 32 := 1#32
  let arg22 : BitVec 32 := Scf.iv c0_i32_47 c1_i32_49 k0_t11
  let c16_i32_290 : BitVec 32 := 16#32
  let v130 : BitVec 32 := Scalar.muli arg22 c16_i32_290
  let v131 : Index := Scalar.indexCast v130
  ![v131.toNat]

def k0_chk7 (v136 : IVec S16 32) : Prop :=
  (∀ a x, ((![v136] : Fin 1 → IVec S16 32) a x).toNat < S256.size a)
theorem k0_idx11_inb : ∀ (v136 : IVec S16 32) (k0_hw7 : k0_chk7 v136), ∀ a x, ((![v136] : Fin 1 → IVec S16 32) a x).toNat < S256.size a := fun v136 k0_hw7 => k0_hw7
@[reducible] def k0_t12_loop : Scf.Loop 32 :=
  let c0_i32_52 : BitVec 32 := 0#32
  let c16_i32_53 : BitVec 32 := 16#32
  let v28 : BitVec 32 := Scalar.addi c0_i32_52 c16_i32_53
  let c1_i32_54 : BitVec 32 := 1#32
  ⟨c0_i32_52, v28, c1_i32_54⟩
def k0_off12 (k0_t12 : Fin k0_t12_loop.trips) : Fin 1 → Nat :=
  let c0_i32_52 : BitVec 32 := 0#32
  let c1_i32_54 : BitVec 32 := 1#32
  let arg22 : BitVec 32 := Scf.iv c0_i32_52 c1_i32_54 k0_t12
  let c16_i32_290 : BitVec 32 := 16#32
  let v130 : BitVec 32 := Scalar.muli arg22 c16_i32_290
  let v131 : Index := Scalar.indexCast v130
  ![v131.toNat]
@[reducible] def k0_t13_loop : Scf.Loop 32 :=
  let c0_i32_57 : BitVec 32 := 0#32
  let c128_i32_58 : BitVec 32 := 128#32
  let v30 : BitVec 32 := Scalar.addi c0_i32_57 c128_i32_58
  let c1_i32_59 : BitVec 32 := 1#32
  ⟨c0_i32_57, v30, c1_i32_59⟩
def k0_off13 (k0_t13 : Fin k0_t13_loop.trips) : Fin 1 → Nat :=
  let c0_i32_57 : BitVec 32 := 0#32
  let c1_i32_59 : BitVec 32 := 1#32
  let arg22 : BitVec 32 := Scf.iv c0_i32_57 c1_i32_59 k0_t13
  let c16_i32_290 : BitVec 32 := 16#32
  let v130 : BitVec 32 := Scalar.muli arg22 c16_i32_290
  let v131 : Index := Scalar.indexCast v130
  ![v131.toNat]

def k0_chk9 (v144 : IVec S16 32) : Prop :=
  (∀ a x, ((![v144] : Fin 1 → IVec S16 32) a x).toNat < S2048.size a) ∧
  (∀ a x, ((![v144] : Fin 1 → IVec S16 32) a x).toNat < S2048.size a)
theorem k0_idx13_inb : ∀ (v144 : IVec S16 32) (k0_hw9 : k0_chk9 v144), ∀ a x, ((![v144] : Fin 1 → IVec S16 32) a x).toNat < S2048.size a := fun v144 k0_hw9 => k0_hw9.1
theorem k0_idx14_inb : ∀ (v144 : IVec S16 32) (k0_hw9 : k0_chk9 v144), ∀ a x, ((![v144] : Fin 1 → IVec S16 32) a x).toNat < S2048.size a := fun v144 k0_hw9 => k0_hw9.2

def k0_chk8 (v139 : IVec S16 32) : Prop :=
  (∀ a x, ((![v139] : Fin 1 → IVec S16 32) a x).toNat < S256.size a) ∧
  (∀ a x, ((![v139] : Fin 1 → IVec S16 32) a x).toNat < S256.size a)
theorem k0_idx12_inb : ∀ (v139 : IVec S16 32) (k0_hw8 : k0_chk8 v139), ∀ a x, ((![v139] : Fin 1 → IVec S16 32) a x).toNat < S256.size a := fun v139 k0_hw8 => k0_hw8.1
theorem k0_idx15_inb : ∀ (v139 : IVec S16 32) (k0_hw8 : k0_chk8 v139), ∀ a x, ((![v139] : Fin 1 → IVec S16 32) a x).toNat < S256.size a := fun v139 k0_hw8 => k0_hw8.2
@[reducible] def k0_t14_loop : Scf.Loop 32 :=
  let c0_i32_62 : BitVec 32 := 0#32
  let c16_i32_63 : BitVec 32 := 16#32
  let v32 : BitVec 32 := Scalar.addi c0_i32_62 c16_i32_63
  let c1_i32_64 : BitVec 32 := 1#32
  ⟨c0_i32_62, v32, c1_i32_64⟩
def k0_off14 (k0_t14 : Fin k0_t14_loop.trips) : Fin 1 → Nat :=
  let c0_i32_62 : BitVec 32 := 0#32
  let c1_i32_64 : BitVec 32 := 1#32
  let arg22 : BitVec 32 := Scf.iv c0_i32_62 c1_i32_64 k0_t14
  let c16_i32_291 : BitVec 32 := 16#32
  let v131 : BitVec 32 := Scalar.muli arg22 c16_i32_291
  let v132 : Index := Scalar.indexCast v131
  ![v132.toNat]
@[reducible] def k0_t15_loop : Scf.Loop 32 :=
  let c0_i32_67 : BitVec 32 := 0#32
  let c128_i32_68 : BitVec 32 := 128#32
  let v34 : BitVec 32 := Scalar.addi c0_i32_67 c128_i32_68
  let c1_i32_69 : BitVec 32 := 1#32
  ⟨c0_i32_67, v34, c1_i32_69⟩
def k0_off15 (k0_t15 : Fin k0_t15_loop.trips) : Fin 1 → Nat :=
  let c0_i32_67 : BitVec 32 := 0#32
  let c1_i32_69 : BitVec 32 := 1#32
  let arg22 : BitVec 32 := Scf.iv c0_i32_67 c1_i32_69 k0_t15
  let c16_i32_290 : BitVec 32 := 16#32
  let v130 : BitVec 32 := Scalar.muli arg22 c16_i32_290
  let v131 : Index := Scalar.indexCast v130
  ![v131.toNat]

def k0_chk10 (v136 : IVec S16 32) : Prop :=
  (∀ a x, ((![v136] : Fin 1 → IVec S16 32) a x).toNat < S256.size a)
theorem k0_idx16_inb : ∀ (v136 : IVec S16 32) (k0_hw10 : k0_chk10 v136), ∀ a x, ((![v136] : Fin 1 → IVec S16 32) a x).toNat < S256.size a := fun v136 k0_hw10 => k0_hw10
@[reducible] def k0_t16_loop : Scf.Loop 32 :=
  let c0_i32_72 : BitVec 32 := 0#32
  let c16_i32_73 : BitVec 32 := 16#32
  let v36 : BitVec 32 := Scalar.addi c0_i32_72 c16_i32_73
  let c1_i32_74 : BitVec 32 := 1#32
  ⟨c0_i32_72, v36, c1_i32_74⟩
def k0_off16 (k0_t16 : Fin k0_t16_loop.trips) : Fin 1 → Nat :=
  let c0_i32_72 : BitVec 32 := 0#32
  let c1_i32_74 : BitVec 32 := 1#32
  let arg22 : BitVec 32 := Scf.iv c0_i32_72 c1_i32_74 k0_t16
  let c16_i32_290 : BitVec 32 := 16#32
  let v130 : BitVec 32 := Scalar.muli arg22 c16_i32_290
  let v131 : Index := Scalar.indexCast v130
  ![v131.toNat]
@[reducible] def k0_t17_loop : Scf.Loop 32 :=
  let c0_i32_77 : BitVec 32 := 0#32
  let c128_i32_78 : BitVec 32 := 128#32
  let v38 : BitVec 32 := Scalar.addi c0_i32_77 c128_i32_78
  let c1_i32_79 : BitVec 32 := 1#32
  ⟨c0_i32_77, v38, c1_i32_79⟩
def k0_off17 (k0_t17 : Fin k0_t17_loop.trips) : Fin 1 → Nat :=
  let c0_i32_77 : BitVec 32 := 0#32
  let c1_i32_79 : BitVec 32 := 1#32
  let arg22 : BitVec 32 := Scf.iv c0_i32_77 c1_i32_79 k0_t17
  let c16_i32_290 : BitVec 32 := 16#32
  let v130 : BitVec 32 := Scalar.muli arg22 c16_i32_290
  let v131 : Index := Scalar.indexCast v130
  ![v131.toNat]

def k0_chk12 (v144 : IVec S16 32) : Prop :=
  (∀ a x, ((![v144] : Fin 1 → IVec S16 32) a x).toNat < S2048.size a)
theorem k0_idx18_inb : ∀ (v144 : IVec S16 32) (k0_hw12 : k0_chk12 v144), ∀ a x, ((![v144] : Fin 1 → IVec S16 32) a x).toNat < S2048.size a := fun v144 k0_hw12 => k0_hw12

def k0_chk11 (v139 : IVec S16 32) : Prop :=
  (∀ a x, ((![v139] : Fin 1 → IVec S16 32) a x).toNat < S256.size a) ∧
  (∀ a x, ((![v139] : Fin 1 → IVec S16 32) a x).toNat < S256.size a)
theorem k0_idx17_inb : ∀ (v139 : IVec S16 32) (k0_hw11 : k0_chk11 v139), ∀ a x, ((![v139] : Fin 1 → IVec S16 32) a x).toNat < S256.size a := fun v139 k0_hw11 => k0_hw11.1
theorem k0_idx19_inb : ∀ (v139 : IVec S16 32) (k0_hw11 : k0_chk11 v139), ∀ a x, ((![v139] : Fin 1 → IVec S16 32) a x).toNat < S256.size a := fun v139 k0_hw11 => k0_hw11.2
@[reducible] def k0_t18_loop : Scf.Loop 32 :=
  let c0_i32_82 : BitVec 32 := 0#32
  let c64_i32 : BitVec 32 := 64#32
  let v41 : BitVec 32 := Scalar.addi c0_i32_82 c64_i32
  let c1_i32_83 : BitVec 32 := 1#32
  ⟨c0_i32_82, v41, c1_i32_83⟩
def k0_off18 (k0_t18 : Fin k0_t18_loop.trips) : Fin 1 → Nat :=
  let c0_i32_82 : BitVec 32 := 0#32
  let c1_i32_83 : BitVec 32 := 1#32
  let arg22 : BitVec 32 := Scf.iv c0_i32_82 c1_i32_83 k0_t18
  let c16_i32_290 : BitVec 32 := 16#32
  let v130 : BitVec 32 := Scalar.muli arg22 c16_i32_290
  let v131 : Index := Scalar.indexCast v130
  ![v131.toNat]
def k0_off19 (k0_t18 : Fin k0_t18_loop.trips) : Fin 1 → Nat :=
  let c0_i32_82 : BitVec 32 := 0#32
  let c1_i32_83 : BitVec 32 := 1#32
  let arg22 : BitVec 32 := Scf.iv c0_i32_82 c1_i32_83 k0_t18
  let c16_i32_291 : BitVec 32 := 16#32
  let v135 : BitVec 32 := Scalar.muli arg22 c16_i32_291
  let v136 : Index := Scalar.indexCast v135
  ![v136.toNat]
@[reducible] def k0_t19_loop : Scf.Loop 32 :=
  let c0_i32_86 : BitVec 32 := 0#32
  let c16_i32_87 : BitVec 32 := 16#32
  let v43 : BitVec 32 := Scalar.addi c0_i32_86 c16_i32_87
  let c1_i32_88 : BitVec 32 := 1#32
  ⟨c0_i32_86, v43, c1_i32_88⟩
def k0_off20 (k0_t19 : Fin k0_t19_loop.trips) : Fin 1 → Nat :=
  let c0_i32_86 : BitVec 32 := 0#32
  let c1_i32_88 : BitVec 32 := 1#32
  let arg22 : BitVec 32 := Scf.iv c0_i32_86 c1_i32_88 k0_t19
  let c16_i32_291 : BitVec 32 := 16#32
  let v131 : BitVec 32 := Scalar.muli arg22 c16_i32_291
  let v132 : Index := Scalar.indexCast v131
  ![v132.toNat]
@[reducible] def k0_t20_loop : Scf.Loop 32 :=
  let c0_i32_91 : BitVec 32 := 0#32
  let c64_i32_92 : BitVec 32 := 64#32
  let v45 : BitVec 32 := Scalar.addi c0_i32_91 c64_i32_92
  let c1_i32_93 : BitVec 32 := 1#32
  ⟨c0_i32_91, v45, c1_i32_93⟩
def k0_off21 (k0_t20 : Fin k0_t20_loop.trips) : Fin 1 → Nat :=
  let c2048_i32_291 : BitVec 32 := 2048#32
  let c0_i32_91 : BitVec 32 := 0#32
  let c1_i32_93 : BitVec 32 := 1#32
  let arg22 : BitVec 32 := Scf.iv c0_i32_91 c1_i32_93 k0_t20
  let c16_i32_290 : BitVec 32 := 16#32
  let v130 : BitVec 32 := Scalar.muli arg22 c16_i32_290
  let v131 : BitVec 32 := Scalar.addi c2048_i32_291 v130
  let v132 : Index := Scalar.indexCast v131
  ![v132.toNat]

def k0_chk13 (v137 : IVec S16 32) : Prop :=
  (∀ a x, ((![v137] : Fin 1 → IVec S16 32) a x).toNat < S256.size a)
theorem k0_idx20_inb : ∀ (v137 : IVec S16 32) (k0_hw13 : k0_chk13 v137), ∀ a x, ((![v137] : Fin 1 → IVec S16 32) a x).toNat < S256.size a := fun v137 k0_hw13 => k0_hw13
@[reducible] def k0_t21_loop : Scf.Loop 32 :=
  let c0_i32_96 : BitVec 32 := 0#32
  let c16_i32_97 : BitVec 32 := 16#32
  let v47 : BitVec 32 := Scalar.addi c0_i32_96 c16_i32_97
  let c1_i32_98 : BitVec 32 := 1#32
  ⟨c0_i32_96, v47, c1_i32_98⟩
def k0_off22 (k0_t21 : Fin k0_t21_loop.trips) : Fin 1 → Nat :=
  let c0_i32_96 : BitVec 32 := 0#32
  let c1_i32_98 : BitVec 32 := 1#32
  let arg22 : BitVec 32 := Scf.iv c0_i32_96 c1_i32_98 k0_t21
  let c16_i32_290 : BitVec 32 := 16#32
  let v130 : BitVec 32 := Scalar.muli arg22 c16_i32_290
  let v131 : Index := Scalar.indexCast v130
  ![v131.toNat]
@[reducible] def k0_t22_loop : Scf.Loop 32 :=
  let c0_i32_101 : BitVec 32 := 0#32
  let c64_i32_102 : BitVec 32 := 64#32
  let v49 : BitVec 32 := Scalar.addi c0_i32_101 c64_i32_102
  let c1_i32_103 : BitVec 32 := 1#32
  ⟨c0_i32_101, v49, c1_i32_103⟩
def k0_off23 (k0_t22 : Fin k0_t22_loop.trips) : Fin 1 → Nat :=
  let c2048_i32_291 : BitVec 32 := 2048#32
  let c0_i32_101 : BitVec 32 := 0#32
  let c1_i32_103 : BitVec 32 := 1#32
  let arg22 : BitVec 32 := Scf.iv c0_i32_101 c1_i32_103 k0_t22
  let c16_i32_290 : BitVec 32 := 16#32
  let v130 : BitVec 32 := Scalar.muli arg22 c16_i32_290
  let v131 : BitVec 32 := Scalar.addi c2048_i32_291 v130
  let v132 : Index := Scalar.indexCast v131
  ![v132.toNat]

def k0_chk15 (v145 : IVec S16 32) : Prop :=
  (∀ a x, ((![v145] : Fin 1 → IVec S16 32) a x).toNat < S2048.size a) ∧
  (∀ a x, ((![v145] : Fin 1 → IVec S16 32) a x).toNat < S2048.size a)
theorem k0_idx22_inb : ∀ (v145 : IVec S16 32) (k0_hw15 : k0_chk15 v145), ∀ a x, ((![v145] : Fin 1 → IVec S16 32) a x).toNat < S2048.size a := fun v145 k0_hw15 => k0_hw15.1
theorem k0_idx23_inb : ∀ (v145 : IVec S16 32) (k0_hw15 : k0_chk15 v145), ∀ a x, ((![v145] : Fin 1 → IVec S16 32) a x).toNat < S2048.size a := fun v145 k0_hw15 => k0_hw15.2

def k0_chk14 (v140 : IVec S16 32) : Prop :=
  (∀ a x, ((![v140] : Fin 1 → IVec S16 32) a x).toNat < S256.size a) ∧
  (∀ a x, ((![v140] : Fin 1 → IVec S16 32) a x).toNat < S256.size a)
theorem k0_idx21_inb : ∀ (v140 : IVec S16 32) (k0_hw14 : k0_chk14 v140), ∀ a x, ((![v140] : Fin 1 → IVec S16 32) a x).toNat < S256.size a := fun v140 k0_hw14 => k0_hw14.1
theorem k0_idx24_inb : ∀ (v140 : IVec S16 32) (k0_hw14 : k0_chk14 v140), ∀ a x, ((![v140] : Fin 1 → IVec S16 32) a x).toNat < S256.size a := fun v140 k0_hw14 => k0_hw14.2
@[reducible] def k0_t23_loop : Scf.Loop 32 :=
  let c0_i32_106 : BitVec 32 := 0#32
  let c16_i32_107 : BitVec 32 := 16#32
  let v51 : BitVec 32 := Scalar.addi c0_i32_106 c16_i32_107
  let c1_i32_108 : BitVec 32 := 1#32
  ⟨c0_i32_106, v51, c1_i32_108⟩
def k0_off24 (k0_t23 : Fin k0_t23_loop.trips) : Fin 1 → Nat :=
  let c0_i32_106 : BitVec 32 := 0#32
  let c1_i32_108 : BitVec 32 := 1#32
  let arg22 : BitVec 32 := Scf.iv c0_i32_106 c1_i32_108 k0_t23
  let c16_i32_291 : BitVec 32 := 16#32
  let v131 : BitVec 32 := Scalar.muli arg22 c16_i32_291
  let v132 : Index := Scalar.indexCast v131
  ![v132.toNat]
@[reducible] def k0_t24_loop : Scf.Loop 32 :=
  let c0_i32_111 : BitVec 32 := 0#32
  let c64_i32_112 : BitVec 32 := 64#32
  let v53 : BitVec 32 := Scalar.addi c0_i32_111 c64_i32_112
  let c1_i32_113 : BitVec 32 := 1#32
  ⟨c0_i32_111, v53, c1_i32_113⟩
def k0_off25 (k0_t24 : Fin k0_t24_loop.trips) : Fin 1 → Nat :=
  let c0_i32_111 : BitVec 32 := 0#32
  let c1_i32_113 : BitVec 32 := 1#32
  let arg22 : BitVec 32 := Scf.iv c0_i32_111 c1_i32_113 k0_t24
  let c16_i32_290 : BitVec 32 := 16#32
  let v130 : BitVec 32 := Scalar.muli arg22 c16_i32_290
  let v131 : Index := Scalar.indexCast v130
  ![v131.toNat]

def k0_chk16 (v136 : IVec S16 32) : Prop :=
  (∀ a x, ((![v136] : Fin 1 → IVec S16 32) a x).toNat < S256.size a)
theorem k0_idx25_inb : ∀ (v136 : IVec S16 32) (k0_hw16 : k0_chk16 v136), ∀ a x, ((![v136] : Fin 1 → IVec S16 32) a x).toNat < S256.size a := fun v136 k0_hw16 => k0_hw16
@[reducible] def k0_t25_loop : Scf.Loop 32 :=
  let c0_i32_116 : BitVec 32 := 0#32
  let c16_i32_117 : BitVec 32 := 16#32
  let v55 : BitVec 32 := Scalar.addi c0_i32_116 c16_i32_117
  let c1_i32_118 : BitVec 32 := 1#32
  ⟨c0_i32_116, v55, c1_i32_118⟩
def k0_off26 (k0_t25 : Fin k0_t25_loop.trips) : Fin 1 → Nat :=
  let c0_i32_116 : BitVec 32 := 0#32
  let c1_i32_118 : BitVec 32 := 1#32
  let arg22 : BitVec 32 := Scf.iv c0_i32_116 c1_i32_118 k0_t25
  let c16_i32_290 : BitVec 32 := 16#32
  let v130 : BitVec 32 := Scalar.muli arg22 c16_i32_290
  let v131 : Index := Scalar.indexCast v130
  ![v131.toNat]
@[reducible] def k0_t26_loop : Scf.Loop 32 :=
  let c0_i32_121 : BitVec 32 := 0#32
  let c64_i32_122 : BitVec 32 := 64#32
  let v57 : BitVec 32 := Scalar.addi c0_i32_121 c64_i32_122
  let c1_i32_123 : BitVec 32 := 1#32
  ⟨c0_i32_121, v57, c1_i32_123⟩
def k0_off27 (k0_t26 : Fin k0_t26_loop.trips) : Fin 1 → Nat :=
  let c0_i32_121 : BitVec 32 := 0#32
  let c1_i32_123 : BitVec 32 := 1#32
  let arg22 : BitVec 32 := Scf.iv c0_i32_121 c1_i32_123 k0_t26
  let c16_i32_290 : BitVec 32 := 16#32
  let v130 : BitVec 32 := Scalar.muli arg22 c16_i32_290
  let v131 : Index := Scalar.indexCast v130
  ![v131.toNat]

def k0_chk18 (v144 : IVec S16 32) : Prop :=
  (∀ a x, ((![v144] : Fin 1 → IVec S16 32) a x).toNat < S2048.size a) ∧
  (∀ a x, ((![v144] : Fin 1 → IVec S16 32) a x).toNat < S2048.size a)
theorem k0_idx27_inb : ∀ (v144 : IVec S16 32) (k0_hw18 : k0_chk18 v144), ∀ a x, ((![v144] : Fin 1 → IVec S16 32) a x).toNat < S2048.size a := fun v144 k0_hw18 => k0_hw18.1
theorem k0_idx28_inb : ∀ (v144 : IVec S16 32) (k0_hw18 : k0_chk18 v144), ∀ a x, ((![v144] : Fin 1 → IVec S16 32) a x).toNat < S2048.size a := fun v144 k0_hw18 => k0_hw18.2

def k0_chk17 (v139 : IVec S16 32) : Prop :=
  (∀ a x, ((![v139] : Fin 1 → IVec S16 32) a x).toNat < S256.size a) ∧
  (∀ a x, ((![v139] : Fin 1 → IVec S16 32) a x).toNat < S256.size a)
theorem k0_idx26_inb : ∀ (v139 : IVec S16 32) (k0_hw17 : k0_chk17 v139), ∀ a x, ((![v139] : Fin 1 → IVec S16 32) a x).toNat < S256.size a := fun v139 k0_hw17 => k0_hw17.1
theorem k0_idx29_inb : ∀ (v139 : IVec S16 32) (k0_hw17 : k0_chk17 v139), ∀ a x, ((![v139] : Fin 1 → IVec S16 32) a x).toNat < S256.size a := fun v139 k0_hw17 => k0_hw17.2
@[reducible] def k0_t27_loop : Scf.Loop 32 :=
  let c0_i32_126 : BitVec 32 := 0#32
  let c16_i32_127 : BitVec 32 := 16#32
  let v59 : BitVec 32 := Scalar.addi c0_i32_126 c16_i32_127
  let c1_i32_128 : BitVec 32 := 1#32
  ⟨c0_i32_126, v59, c1_i32_128⟩
def k0_off28 (k0_t27 : Fin k0_t27_loop.trips) : Fin 1 → Nat :=
  let c0_i32_126 : BitVec 32 := 0#32
  let c1_i32_128 : BitVec 32 := 1#32
  let arg22 : BitVec 32 := Scf.iv c0_i32_126 c1_i32_128 k0_t27
  let c16_i32_291 : BitVec 32 := 16#32
  let v131 : BitVec 32 := Scalar.muli arg22 c16_i32_291
  let v132 : Index := Scalar.indexCast v131
  ![v132.toNat]
@[reducible] def k0_t28_loop : Scf.Loop 32 :=
  let c0_i32_131 : BitVec 32 := 0#32
  let c64_i32_132 : BitVec 32 := 64#32
  let v61 : BitVec 32 := Scalar.addi c0_i32_131 c64_i32_132
  let c1_i32_133 : BitVec 32 := 1#32
  ⟨c0_i32_131, v61, c1_i32_133⟩
def k0_off29 (k0_t28 : Fin k0_t28_loop.trips) : Fin 1 → Nat :=
  let c0_i32_131 : BitVec 32 := 0#32
  let c1_i32_133 : BitVec 32 := 1#32
  let arg22 : BitVec 32 := Scf.iv c0_i32_131 c1_i32_133 k0_t28
  let c16_i32_290 : BitVec 32 := 16#32
  let v130 : BitVec 32 := Scalar.muli arg22 c16_i32_290
  let v131 : Index := Scalar.indexCast v130
  ![v131.toNat]

def k0_chk19 (v136 : IVec S16 32) : Prop :=
  (∀ a x, ((![v136] : Fin 1 → IVec S16 32) a x).toNat < S256.size a)
theorem k0_idx30_inb : ∀ (v136 : IVec S16 32) (k0_hw19 : k0_chk19 v136), ∀ a x, ((![v136] : Fin 1 → IVec S16 32) a x).toNat < S256.size a := fun v136 k0_hw19 => k0_hw19
@[reducible] def k0_t29_loop : Scf.Loop 32 :=
  let c0_i32_136 : BitVec 32 := 0#32
  let c16_i32_137 : BitVec 32 := 16#32
  let v63 : BitVec 32 := Scalar.addi c0_i32_136 c16_i32_137
  let c1_i32_138 : BitVec 32 := 1#32
  ⟨c0_i32_136, v63, c1_i32_138⟩
def k0_off30 (k0_t29 : Fin k0_t29_loop.trips) : Fin 1 → Nat :=
  let c0_i32_136 : BitVec 32 := 0#32
  let c1_i32_138 : BitVec 32 := 1#32
  let arg22 : BitVec 32 := Scf.iv c0_i32_136 c1_i32_138 k0_t29
  let c16_i32_290 : BitVec 32 := 16#32
  let v130 : BitVec 32 := Scalar.muli arg22 c16_i32_290
  let v131 : Index := Scalar.indexCast v130
  ![v131.toNat]
@[reducible] def k0_t30_loop : Scf.Loop 32 :=
  let c0_i32_141 : BitVec 32 := 0#32
  let c64_i32_142 : BitVec 32 := 64#32
  let v65 : BitVec 32 := Scalar.addi c0_i32_141 c64_i32_142
  let c1_i32_143 : BitVec 32 := 1#32
  ⟨c0_i32_141, v65, c1_i32_143⟩
def k0_off31 (k0_t30 : Fin k0_t30_loop.trips) : Fin 1 → Nat :=
  let c0_i32_141 : BitVec 32 := 0#32
  let c1_i32_143 : BitVec 32 := 1#32
  let arg22 : BitVec 32 := Scf.iv c0_i32_141 c1_i32_143 k0_t30
  let c16_i32_290 : BitVec 32 := 16#32
  let v130 : BitVec 32 := Scalar.muli arg22 c16_i32_290
  let v131 : Index := Scalar.indexCast v130
  ![v131.toNat]

def k0_chk21 (v144 : IVec S16 32) : Prop :=
  (∀ a x, ((![v144] : Fin 1 → IVec S16 32) a x).toNat < S2048.size a) ∧
  (∀ a x, ((![v144] : Fin 1 → IVec S16 32) a x).toNat < S2048.size a)
theorem k0_idx32_inb : ∀ (v144 : IVec S16 32) (k0_hw21 : k0_chk21 v144), ∀ a x, ((![v144] : Fin 1 → IVec S16 32) a x).toNat < S2048.size a := fun v144 k0_hw21 => k0_hw21.1
theorem k0_idx33_inb : ∀ (v144 : IVec S16 32) (k0_hw21 : k0_chk21 v144), ∀ a x, ((![v144] : Fin 1 → IVec S16 32) a x).toNat < S2048.size a := fun v144 k0_hw21 => k0_hw21.2

def k0_chk20 (v139 : IVec S16 32) : Prop :=
  (∀ a x, ((![v139] : Fin 1 → IVec S16 32) a x).toNat < S256.size a) ∧
  (∀ a x, ((![v139] : Fin 1 → IVec S16 32) a x).toNat < S256.size a)
theorem k0_idx31_inb : ∀ (v139 : IVec S16 32) (k0_hw20 : k0_chk20 v139), ∀ a x, ((![v139] : Fin 1 → IVec S16 32) a x).toNat < S256.size a := fun v139 k0_hw20 => k0_hw20.1
theorem k0_idx34_inb : ∀ (v139 : IVec S16 32) (k0_hw20 : k0_chk20 v139), ∀ a x, ((![v139] : Fin 1 → IVec S16 32) a x).toNat < S256.size a := fun v139 k0_hw20 => k0_hw20.2
@[reducible] def k0_t31_loop : Scf.Loop 32 :=
  let c0_i32_146 : BitVec 32 := 0#32
  let c16_i32_147 : BitVec 32 := 16#32
  let v67 : BitVec 32 := Scalar.addi c0_i32_146 c16_i32_147
  let c1_i32_148 : BitVec 32 := 1#32
  ⟨c0_i32_146, v67, c1_i32_148⟩
def k0_off32 (k0_t31 : Fin k0_t31_loop.trips) : Fin 1 → Nat :=
  let c0_i32_146 : BitVec 32 := 0#32
  let c1_i32_148 : BitVec 32 := 1#32
  let arg22 : BitVec 32 := Scf.iv c0_i32_146 c1_i32_148 k0_t31
  let c16_i32_291 : BitVec 32 := 16#32
  let v131 : BitVec 32 := Scalar.muli arg22 c16_i32_291
  let v132 : Index := Scalar.indexCast v131
  ![v132.toNat]
@[reducible] def k0_t32_loop : Scf.Loop 32 :=
  let c0_i32_151 : BitVec 32 := 0#32
  let c64_i32_152 : BitVec 32 := 64#32
  let v69 : BitVec 32 := Scalar.addi c0_i32_151 c64_i32_152
  let c1_i32_153 : BitVec 32 := 1#32
  ⟨c0_i32_151, v69, c1_i32_153⟩
def k0_off33 (k0_t32 : Fin k0_t32_loop.trips) : Fin 1 → Nat :=
  let c0_i32_151 : BitVec 32 := 0#32
  let c1_i32_153 : BitVec 32 := 1#32
  let arg22 : BitVec 32 := Scf.iv c0_i32_151 c1_i32_153 k0_t32
  let c16_i32_290 : BitVec 32 := 16#32
  let v130 : BitVec 32 := Scalar.muli arg22 c16_i32_290
  let v131 : Index := Scalar.indexCast v130
  ![v131.toNat]

def k0_chk22 (v136 : IVec S16 32) : Prop :=
  (∀ a x, ((![v136] : Fin 1 → IVec S16 32) a x).toNat < S256.size a)
theorem k0_idx35_inb : ∀ (v136 : IVec S16 32) (k0_hw22 : k0_chk22 v136), ∀ a x, ((![v136] : Fin 1 → IVec S16 32) a x).toNat < S256.size a := fun v136 k0_hw22 => k0_hw22
@[reducible] def k0_t33_loop : Scf.Loop 32 :=
  let c0_i32_156 : BitVec 32 := 0#32
  let c16_i32_157 : BitVec 32 := 16#32
  let v71 : BitVec 32 := Scalar.addi c0_i32_156 c16_i32_157
  let c1_i32_158 : BitVec 32 := 1#32
  ⟨c0_i32_156, v71, c1_i32_158⟩
def k0_off34 (k0_t33 : Fin k0_t33_loop.trips) : Fin 1 → Nat :=
  let c0_i32_156 : BitVec 32 := 0#32
  let c1_i32_158 : BitVec 32 := 1#32
  let arg22 : BitVec 32 := Scf.iv c0_i32_156 c1_i32_158 k0_t33
  let c16_i32_290 : BitVec 32 := 16#32
  let v130 : BitVec 32 := Scalar.muli arg22 c16_i32_290
  let v131 : Index := Scalar.indexCast v130
  ![v131.toNat]
@[reducible] def k0_t34_loop : Scf.Loop 32 :=
  let c0_i32_161 : BitVec 32 := 0#32
  let c64_i32_162 : BitVec 32 := 64#32
  let v73 : BitVec 32 := Scalar.addi c0_i32_161 c64_i32_162
  let c1_i32_163 : BitVec 32 := 1#32
  ⟨c0_i32_161, v73, c1_i32_163⟩
def k0_off35 (k0_t34 : Fin k0_t34_loop.trips) : Fin 1 → Nat :=
  let c0_i32_161 : BitVec 32 := 0#32
  let c1_i32_163 : BitVec 32 := 1#32
  let arg22 : BitVec 32 := Scf.iv c0_i32_161 c1_i32_163 k0_t34
  let c16_i32_290 : BitVec 32 := 16#32
  let v130 : BitVec 32 := Scalar.muli arg22 c16_i32_290
  let v131 : Index := Scalar.indexCast v130
  ![v131.toNat]

def k0_chk24 (v144 : IVec S16 32) : Prop :=
  (∀ a x, ((![v144] : Fin 1 → IVec S16 32) a x).toNat < S2048.size a)
theorem k0_idx37_inb : ∀ (v144 : IVec S16 32) (k0_hw24 : k0_chk24 v144), ∀ a x, ((![v144] : Fin 1 → IVec S16 32) a x).toNat < S2048.size a := fun v144 k0_hw24 => k0_hw24

def k0_chk23 (v139 : IVec S16 32) : Prop :=
  (∀ a x, ((![v139] : Fin 1 → IVec S16 32) a x).toNat < S256.size a) ∧
  (∀ a x, ((![v139] : Fin 1 → IVec S16 32) a x).toNat < S256.size a)
theorem k0_idx36_inb : ∀ (v139 : IVec S16 32) (k0_hw23 : k0_chk23 v139), ∀ a x, ((![v139] : Fin 1 → IVec S16 32) a x).toNat < S256.size a := fun v139 k0_hw23 => k0_hw23.1
theorem k0_idx38_inb : ∀ (v139 : IVec S16 32) (k0_hw23 : k0_chk23 v139), ∀ a x, ((![v139] : Fin 1 → IVec S16 32) a x).toNat < S256.size a := fun v139 k0_hw23 => k0_hw23.2
@[reducible] def k0_t35_loop : Scf.Loop 32 :=
  let c0_i32_166 : BitVec 32 := 0#32
  let c32_i32 : BitVec 32 := 32#32
  let v76 : BitVec 32 := Scalar.addi c0_i32_166 c32_i32
  let c1_i32_167 : BitVec 32 := 1#32
  ⟨c0_i32_166, v76, c1_i32_167⟩
def k0_off36 (k0_t35 : Fin k0_t35_loop.trips) : Fin 1 → Nat :=
  let c0_i32_166 : BitVec 32 := 0#32
  let c1_i32_167 : BitVec 32 := 1#32
  let arg22 : BitVec 32 := Scf.iv c0_i32_166 c1_i32_167 k0_t35
  let c16_i32_290 : BitVec 32 := 16#32
  let v130 : BitVec 32 := Scalar.muli arg22 c16_i32_290
  let v131 : Index := Scalar.indexCast v130
  ![v131.toNat]
def k0_off37 (k0_t35 : Fin k0_t35_loop.trips) : Fin 1 → Nat :=
  let c0_i32_166 : BitVec 32 := 0#32
  let c1_i32_167 : BitVec 32 := 1#32
  let arg22 : BitVec 32 := Scf.iv c0_i32_166 c1_i32_167 k0_t35
  let c16_i32_291 : BitVec 32 := 16#32
  let v135 : BitVec 32 := Scalar.muli arg22 c16_i32_291
  let v136 : Index := Scalar.indexCast v135
  ![v136.toNat]
@[reducible] def k0_t36_loop : Scf.Loop 32 :=
  let c0_i32_170 : BitVec 32 := 0#32
  let c16_i32_171 : BitVec 32 := 16#32
  let v78 : BitVec 32 := Scalar.addi c0_i32_170 c16_i32_171
  let c1_i32_172 : BitVec 32 := 1#32
  ⟨c0_i32_170, v78, c1_i32_172⟩
def k0_off38 (k0_t36 : Fin k0_t36_loop.trips) : Fin 1 → Nat :=
  let c0_i32_170 : BitVec 32 := 0#32
  let c1_i32_172 : BitVec 32 := 1#32
  let arg22 : BitVec 32 := Scf.iv c0_i32_170 c1_i32_172 k0_t36
  let c16_i32_291 : BitVec 32 := 16#32
  let v131 : BitVec 32 := Scalar.muli arg22 c16_i32_291
  let v132 : Index := Scalar.indexCast v131
  ![v132.toNat]
@[reducible] def k0_t37_loop : Scf.Loop 32 :=
  let c0_i32_175 : BitVec 32 := 0#32
  let c16_i32_176 : BitVec 32 := 16#32
  let v80 : BitVec 32 := Scalar.addi c0_i32_175 c16_i32_176
  let c1_i32_177 : BitVec 32 := 1#32
  ⟨c0_i32_175, v80, c1_i32_177⟩
def k0_off39 (k0_t37 : Fin k0_t37_loop.trips) : Fin 1 → Nat :=
  let c3072_i32 : BitVec 32 := 3072#32
  let c0_i32_175 : BitVec 32 := 0#32
  let c1_i32_177 : BitVec 32 := 1#32
  let arg22 : BitVec 32 := Scf.iv c0_i32_175 c1_i32_177 k0_t37
  let c16_i32_290 : BitVec 32 := 16#32
  let v130 : BitVec 32 := Scalar.muli arg22 c16_i32_290
  let v131 : BitVec 32 := Scalar.addi c3072_i32 v130
  let v132 : Index := Scalar.indexCast v131
  ![v132.toNat]

def k0_chk25 (v137 : IVec S16 32) : Prop :=
  (∀ a x, ((![v137] : Fin 1 → IVec S16 32) a x).toNat < S256.size a)
theorem k0_idx39_inb : ∀ (v137 : IVec S16 32) (k0_hw25 : k0_chk25 v137), ∀ a x, ((![v137] : Fin 1 → IVec S16 32) a x).toNat < S256.size a := fun v137 k0_hw25 => k0_hw25
@[reducible] def k0_t38_loop : Scf.Loop 32 :=
  let c0_i32_180 : BitVec 32 := 0#32
  let c16_i32_181 : BitVec 32 := 16#32
  let v82 : BitVec 32 := Scalar.addi c0_i32_180 c16_i32_181
  let c1_i32_182 : BitVec 32 := 1#32
  ⟨c0_i32_180, v82, c1_i32_182⟩
def k0_off40 (k0_t38 : Fin k0_t38_loop.trips) : Fin 1 → Nat :=
  let c0_i32_180 : BitVec 32 := 0#32
  let c1_i32_182 : BitVec 32 := 1#32
  let arg22 : BitVec 32 := Scf.iv c0_i32_180 c1_i32_182 k0_t38
  let c16_i32_290 : BitVec 32 := 16#32
  let v130 : BitVec 32 := Scalar.muli arg22 c16_i32_290
  let v131 : Index := Scalar.indexCast v130
  ![v131.toNat]
@[reducible] def k0_t39_loop : Scf.Loop 32 :=
  let c0_i32_185 : BitVec 32 := 0#32
  let c16_i32_186 : BitVec 32 := 16#32
  let v84 : BitVec 32 := Scalar.addi c0_i32_185 c16_i32_186
  let c1_i32_187 : BitVec 32 := 1#32
  ⟨c0_i32_185, v84, c1_i32_187⟩
def k0_off41 (k0_t39 : Fin k0_t39_loop.trips) : Fin 1 → Nat :=
  let c3072_i32 : BitVec 32 := 3072#32
  let c0_i32_185 : BitVec 32 := 0#32
  let c1_i32_187 : BitVec 32 := 1#32
  let arg22 : BitVec 32 := Scf.iv c0_i32_185 c1_i32_187 k0_t39
  let c16_i32_290 : BitVec 32 := 16#32
  let v130 : BitVec 32 := Scalar.muli arg22 c16_i32_290
  let v131 : BitVec 32 := Scalar.addi c3072_i32 v130
  let v132 : Index := Scalar.indexCast v131
  ![v132.toNat]

def k0_chk27 (v145 : IVec S16 32) : Prop :=
  (∀ a x, ((![v145] : Fin 1 → IVec S16 32) a x).toNat < S2048.size a) ∧
  (∀ a x, ((![v145] : Fin 1 → IVec S16 32) a x).toNat < S2048.size a)
theorem k0_idx41_inb : ∀ (v145 : IVec S16 32) (k0_hw27 : k0_chk27 v145), ∀ a x, ((![v145] : Fin 1 → IVec S16 32) a x).toNat < S2048.size a := fun v145 k0_hw27 => k0_hw27.1
theorem k0_idx42_inb : ∀ (v145 : IVec S16 32) (k0_hw27 : k0_chk27 v145), ∀ a x, ((![v145] : Fin 1 → IVec S16 32) a x).toNat < S2048.size a := fun v145 k0_hw27 => k0_hw27.2

def k0_chk26 (v140 : IVec S16 32) : Prop :=
  (∀ a x, ((![v140] : Fin 1 → IVec S16 32) a x).toNat < S256.size a) ∧
  (∀ a x, ((![v140] : Fin 1 → IVec S16 32) a x).toNat < S256.size a)
theorem k0_idx40_inb : ∀ (v140 : IVec S16 32) (k0_hw26 : k0_chk26 v140), ∀ a x, ((![v140] : Fin 1 → IVec S16 32) a x).toNat < S256.size a := fun v140 k0_hw26 => k0_hw26.1
theorem k0_idx43_inb : ∀ (v140 : IVec S16 32) (k0_hw26 : k0_chk26 v140), ∀ a x, ((![v140] : Fin 1 → IVec S16 32) a x).toNat < S256.size a := fun v140 k0_hw26 => k0_hw26.2
@[reducible] def k0_t40_loop : Scf.Loop 32 :=
  let c0_i32_190 : BitVec 32 := 0#32
  let c16_i32_191 : BitVec 32 := 16#32
  let v86 : BitVec 32 := Scalar.addi c0_i32_190 c16_i32_191
  let c1_i32_192 : BitVec 32 := 1#32
  ⟨c0_i32_190, v86, c1_i32_192⟩
def k0_off42 (k0_t40 : Fin k0_t40_loop.trips) : Fin 1 → Nat :=
  let c0_i32_190 : BitVec 32 := 0#32
  let c1_i32_192 : BitVec 32 := 1#32
  let arg22 : BitVec 32 := Scf.iv c0_i32_190 c1_i32_192 k0_t40
  let c16_i32_291 : BitVec 32 := 16#32
  let v131 : BitVec 32 := Scalar.muli arg22 c16_i32_291
  let v132 : Index := Scalar.indexCast v131
  ![v132.toNat]
@[reducible] def k0_t41_loop : Scf.Loop 32 :=
  let c0_i32_195 : BitVec 32 := 0#32
  let c16_i32_196 : BitVec 32 := 16#32
  let v88 : BitVec 32 := Scalar.addi c0_i32_195 c16_i32_196
  let c1_i32_197 : BitVec 32 := 1#32
  ⟨c0_i32_195, v88, c1_i32_197⟩
def k0_off43 (k0_t41 : Fin k0_t41_loop.trips) : Fin 1 → Nat :=
  let c0_i32_195 : BitVec 32 := 0#32
  let c1_i32_197 : BitVec 32 := 1#32
  let arg22 : BitVec 32 := Scf.iv c0_i32_195 c1_i32_197 k0_t41
  let c16_i32_290 : BitVec 32 := 16#32
  let v130 : BitVec 32 := Scalar.muli arg22 c16_i32_290
  let v131 : Index := Scalar.indexCast v130
  ![v131.toNat]

def k0_chk28 (v136 : IVec S16 32) : Prop :=
  (∀ a x, ((![v136] : Fin 1 → IVec S16 32) a x).toNat < S256.size a)
theorem k0_idx44_inb : ∀ (v136 : IVec S16 32) (k0_hw28 : k0_chk28 v136), ∀ a x, ((![v136] : Fin 1 → IVec S16 32) a x).toNat < S256.size a := fun v136 k0_hw28 => k0_hw28
@[reducible] def k0_t42_loop : Scf.Loop 32 :=
  let c0_i32_200 : BitVec 32 := 0#32
  let c16_i32_201 : BitVec 32 := 16#32
  let v90 : BitVec 32 := Scalar.addi c0_i32_200 c16_i32_201
  let c1_i32_202 : BitVec 32 := 1#32
  ⟨c0_i32_200, v90, c1_i32_202⟩
def k0_off44 (k0_t42 : Fin k0_t42_loop.trips) : Fin 1 → Nat :=
  let c0_i32_200 : BitVec 32 := 0#32
  let c1_i32_202 : BitVec 32 := 1#32
  let arg22 : BitVec 32 := Scf.iv c0_i32_200 c1_i32_202 k0_t42
  let c16_i32_290 : BitVec 32 := 16#32
  let v130 : BitVec 32 := Scalar.muli arg22 c16_i32_290
  let v131 : Index := Scalar.indexCast v130
  ![v131.toNat]
@[reducible] def k0_t43_loop : Scf.Loop 32 :=
  let c0_i32_205 : BitVec 32 := 0#32
  let c16_i32_206 : BitVec 32 := 16#32
  let v92 : BitVec 32 := Scalar.addi c0_i32_205 c16_i32_206
  let c1_i32_207 : BitVec 32 := 1#32
  ⟨c0_i32_205, v92, c1_i32_207⟩
def k0_off45 (k0_t43 : Fin k0_t43_loop.trips) : Fin 1 → Nat :=
  let c0_i32_205 : BitVec 32 := 0#32
  let c1_i32_207 : BitVec 32 := 1#32
  let arg22 : BitVec 32 := Scf.iv c0_i32_205 c1_i32_207 k0_t43
  let c16_i32_290 : BitVec 32 := 16#32
  let v130 : BitVec 32 := Scalar.muli arg22 c16_i32_290
  let v131 : Index := Scalar.indexCast v130
  ![v131.toNat]

def k0_chk30 (v144 : IVec S16 32) : Prop :=
  (∀ a x, ((![v144] : Fin 1 → IVec S16 32) a x).toNat < S2048.size a) ∧
  (∀ a x, ((![v144] : Fin 1 → IVec S16 32) a x).toNat < S2048.size a)
theorem k0_idx46_inb : ∀ (v144 : IVec S16 32) (k0_hw30 : k0_chk30 v144), ∀ a x, ((![v144] : Fin 1 → IVec S16 32) a x).toNat < S2048.size a := fun v144 k0_hw30 => k0_hw30.1
theorem k0_idx47_inb : ∀ (v144 : IVec S16 32) (k0_hw30 : k0_chk30 v144), ∀ a x, ((![v144] : Fin 1 → IVec S16 32) a x).toNat < S2048.size a := fun v144 k0_hw30 => k0_hw30.2

def k0_chk29 (v139 : IVec S16 32) : Prop :=
  (∀ a x, ((![v139] : Fin 1 → IVec S16 32) a x).toNat < S256.size a) ∧
  (∀ a x, ((![v139] : Fin 1 → IVec S16 32) a x).toNat < S256.size a)
theorem k0_idx45_inb : ∀ (v139 : IVec S16 32) (k0_hw29 : k0_chk29 v139), ∀ a x, ((![v139] : Fin 1 → IVec S16 32) a x).toNat < S256.size a := fun v139 k0_hw29 => k0_hw29.1
theorem k0_idx48_inb : ∀ (v139 : IVec S16 32) (k0_hw29 : k0_chk29 v139), ∀ a x, ((![v139] : Fin 1 → IVec S16 32) a x).toNat < S256.size a := fun v139 k0_hw29 => k0_hw29.2
@[reducible] def k0_t44_loop : Scf.Loop 32 :=
  let c0_i32_210 : BitVec 32 := 0#32
  let c16_i32_211 : BitVec 32 := 16#32
  let v94 : BitVec 32 := Scalar.addi c0_i32_210 c16_i32_211
  let c1_i32_212 : BitVec 32 := 1#32
  ⟨c0_i32_210, v94, c1_i32_212⟩
def k0_off46 (k0_t44 : Fin k0_t44_loop.trips) : Fin 1 → Nat :=
  let c0_i32_210 : BitVec 32 := 0#32
  let c1_i32_212 : BitVec 32 := 1#32
  let arg22 : BitVec 32 := Scf.iv c0_i32_210 c1_i32_212 k0_t44
  let c16_i32_291 : BitVec 32 := 16#32
  let v131 : BitVec 32 := Scalar.muli arg22 c16_i32_291
  let v132 : Index := Scalar.indexCast v131
  ![v132.toNat]
@[reducible] def k0_t45_loop : Scf.Loop 32 :=
  let c0_i32_215 : BitVec 32 := 0#32
  let c16_i32_216 : BitVec 32 := 16#32
  let v96 : BitVec 32 := Scalar.addi c0_i32_215 c16_i32_216
  let c1_i32_217 : BitVec 32 := 1#32
  ⟨c0_i32_215, v96, c1_i32_217⟩
def k0_off47 (k0_t45 : Fin k0_t45_loop.trips) : Fin 1 → Nat :=
  let c0_i32_215 : BitVec 32 := 0#32
  let c1_i32_217 : BitVec 32 := 1#32
  let arg22 : BitVec 32 := Scf.iv c0_i32_215 c1_i32_217 k0_t45
  let c16_i32_290 : BitVec 32 := 16#32
  let v130 : BitVec 32 := Scalar.muli arg22 c16_i32_290
  let v131 : Index := Scalar.indexCast v130
  ![v131.toNat]

def k0_chk31 (v136 : IVec S16 32) : Prop :=
  (∀ a x, ((![v136] : Fin 1 → IVec S16 32) a x).toNat < S256.size a)
theorem k0_idx49_inb : ∀ (v136 : IVec S16 32) (k0_hw31 : k0_chk31 v136), ∀ a x, ((![v136] : Fin 1 → IVec S16 32) a x).toNat < S256.size a := fun v136 k0_hw31 => k0_hw31
@[reducible] def k0_t46_loop : Scf.Loop 32 :=
  let c0_i32_220 : BitVec 32 := 0#32
  let c16_i32_221 : BitVec 32 := 16#32
  let v98 : BitVec 32 := Scalar.addi c0_i32_220 c16_i32_221
  let c1_i32_222 : BitVec 32 := 1#32
  ⟨c0_i32_220, v98, c1_i32_222⟩
def k0_off48 (k0_t46 : Fin k0_t46_loop.trips) : Fin 1 → Nat :=
  let c0_i32_220 : BitVec 32 := 0#32
  let c1_i32_222 : BitVec 32 := 1#32
  let arg22 : BitVec 32 := Scf.iv c0_i32_220 c1_i32_222 k0_t46
  let c16_i32_290 : BitVec 32 := 16#32
  let v130 : BitVec 32 := Scalar.muli arg22 c16_i32_290
  let v131 : Index := Scalar.indexCast v130
  ![v131.toNat]
@[reducible] def k0_t47_loop : Scf.Loop 32 :=
  let c0_i32_225 : BitVec 32 := 0#32
  let c16_i32_226 : BitVec 32 := 16#32
  let v100 : BitVec 32 := Scalar.addi c0_i32_225 c16_i32_226
  let c1_i32_227 : BitVec 32 := 1#32
  ⟨c0_i32_225, v100, c1_i32_227⟩
def k0_off49 (k0_t47 : Fin k0_t47_loop.trips) : Fin 1 → Nat :=
  let c0_i32_225 : BitVec 32 := 0#32
  let c1_i32_227 : BitVec 32 := 1#32
  let arg22 : BitVec 32 := Scf.iv c0_i32_225 c1_i32_227 k0_t47
  let c16_i32_290 : BitVec 32 := 16#32
  let v130 : BitVec 32 := Scalar.muli arg22 c16_i32_290
  let v131 : Index := Scalar.indexCast v130
  ![v131.toNat]

def k0_chk33 (v144 : IVec S16 32) : Prop :=
  (∀ a x, ((![v144] : Fin 1 → IVec S16 32) a x).toNat < S2048.size a) ∧
  (∀ a x, ((![v144] : Fin 1 → IVec S16 32) a x).toNat < S2048.size a)
theorem k0_idx51_inb : ∀ (v144 : IVec S16 32) (k0_hw33 : k0_chk33 v144), ∀ a x, ((![v144] : Fin 1 → IVec S16 32) a x).toNat < S2048.size a := fun v144 k0_hw33 => k0_hw33.1
theorem k0_idx52_inb : ∀ (v144 : IVec S16 32) (k0_hw33 : k0_chk33 v144), ∀ a x, ((![v144] : Fin 1 → IVec S16 32) a x).toNat < S2048.size a := fun v144 k0_hw33 => k0_hw33.2

def k0_chk32 (v139 : IVec S16 32) : Prop :=
  (∀ a x, ((![v139] : Fin 1 → IVec S16 32) a x).toNat < S256.size a) ∧
  (∀ a x, ((![v139] : Fin 1 → IVec S16 32) a x).toNat < S256.size a)
theorem k0_idx50_inb : ∀ (v139 : IVec S16 32) (k0_hw32 : k0_chk32 v139), ∀ a x, ((![v139] : Fin 1 → IVec S16 32) a x).toNat < S256.size a := fun v139 k0_hw32 => k0_hw32.1
theorem k0_idx53_inb : ∀ (v139 : IVec S16 32) (k0_hw32 : k0_chk32 v139), ∀ a x, ((![v139] : Fin 1 → IVec S16 32) a x).toNat < S256.size a := fun v139 k0_hw32 => k0_hw32.2
@[reducible] def k0_t48_loop : Scf.Loop 32 :=
  let c0_i32_230 : BitVec 32 := 0#32
  let c16_i32_231 : BitVec 32 := 16#32
  let v102 : BitVec 32 := Scalar.addi c0_i32_230 c16_i32_231
  let c1_i32_232 : BitVec 32 := 1#32
  ⟨c0_i32_230, v102, c1_i32_232⟩
def k0_off50 (k0_t48 : Fin k0_t48_loop.trips) : Fin 1 → Nat :=
  let c0_i32_230 : BitVec 32 := 0#32
  let c1_i32_232 : BitVec 32 := 1#32
  let arg22 : BitVec 32 := Scf.iv c0_i32_230 c1_i32_232 k0_t48
  let c16_i32_291 : BitVec 32 := 16#32
  let v131 : BitVec 32 := Scalar.muli arg22 c16_i32_291
  let v132 : Index := Scalar.indexCast v131
  ![v132.toNat]
@[reducible] def k0_t49_loop : Scf.Loop 32 :=
  let c0_i32_235 : BitVec 32 := 0#32
  let c16_i32_236 : BitVec 32 := 16#32
  let v104 : BitVec 32 := Scalar.addi c0_i32_235 c16_i32_236
  let c1_i32_237 : BitVec 32 := 1#32
  ⟨c0_i32_235, v104, c1_i32_237⟩
def k0_off51 (k0_t49 : Fin k0_t49_loop.trips) : Fin 1 → Nat :=
  let c0_i32_235 : BitVec 32 := 0#32
  let c1_i32_237 : BitVec 32 := 1#32
  let arg22 : BitVec 32 := Scf.iv c0_i32_235 c1_i32_237 k0_t49
  let c16_i32_290 : BitVec 32 := 16#32
  let v130 : BitVec 32 := Scalar.muli arg22 c16_i32_290
  let v131 : Index := Scalar.indexCast v130
  ![v131.toNat]

def k0_chk34 (v136 : IVec S16 32) : Prop :=
  (∀ a x, ((![v136] : Fin 1 → IVec S16 32) a x).toNat < S256.size a)
theorem k0_idx54_inb : ∀ (v136 : IVec S16 32) (k0_hw34 : k0_chk34 v136), ∀ a x, ((![v136] : Fin 1 → IVec S16 32) a x).toNat < S256.size a := fun v136 k0_hw34 => k0_hw34
@[reducible] def k0_t50_loop : Scf.Loop 32 :=
  let c0_i32_240 : BitVec 32 := 0#32
  let c16_i32_241 : BitVec 32 := 16#32
  let v106 : BitVec 32 := Scalar.addi c0_i32_240 c16_i32_241
  let c1_i32_242 : BitVec 32 := 1#32
  ⟨c0_i32_240, v106, c1_i32_242⟩
def k0_off52 (k0_t50 : Fin k0_t50_loop.trips) : Fin 1 → Nat :=
  let c0_i32_240 : BitVec 32 := 0#32
  let c1_i32_242 : BitVec 32 := 1#32
  let arg22 : BitVec 32 := Scf.iv c0_i32_240 c1_i32_242 k0_t50
  let c16_i32_290 : BitVec 32 := 16#32
  let v130 : BitVec 32 := Scalar.muli arg22 c16_i32_290
  let v131 : Index := Scalar.indexCast v130
  ![v131.toNat]
@[reducible] def k0_t51_loop : Scf.Loop 32 :=
  let c0_i32_245 : BitVec 32 := 0#32
  let c16_i32_246 : BitVec 32 := 16#32
  let v108 : BitVec 32 := Scalar.addi c0_i32_245 c16_i32_246
  let c1_i32_247 : BitVec 32 := 1#32
  ⟨c0_i32_245, v108, c1_i32_247⟩
def k0_off53 (k0_t51 : Fin k0_t51_loop.trips) : Fin 1 → Nat :=
  let c0_i32_245 : BitVec 32 := 0#32
  let c1_i32_247 : BitVec 32 := 1#32
  let arg22 : BitVec 32 := Scf.iv c0_i32_245 c1_i32_247 k0_t51
  let c16_i32_290 : BitVec 32 := 16#32
  let v130 : BitVec 32 := Scalar.muli arg22 c16_i32_290
  let v131 : Index := Scalar.indexCast v130
  ![v131.toNat]

def k0_chk36 (v144 : IVec S16 32) : Prop :=
  (∀ a x, ((![v144] : Fin 1 → IVec S16 32) a x).toNat < S2048.size a)
theorem k0_idx56_inb : ∀ (v144 : IVec S16 32) (k0_hw36 : k0_chk36 v144), ∀ a x, ((![v144] : Fin 1 → IVec S16 32) a x).toNat < S2048.size a := fun v144 k0_hw36 => k0_hw36

def k0_chk35 (v139 : IVec S16 32) : Prop :=
  (∀ a x, ((![v139] : Fin 1 → IVec S16 32) a x).toNat < S256.size a) ∧
  (∀ a x, ((![v139] : Fin 1 → IVec S16 32) a x).toNat < S256.size a)
theorem k0_idx55_inb : ∀ (v139 : IVec S16 32) (k0_hw35 : k0_chk35 v139), ∀ a x, ((![v139] : Fin 1 → IVec S16 32) a x).toNat < S256.size a := fun v139 k0_hw35 => k0_hw35.1
theorem k0_idx57_inb : ∀ (v139 : IVec S16 32) (k0_hw35 : k0_chk35 v139), ∀ a x, ((![v139] : Fin 1 → IVec S16 32) a x).toNat < S256.size a := fun v139 k0_hw35 => k0_hw35.2
@[reducible] def k0_t52_loop : Scf.Loop 32 :=
  let c0_i32_251 : BitVec 32 := 0#32
  let c8_i32 : BitVec 32 := 8#32
  let v111 : BitVec 32 := Scalar.addi c0_i32_251 c8_i32
  let c1_i32_252 : BitVec 32 := 1#32
  ⟨c0_i32_251, v111, c1_i32_252⟩
def k0_off54 (k0_t52 : Fin k0_t52_loop.trips) : Fin 1 → Nat :=
  let c0_i32_251 : BitVec 32 := 0#32
  let c1_i32_252 : BitVec 32 := 1#32
  let arg22 : BitVec 32 := Scf.iv c0_i32_251 c1_i32_252 k0_t52
  let c16_i32_290 : BitVec 32 := 16#32
  let v130 : BitVec 32 := Scalar.muli arg22 c16_i32_290
  let v131 : Index := Scalar.indexCast v130
  ![v131.toNat]
def k0_off55 (k0_t52 : Fin k0_t52_loop.trips) : Fin 1 → Nat :=
  let c0_i32_293 : BitVec 32 := 0#32
  let c0_i32_251 : BitVec 32 := 0#32
  let c1_i32_252 : BitVec 32 := 1#32
  let arg22 : BitVec 32 := Scf.iv c0_i32_251 c1_i32_252 k0_t52
  let c16_i32_292 : BitVec 32 := 16#32
  let v136 : BitVec 32 := Scalar.muli arg22 c16_i32_292
  let v137 : BitVec 32 := Scalar.addi c0_i32_293 v136
  let v138 : Index := Scalar.indexCast v137
  ![v138.toNat]
@[reducible] def k0_t53_loop : Scf.Loop 32 :=
  let c0_i32_255 : BitVec 32 := 0#32
  let c8_i32_256 : BitVec 32 := 8#32
  let v113 : BitVec 32 := Scalar.addi c0_i32_255 c8_i32_256
  let c1_i32_257 : BitVec 32 := 1#32
  ⟨c0_i32_255, v113, c1_i32_257⟩
def k0_off56 (k0_t53 : Fin k0_t53_loop.trips) : Fin 1 → Nat :=
  let c0_i32_255 : BitVec 32 := 0#32
  let c1_i32_257 : BitVec 32 := 1#32
  let arg22 : BitVec 32 := Scf.iv c0_i32_255 c1_i32_257 k0_t53
  let c16_i32_290 : BitVec 32 := 16#32
  let v130 : BitVec 32 := Scalar.muli arg22 c16_i32_290
  let v131 : Index := Scalar.indexCast v130
  ![v131.toNat]
def k0_off57 (k0_t53 : Fin k0_t53_loop.trips) : Fin 1 → Nat :=
  let c128_i32_292 : BitVec 32 := 128#32
  let c0_i32_255 : BitVec 32 := 0#32
  let c1_i32_257 : BitVec 32 := 1#32
  let arg22 : BitVec 32 := Scf.iv c0_i32_255 c1_i32_257 k0_t53
  let c16_i32_291 : BitVec 32 := 16#32
  let v136 : BitVec 32 := Scalar.muli arg22 c16_i32_291
  let v137 : BitVec 32 := Scalar.addi c128_i32_292 v136
  let v138 : Index := Scalar.indexCast v137
  ![v138.toNat]
@[reducible] def k0_t54_loop : Scf.Loop 32 :=
  let c0_i32_260 : BitVec 32 := 0#32
  let c8_i32_261 : BitVec 32 := 8#32
  let v115 : BitVec 32 := Scalar.addi c0_i32_260 c8_i32_261
  let c1_i32_262 : BitVec 32 := 1#32
  ⟨c0_i32_260, v115, c1_i32_262⟩
def k0_off58 (k0_t54 : Fin k0_t54_loop.trips) : Fin 1 → Nat :=
  let c0_i32_260 : BitVec 32 := 0#32
  let c1_i32_262 : BitVec 32 := 1#32
  let arg22 : BitVec 32 := Scf.iv c0_i32_260 c1_i32_262 k0_t54
  let c16_i32_290 : BitVec 32 := 16#32
  let v130 : BitVec 32 := Scalar.muli arg22 c16_i32_290
  let v131 : Index := Scalar.indexCast v130
  ![v131.toNat]
def k0_off59 (k0_t54 : Fin k0_t54_loop.trips) : Fin 1 → Nat :=
  let c256_i32 : BitVec 32 := 256#32
  let c0_i32_260 : BitVec 32 := 0#32
  let c1_i32_262 : BitVec 32 := 1#32
  let arg22 : BitVec 32 := Scf.iv c0_i32_260 c1_i32_262 k0_t54
  let c16_i32_292 : BitVec 32 := 16#32
  let v136 : BitVec 32 := Scalar.muli arg22 c16_i32_292
  let v137 : BitVec 32 := Scalar.addi c256_i32 v136
  let v138 : Index := Scalar.indexCast v137
  ![v138.toNat]
@[reducible] def k0_t55_loop : Scf.Loop 32 :=
  let c0_i32_265 : BitVec 32 := 0#32
  let c8_i32_266 : BitVec 32 := 8#32
  let v117 : BitVec 32 := Scalar.addi c0_i32_265 c8_i32_266
  let c1_i32_267 : BitVec 32 := 1#32
  ⟨c0_i32_265, v117, c1_i32_267⟩
def k0_off60 (k0_t55 : Fin k0_t55_loop.trips) : Fin 1 → Nat :=
  let c0_i32_265 : BitVec 32 := 0#32
  let c1_i32_267 : BitVec 32 := 1#32
  let arg22 : BitVec 32 := Scf.iv c0_i32_265 c1_i32_267 k0_t55
  let c16_i32_290 : BitVec 32 := 16#32
  let v130 : BitVec 32 := Scalar.muli arg22 c16_i32_290
  let v131 : Index := Scalar.indexCast v130
  ![v131.toNat]
def k0_off61 (k0_t55 : Fin k0_t55_loop.trips) : Fin 1 → Nat :=
  let c384_i32 : BitVec 32 := 384#32
  let c0_i32_265 : BitVec 32 := 0#32
  let c1_i32_267 : BitVec 32 := 1#32
  let arg22 : BitVec 32 := Scf.iv c0_i32_265 c1_i32_267 k0_t55
  let c16_i32_291 : BitVec 32 := 16#32
  let v136 : BitVec 32 := Scalar.muli arg22 c16_i32_291
  let v137 : BitVec 32 := Scalar.addi c384_i32 v136
  let v138 : Index := Scalar.indexCast v137
  ![v138.toNat]
@[reducible] def k0_t56_loop : Scf.Loop 32 :=
  let c0_i32_270 : BitVec 32 := 0#32
  let c4_i32_271 : BitVec 32 := 4#32
  let v120 : BitVec 32 := Scalar.addi c0_i32_270 c4_i32_271
  let c1_i32_272 : BitVec 32 := 1#32
  ⟨c0_i32_270, v120, c1_i32_272⟩
def k0_off62 (k0_t56 : Fin k0_t56_loop.trips) : Fin 1 → Nat :=
  let c0_i32_270 : BitVec 32 := 0#32
  let c1_i32_272 : BitVec 32 := 1#32
  let arg22 : BitVec 32 := Scf.iv c0_i32_270 c1_i32_272 k0_t56
  let c128_i32_290 : BitVec 32 := 128#32
  let v130 : BitVec 32 := Scalar.muli arg22 c128_i32_290
  ![v130.toNat]
def k0_off63 (i : grid0.Coords) (k0_t1 : Fin k0_t1_loop.trips) (k0_t56 : Fin k0_t56_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_2 : BitVec 32 := 4#32
  let v5 : BitVec 32 := Scalar.muli v1 c4_i32_2
  let c0_i32_0 : BitVec 32 := 0#32
  let c1_i32 : BitVec 32 := 1#32
  let arg20 : BitVec 32 := Scf.iv c0_i32_0 c1_i32 k0_t1
  let v6 : BitVec 32 := Scalar.addi v5 arg20
  let c2304_i32 : BitVec 32 := 2304#32
  let v119 : BitVec 32 := Scalar.muli v6 c2304_i32
  let c0_i32_270 : BitVec 32 := 0#32
  let c1_i32_272 : BitVec 32 := 1#32
  let arg22 : BitVec 32 := Scf.iv c0_i32_270 c1_i32_272 k0_t56
  let c128_i32_301 : BitVec 32 := 128#32
  let v139 : BitVec 32 := Scalar.muli arg22 c128_i32_301
  let v140 : BitVec 32 := Scalar.addi v119 v139
  let c0_i32_306_r1 : BitVec 32 := 0#32
  ![v140.toNat, 0]
@[reducible] def k0_t57_loop : Scf.Loop 32 :=
  let c0_i32_275 : BitVec 32 := 0#32
  let c8_i32_276 : BitVec 32 := 8#32
  let v123 : BitVec 32 := Scalar.addi c0_i32_275 c8_i32_276
  let c1_i32_277 : BitVec 32 := 1#32
  ⟨c0_i32_275, v123, c1_i32_277⟩
def k0_off64 (k0_t57 : Fin k0_t57_loop.trips) : Fin 1 → Nat :=
  let c0_i32_275 : BitVec 32 := 0#32
  let c1_i32_277 : BitVec 32 := 1#32
  let arg22 : BitVec 32 := Scf.iv c0_i32_275 c1_i32_277 k0_t57
  let c128_i32_290 : BitVec 32 := 128#32
  let v130 : BitVec 32 := Scalar.muli arg22 c128_i32_290
  ![v130.toNat]
def k0_off65 (i : grid0.Coords) (k0_t1 : Fin k0_t1_loop.trips) (k0_t57 : Fin k0_t57_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_2 : BitVec 32 := 4#32
  let v5 : BitVec 32 := Scalar.muli v1 c4_i32_2
  let c0_i32_0 : BitVec 32 := 0#32
  let c1_i32 : BitVec 32 := 1#32
  let arg20 : BitVec 32 := Scf.iv c0_i32_0 c1_i32 k0_t1
  let v6 : BitVec 32 := Scalar.addi v5 arg20
  let c2304_i32 : BitVec 32 := 2304#32
  let v119 : BitVec 32 := Scalar.muli v6 c2304_i32
  let c512_i32 : BitVec 32 := 512#32
  let v122 : BitVec 32 := Scalar.addi v119 c512_i32
  let c0_i32_275 : BitVec 32 := 0#32
  let c1_i32_277 : BitVec 32 := 1#32
  let arg22 : BitVec 32 := Scf.iv c0_i32_275 c1_i32_277 k0_t57
  let c128_i32_301 : BitVec 32 := 128#32
  let v139 : BitVec 32 := Scalar.muli arg22 c128_i32_301
  let v140 : BitVec 32 := Scalar.addi v122 v139
  let c0_i32_306_r2 : BitVec 32 := 0#32
  ![v140.toNat, 0]
@[reducible] def k0_t58_loop : Scf.Loop 32 :=
  let c0_i32_280 : BitVec 32 := 0#32
  let c4_i32_281 : BitVec 32 := 4#32
  let v126 : BitVec 32 := Scalar.addi c0_i32_280 c4_i32_281
  let c1_i32_282 : BitVec 32 := 1#32
  ⟨c0_i32_280, v126, c1_i32_282⟩
def k0_off66 (k0_t58 : Fin k0_t58_loop.trips) : Fin 1 → Nat :=
  let c0_i32_280 : BitVec 32 := 0#32
  let c1_i32_282 : BitVec 32 := 1#32
  let arg22 : BitVec 32 := Scf.iv c0_i32_280 c1_i32_282 k0_t58
  let c128_i32_290 : BitVec 32 := 128#32
  let v130 : BitVec 32 := Scalar.muli arg22 c128_i32_290
  ![v130.toNat]
def k0_off67 (i : grid0.Coords) (k0_t1 : Fin k0_t1_loop.trips) (k0_t58 : Fin k0_t58_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_2 : BitVec 32 := 4#32
  let v5 : BitVec 32 := Scalar.muli v1 c4_i32_2
  let c0_i32_0 : BitVec 32 := 0#32
  let c1_i32 : BitVec 32 := 1#32
  let arg20 : BitVec 32 := Scf.iv c0_i32_0 c1_i32 k0_t1
  let v6 : BitVec 32 := Scalar.addi v5 arg20
  let c2304_i32 : BitVec 32 := 2304#32
  let v119 : BitVec 32 := Scalar.muli v6 c2304_i32
  let c1792_i32 : BitVec 32 := 1792#32
  let v125 : BitVec 32 := Scalar.addi v119 c1792_i32
  let c0_i32_280 : BitVec 32 := 0#32
  let c1_i32_282 : BitVec 32 := 1#32
  let arg22 : BitVec 32 := Scf.iv c0_i32_280 c1_i32_282 k0_t58
  let c128_i32_301 : BitVec 32 := 128#32
  let v139 : BitVec 32 := Scalar.muli arg22 c128_i32_301
  let v140 : BitVec 32 := Scalar.addi v125 v139
  let c0_i32_306_r3 : BitVec 32 := 0#32
  ![v140.toNat, 0]
@[reducible] def k0_t59_loop : Scf.Loop 32 :=
  let c0_i32_285 : BitVec 32 := 0#32
  let c2_i32_286 : BitVec 32 := 2#32
  let v128 : BitVec 32 := Scalar.addi c0_i32_285 c2_i32_286
  let c1_i32_287 : BitVec 32 := 1#32
  ⟨c0_i32_285, v128, c1_i32_287⟩
def k0_off68 (i : grid0.Coords) (k0_t1 : Fin k0_t1_loop.trips) (k0_t59 : Fin k0_t59_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_2 : BitVec 32 := 4#32
  let v5 : BitVec 32 := Scalar.muli v1 c4_i32_2
  let c0_i32_0 : BitVec 32 := 0#32
  let c1_i32 : BitVec 32 := 1#32
  let arg20 : BitVec 32 := Scf.iv c0_i32_0 c1_i32 k0_t1
  let v6 : BitVec 32 := Scalar.addi v5 arg20
  let c256_i32 : BitVec 32 := 256#32
  let v130 : BitVec 32 := Scalar.muli v6 c256_i32
  let c0_i32_285 : BitVec 32 := 0#32
  let c1_i32_287 : BitVec 32 := 1#32
  let arg22 : BitVec 32 := Scf.iv c0_i32_285 c1_i32_287 k0_t59
  let c128_i32_290 : BitVec 32 := 128#32
  let v131 : BitVec 32 := Scalar.muli arg22 c128_i32_290
  let v132 : BitVec 32 := Scalar.addi v130 v131
  let c0_i32_297_r4 : BitVec 32 := 0#32
  ![v132.toNat, 0]
def k0_off69 (i : grid0.Coords) (k0_t1 : Fin k0_t1_loop.trips) (k0_t59 : Fin k0_t59_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_2 : BitVec 32 := 4#32
  let v5 : BitVec 32 := Scalar.muli v1 c4_i32_2
  let c0_i32_0 : BitVec 32 := 0#32
  let c1_i32 : BitVec 32 := 1#32
  let arg20 : BitVec 32 := Scf.iv c0_i32_0 c1_i32 k0_t1
  let v6 : BitVec 32 := Scalar.addi v5 arg20
  let c2304_i32 : BitVec 32 := 2304#32
  let v119 : BitVec 32 := Scalar.muli v6 c2304_i32
  let c1536_i32 : BitVec 32 := 1536#32
  let v133 : BitVec 32 := Scalar.addi v119 c1536_i32
  let c0_i32_285 : BitVec 32 := 0#32
  let c1_i32_287 : BitVec 32 := 1#32
  let arg22 : BitVec 32 := Scf.iv c0_i32_285 c1_i32_287 k0_t59
  let c128_i32_292 : BitVec 32 := 128#32
  let v134 : BitVec 32 := Scalar.muli arg22 c128_i32_292
  let v135 : BitVec 32 := Scalar.addi v133 v134
  let c0_i32_297_r5 : BitVec 32 := 0#32
  ![v135.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S425984 : Shape := ⟨1, ![425984]⟩
abbrev S131072x128 : Shape := ⟨2, ![131072, 128]⟩
abbrev S262144x128 : Shape := ⟨2, ![262144, 128]⟩
abbrev S32768x128 : Shape := ⟨2, ![32768, 128]⟩
abbrev S128x3328 : Shape := ⟨2, ![128, 3328]⟩
abbrev S128x2048 : Shape := ⟨2, ![128, 2048]⟩
abbrev S128x1024 : Shape := ⟨2, ![128, 1024]⟩
abbrev S128x512 : Shape := ⟨2, ![128, 512]⟩
abbrev S128x256 : Shape := ⟨2, ![128, 256]⟩
abbrev S128x128 : Shape := ⟨2, ![128, 128]⟩
abbrev S128x1024x128 : Shape := ⟨3, ![128, 1024, 128]⟩
abbrev S_ : Shape := ⟨0, ![]⟩
abbrev S128x128x1 : Shape := ⟨3, ![128, 128, 1]⟩
abbrev S128x128x128 : Shape := ⟨3, ![128, 128, 128]⟩
abbrev S128x2048x128 : Shape := ⟨3, ![128, 2048, 128]⟩
abbrev S128x1024x1 : Shape := ⟨3, ![128, 1024, 1]⟩
abbrev S128x256x128 : Shape := ⟨3, ![128, 256, 128]⟩
abbrev S128x512x1 : Shape := ⟨3, ![128, 512, 1]⟩
abbrev S128x512x128 : Shape := ⟨3, ![128, 512, 128]⟩
abbrev S128x2304x128 : Shape := ⟨3, ![128, 2304, 128]⟩
abbrev S294912x128 : Shape := ⟨2, ![294912, 128]⟩

abbrev nBuf : Space → Nat
  | .hbm => 94
  | .vmem => 0
  | .smem => 0
  | _ => 0

abbrev bufTy : (tb : Table) → Fin (tcTables nBuf tb) → BufTy
  | .hbm, ⟨0, _⟩ => ⟨S425984, .i32⟩
  | .hbm, ⟨1, _⟩ => ⟨S131072x128, .f32⟩
  | .hbm, ⟨2, _⟩ => ⟨S262144x128, .f32⟩
  | .hbm, ⟨3, _⟩ => ⟨S32768x128, .f32⟩
  | .hbm, ⟨4, _⟩ => ⟨S131072x128, .f32⟩
  | .hbm, ⟨5, _⟩ => ⟨S128x3328, .i32⟩
  | .hbm, ⟨6, _⟩ => ⟨S128x3328, .i32⟩
  | .hbm, ⟨7, _⟩ => ⟨S128x2048, .i32⟩
  | .hbm, ⟨8, _⟩ => ⟨S128x2048, .i32⟩
  | .hbm, ⟨9, _⟩ => ⟨S128x2048, .i32⟩
  | .hbm, ⟨10, _⟩ => ⟨S128x2048, .i32⟩
  | .hbm, ⟨11, _⟩ => ⟨S128x1024, .i32⟩
  | .hbm, ⟨12, _⟩ => ⟨S128x1024, .i32⟩
  | .hbm, ⟨13, _⟩ => ⟨S128x1024, .i32⟩
  | .hbm, ⟨14, _⟩ => ⟨S128x1024, .i32⟩
  | .hbm, ⟨15, _⟩ => ⟨S128x1024, .i32⟩
  | .hbm, ⟨16, _⟩ => ⟨S128x512, .i32⟩
  | .hbm, ⟨17, _⟩ => ⟨S128x256, .i32⟩
  | .hbm, ⟨18, _⟩ => ⟨S128x256, .i32⟩
  | .hbm, ⟨19, _⟩ => ⟨S128x256, .i32⟩
  | .hbm, ⟨20, _⟩ => ⟨S128x256, .i32⟩
  | .hbm, ⟨21, _⟩ => ⟨S128x128, .i32⟩
  | .hbm, ⟨22, _⟩ => ⟨S128x1024x128, .f32⟩
  | .hbm, ⟨23, _⟩ => ⟨S_, .i32⟩
  | .hbm, ⟨24, _⟩ => ⟨S128x128, .i32⟩
  | .hbm, ⟨25, _⟩ => ⟨S128x128, .i32⟩
  | .hbm, ⟨26, _⟩ => ⟨S128x128x1, .i32⟩
  | .hbm, ⟨27, _⟩ => ⟨S_, .i32⟩
  | .hbm, ⟨28, _⟩ => ⟨S128x128x1, .i32⟩
  | .hbm, ⟨29, _⟩ => ⟨S128x128x1, .i1⟩
  | .hbm, ⟨30, _⟩ => ⟨S_, .i32⟩
  | .hbm, ⟨31, _⟩ => ⟨S128x128x1, .i32⟩
  | .hbm, ⟨32, _⟩ => ⟨S128x128x1, .i32⟩
  | .hbm, ⟨33, _⟩ => ⟨S128x128x1, .i32⟩
  | .hbm, ⟨34, _⟩ => ⟨S128x128x128, .f32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S128x128x1, .i32⟩
  | .hbm, ⟨39, _⟩ => ⟨S_, .i32⟩
  | .hbm, ⟨40, _⟩ => ⟨S128x128x1, .i32⟩
  | .hbm, ⟨41, _⟩ => ⟨S128x128x1, .i1⟩
  | .hbm, ⟨42, _⟩ => ⟨S_, .i32⟩
  | .hbm, ⟨43, _⟩ => ⟨S128x128x1, .i32⟩
  | .hbm, ⟨44, _⟩ => ⟨S128x128x1, .i32⟩
  | .hbm, ⟨45, _⟩ => ⟨S128x128x1, .i32⟩
  | .hbm, ⟨46, _⟩ => ⟨S128x128x128, .f32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128x1, .i32⟩
  | .hbm, ⟨51, _⟩ => ⟨S_, .i32⟩
  | .hbm, ⟨52, _⟩ => ⟨S128x128x1, .i32⟩
  | .hbm, ⟨53, _⟩ => ⟨S128x128x1, .i1⟩
  | .hbm, ⟨54, _⟩ => ⟨S_, .i32⟩
  | .hbm, ⟨55, _⟩ => ⟨S128x128x1, .i32⟩
  | .hbm, ⟨56, _⟩ => ⟨S128x128x1, .i32⟩
  | .hbm, ⟨57, _⟩ => ⟨S128x128x1, .i32⟩
  | .hbm, ⟨58, _⟩ => ⟨S128x128x128, .f32⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128x1, .i32⟩
  | .hbm, ⟨63, _⟩ => ⟨S_, .i32⟩
  | .hbm, ⟨64, _⟩ => ⟨S128x128x1, .i32⟩
  | .hbm, ⟨65, _⟩ => ⟨S128x128x1, .i1⟩
  | .hbm, ⟨66, _⟩ => ⟨S_, .i32⟩
  | .hbm, ⟨67, _⟩ => ⟨S128x128x1, .i32⟩
  | .hbm, ⟨68, _⟩ => ⟨S128x128x1, .i32⟩
  | .hbm, ⟨69, _⟩ => ⟨S128x128x1, .i32⟩
  | .hbm, ⟨70, _⟩ => ⟨S128x128x128, .f32⟩
  | .hbm, ⟨71, _⟩ => ⟨S128x2048x128, .f32⟩
  | .hbm, ⟨72, _⟩ => ⟨S128x1024x1, .i32⟩
  | .hbm, ⟨73, _⟩ => ⟨S_, .i32⟩
  | .hbm, ⟨74, _⟩ => ⟨S128x1024x1, .i32⟩
  | .hbm, ⟨75, _⟩ => ⟨S128x1024x1, .i1⟩
  | .hbm, ⟨76, _⟩ => ⟨S_, .i32⟩
  | .hbm, ⟨77, _⟩ => ⟨S128x1024x1, .i32⟩
  | .hbm, ⟨78, _⟩ => ⟨S128x1024x1, .i32⟩
  | .hbm, ⟨79, _⟩ => ⟨S128x1024x1, .i32⟩
  | .hbm, ⟨80, _⟩ => ⟨S128x1024x128, .f32⟩
  | .hbm, ⟨81, _⟩ => ⟨S128x256x128, .f32⟩
  | .hbm, ⟨82, _⟩ => ⟨S128x1024x128, .f32⟩
  | .hbm, ⟨83, _⟩ => ⟨S128x512x1, .i32⟩
  | .hbm, ⟨84, _⟩ => ⟨S_, .i32⟩
  | .hbm, ⟨85, _⟩ => ⟨S128x512x1, .i32⟩
  | .hbm, ⟨86, _⟩ => ⟨S128x512x1, .i1⟩
  | .hbm, ⟨87, _⟩ => ⟨S_, .i32⟩
  | .hbm, ⟨88, _⟩ => ⟨S128x512x1, .i32⟩
  | .hbm, ⟨89, _⟩ => ⟨S128x512x1, .i32⟩
  | .hbm, ⟨90, _⟩ => ⟨S128x512x1, .i32⟩
  | .hbm, ⟨91, _⟩ => ⟨S128x512x128, .f32⟩
  | .hbm, ⟨92, _⟩ => ⟨S128x2304x128, .f32⟩
  | .hbm, ⟨93, _⟩ => ⟨S294912x128, .f32⟩
  | _, _ => ⟨S425984, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_v1_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call2_v0 : Ref sig .tc := ⟨.hbm, 18, rfl⟩
abbrev main_call2_v1_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call3_c : Ref sig .tc := ⟨.hbm, 27, rfl⟩
abbrev main_call3_v0 : Ref sig .tc := ⟨.hbm, 28, rfl⟩
abbrev main_call3_v1 : Ref sig .tc := ⟨.hbm, 29, rfl⟩
abbrev main_call3_c_0 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_v15 : Ref sig .tc := ⟨.hbm, 34, rfl⟩
abbrev main_c_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call4_c : Ref sig .tc := ⟨.hbm, 39, rfl⟩
abbrev main_call4_v0 : Ref sig .tc := ⟨.hbm, 40, rfl⟩
abbrev main_call4_v1 : Ref sig .tc := ⟨.hbm, 41, rfl⟩
abbrev main_call4_c_0 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_v19 : Ref sig .tc := ⟨.hbm, 46, rfl⟩
abbrev main_c_1 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_call5_c : Ref sig .tc := ⟨.hbm, 51, rfl⟩
abbrev main_call5_v0 : Ref sig .tc := ⟨.hbm, 52, rfl⟩
abbrev main_call5_v1 : Ref sig .tc := ⟨.hbm, 53, rfl⟩
abbrev main_call5_c_0 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_v23 : Ref sig .tc := ⟨.hbm, 58, rfl⟩
abbrev main_c_2 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_call6_c : Ref sig .tc := ⟨.hbm, 63, rfl⟩
abbrev main_call6_v0 : Ref sig .tc := ⟨.hbm, 64, rfl⟩
abbrev main_call6_v1 : Ref sig .tc := ⟨.hbm, 65, rfl⟩
abbrev main_call6_c_0 : Ref sig .tc := ⟨.hbm, 66, rfl⟩
abbrev main_call6_v2 : Ref sig .tc := ⟨.hbm, 67, rfl⟩
abbrev main_call6_v3 : Ref sig .tc := ⟨.hbm, 68, rfl⟩
abbrev main_call6_v4 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_call7_c : Ref sig .tc := ⟨.hbm, 73, rfl⟩
abbrev main_call7_v0 : Ref sig .tc := ⟨.hbm, 74, rfl⟩
abbrev main_call7_v1 : Ref sig .tc := ⟨.hbm, 75, rfl⟩
abbrev main_call7_c_0 : Ref sig .tc := ⟨.hbm, 76, rfl⟩
abbrev main_call7_v2 : Ref sig .tc := ⟨.hbm, 77, rfl⟩
abbrev main_call7_v3 : Ref sig .tc := ⟨.hbm, 78, rfl⟩
abbrev main_call7_v4 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_call8_c : Ref sig .tc := ⟨.hbm, 84, rfl⟩
abbrev main_call8_v0 : Ref sig .tc := ⟨.hbm, 85, rfl⟩
abbrev main_call8_v1 : Ref sig .tc := ⟨.hbm, 86, rfl⟩
abbrev main_call8_c_0 : Ref sig .tc := ⟨.hbm, 87, rfl⟩
abbrev main_call8_v2 : Ref sig .tc := ⟨.hbm, 88, rfl⟩
abbrev main_call8_v3 : Ref sig .tc := ⟨.hbm, 89, rfl⟩
abbrev main_call8_v4 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩

abbrev nD : Nat := 1
abbrev τ : Topo := Topo.v7x

variable {F : FTy → Type} [FloatOps F]
-- ==== Keys.lean ====
abbrev S128x256x2 : Shape := ⟨3, ![128, 256, 2]⟩
abbrev S128x2048x2 : Shape := ⟨3, ![128, 2048, 2]⟩
abbrev S128x1024x2 : Shape := ⟨3, ![128, 1024, 2]⟩
abbrev S128x2x256 : Shape := ⟨3, ![128, 2, 256]⟩
abbrev S128x2x2048 : Shape := ⟨3, ![128, 2, 2048]⟩
abbrev S128x2x1024 : Shape := ⟨3, ![128, 2, 1024]⟩
abbrev S128x3328 : Shape := ⟨2, ![128, 3328]⟩
abbrev S16x2x2048 : Shape := ⟨3, ![16, 2, 2048]⟩
abbrev S16x2x1024 : Shape := ⟨3, ![16, 2, 1024]⟩
abbrev S16x2x256 : Shape := ⟨3, ![16, 2, 256]⟩
abbrev S16x3328 : Shape := ⟨2, ![16, 3328]⟩
abbrev S16x1x2048 : Shape := ⟨3, ![16, 1, 2048]⟩
abbrev S16x2048 : Shape := ⟨2, ![16, 2048]⟩
abbrev S16x1x1024 : Shape := ⟨3, ![16, 1, 1024]⟩
abbrev S16x1024 : Shape := ⟨2, ![16, 1024]⟩
abbrev S16x1x256 : Shape := ⟨3, ![16, 1, 256]⟩
abbrev S16x256 : Shape := ⟨2, ![16, 256]⟩

abbrev nBuf : Space → Nat
  | .hbm => 7
  | .vmem => 8
  | .smem => 0
  | _ => 0

abbrev bufTy : (tb : Table) → Fin (tcTables nBuf tb) → BufTy
  | .hbm, ⟨0, _⟩ => ⟨S128x256x2, .f32⟩
  | .hbm, ⟨1, _⟩ => ⟨S128x2048x2, .f32⟩
  | .hbm, ⟨2, _⟩ => ⟨S128x1024x2, .f32⟩
  | .hbm, ⟨3, _⟩ => ⟨S128x2x256, .f32⟩
  | .hbm, ⟨4, _⟩ => ⟨S128x2x2048, .f32⟩
  | .hbm, ⟨5, _⟩ => ⟨S128x2x1024, .f32⟩
  | .hbm, ⟨6, _⟩ => ⟨S128x3328, .i32⟩
  | .local _ .vmem, ⟨0, _⟩ => ⟨S16x2x2048, .f32⟩
  | .local _ .vmem, ⟨1, _⟩ => ⟨S16x2x2048, .f32⟩
  | .local _ .vmem, ⟨2, _⟩ => ⟨S16x2x1024, .f32⟩
  | .local _ .vmem, ⟨3, _⟩ => ⟨S16x2x1024, .f32⟩
  | .local _ .vmem, ⟨4, _⟩ => ⟨S16x2x256, .f32⟩
  | .local _ .vmem, ⟨5, _⟩ => ⟨S16x2x256, .f32⟩
  | .local _ .vmem, ⟨6, _⟩ => ⟨S16x3328, .i32⟩
  | .local _ .vmem, ⟨7, _⟩ => ⟨S16x3328, .i32⟩
  | _, _ => ⟨S128x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x3328 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Distances.lean ====
abbrev S128x256x2 : Shape := ⟨3, ![128, 256, 2]⟩
abbrev S128x2048x2 : Shape := ⟨3, ![128, 2048, 2]⟩
abbrev S128x1024x2 : Shape := ⟨3, ![128, 1024, 2]⟩
abbrev S128x2048x1 : Shape := ⟨3, ![128, 2048, 1]⟩
abbrev S128x2048 : Shape := ⟨2, ![128, 2048]⟩
abbrev S128x1024x1 : Shape := ⟨3, ![128, 1024, 1]⟩
abbrev S128x1024 : Shape := ⟨2, ![128, 1024]⟩
abbrev S128x256x1 : Shape := ⟨3, ![128, 256, 1]⟩
abbrev S128x256 : Shape := ⟨2, ![128, 256]⟩
abbrev S128x3328 : Shape := ⟨2, ![128, 3328]⟩

abbrev nBuf : Space → Nat
  | .hbm => 16
  | .vmem => 7
  | .smem => 0
  | _ => 0

abbrev bufTy : (tb : Table) → Fin (tcTables nBuf tb) → BufTy
  | .hbm, ⟨0, _⟩ => ⟨S128x256x2, .f32⟩
  | .hbm, ⟨1, _⟩ => ⟨S128x2048x2, .f32⟩
  | .hbm, ⟨2, _⟩ => ⟨S128x1024x2, .f32⟩
  | .hbm, ⟨3, _⟩ => ⟨S128x2048x1, .f32⟩
  | .hbm, ⟨4, _⟩ => ⟨S128x2048, .f32⟩
  | .hbm, ⟨5, _⟩ => ⟨S128x2048x1, .f32⟩
  | .hbm, ⟨6, _⟩ => ⟨S128x2048, .f32⟩
  | .hbm, ⟨7, _⟩ => ⟨S128x1024x1, .f32⟩
  | .hbm, ⟨8, _⟩ => ⟨S128x1024, .f32⟩
  | .hbm, ⟨9, _⟩ => ⟨S128x1024x1, .f32⟩
  | .hbm, ⟨10, _⟩ => ⟨S128x1024, .f32⟩
  | .hbm, ⟨11, _⟩ => ⟨S128x256x1, .f32⟩
  | .hbm, ⟨12, _⟩ => ⟨S128x256, .f32⟩
  | .hbm, ⟨13, _⟩ => ⟨S128x256x1, .f32⟩
  | .hbm, ⟨14, _⟩ => ⟨S128x256, .f32⟩
  | .hbm, ⟨15, _⟩ => ⟨S128x3328, .i32⟩
  | .local _ .vmem, ⟨0, _⟩ => ⟨S128x2048, .f32⟩
  | .local _ .vmem, ⟨1, _⟩ => ⟨S128x2048, .f32⟩
  | .local _ .vmem, ⟨2, _⟩ => ⟨S128x1024, .f32⟩
  | .local _ .vmem, ⟨3, _⟩ => ⟨S128x1024, .f32⟩
  | .local _ .vmem, ⟨4, _⟩ => ⟨S128x256, .f32⟩
  | .local _ .vmem, ⟨5, _⟩ => ⟨S128x256, .f32⟩
  | .local _ .vmem, ⟨6, _⟩ => ⟨S128x3328, .i32⟩
  | _, _ => ⟨S128x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x3328 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Rank.lean ====
/-
  Ranks by counting, and one pass of a stable distribution by digits.
  `rk n κ j` counts the entries below entry `j` under the numbers `κ`; when `κ` is injective below `n` it is a permutation of
  the numbers below `n`, whose inverse is `selOf`. `place n D x` is where a counting pass on the digits `D` puts entry `x`.
  `place_selOf` is the induction step of the radix sort: a pass on digit `p` takes the order of the low `p` digits to the order of
  the low `p + 1`.
-/
module

public import Idealize.ShloMosaic.Lib.SparseCore.Ops

@[expose] public section

namespace Cert.Proof.Radix

open Finset

/-- How many entries below `n` have a smaller number than entry `j`. -/
def rk (n : ℕ) (κ : ℕ → ℕ) (j : ℕ) : ℕ := ((range n).filter fun j' => κ j' < κ j).card

open Classical in
/-- The entry of rank `k`. -/
noncomputable def selOf (n : ℕ) (κ : ℕ → ℕ) (k : ℕ) : ℕ := if h : ∃ j, j < n ∧ rk n κ j = k then h.choose else 0

variable {n : ℕ} {κ : ℕ → ℕ}

theorem rk_lt {j : ℕ} (hj : j < n) : rk n κ j < n := by
  have : ((range n).filter fun j' => κ j' < κ j) ⊂ range n := by
    refine Finset.filter_ssubset.2 ⟨j, mem_range.2 hj, lt_irrefl _⟩
  have := Finset.card_lt_card this
  simpa [rk] using this

theorem rk_strict {j j' : ℕ} (hj' : j' < n) (h : κ j' < κ j) : rk n κ j' < rk n κ j := by
  unfold rk
  refine Finset.card_lt_card (Finset.ssubset_iff_of_subset ?_ |>.2 ⟨j', ?_, ?_⟩)
  · intro x; simp only [mem_filter, mem_range]; rintro ⟨h1, h2⟩; exact ⟨h1, h2.trans h⟩
  · simp [hj', h]
  · simp

theorem rk_lt_iff {j j' : ℕ} (hj : j < n) (hj' : j' < n) : rk n κ j' < rk n κ j ↔ κ j' < κ j := by
  refine ⟨fun h => ?_, rk_strict hj'⟩
  by_contra hc
  rcases (not_lt.1 hc).lt_or_eq with h1 | h1
  · exact absurd (rk_strict hj h1) (by omega)
  · unfold rk at h; rw [h1] at h; exact lt_irrefl _ h

/-- The numbers tell the entries below `n` apart. -/
def Inj (n : ℕ) (κ : ℕ → ℕ) : Prop := ∀ j < n, ∀ j' < n, κ j = κ j' → j = j'

theorem rk_inj (hκ : Inj n κ) : Inj n (rk n κ) := by
  intro j hj j' hj' h
  refine hκ j hj j' hj' ?_
  have h1 := rk_lt_iff (κ := κ) hj hj'
  have h2 := rk_lt_iff (κ := κ) hj' hj
  omega

/-- An injection of the numbers below `n` into themselves meets each. -/
theorem surj_of_inj {f : ℕ → ℕ} (hf : Inj n f) (hlt : ∀ j < n, f j < n) {k : ℕ} (hk : k < n) : ∃ j < n, f j = k := by
  have : (range n).image f = range n := by
    refine Finset.eq_of_subset_of_card_le ?_ ?_
    · intro x; simp only [mem_image, mem_range]; rintro ⟨j, hj, rfl⟩; exact hlt j hj
    · rw [Finset.card_image_of_injOn]
      intro a ha b hb h
      exact hf a (by simpa using ha) b (by simpa using hb) h
  have hm : k ∈ (range n).image f := by rw [this]; exact mem_range.2 hk
  simpa [mem_image, mem_range] using hm

theorem selOf_spec (hκ : Inj n κ) {k : ℕ} (hk : k < n) : selOf n κ k < n ∧ rk n κ (selOf n κ k) = k := by
  have h : ∃ j, j < n ∧ rk n κ j = k := surj_of_inj (rk_inj hκ) (fun j hj => rk_lt hj) hk
  unfold selOf; rw [dif_pos h]; exact h.choose_spec

theorem selOf_rk (hκ : Inj n κ) {j : ℕ} (hj : j < n) : selOf n κ (rk n κ j) = j :=
  rk_inj hκ _ (selOf_spec hκ (rk_lt hj)).1 _ hj (selOf_spec hκ (rk_lt hj)).2

/-- Ranks depend only on the order of the numbers. -/
theorem rk_congr {κ' : ℕ → ℕ} {j : ℕ} (h : ∀ j' < n, (κ j' < κ j ↔ κ' j' < κ' j)) : rk n κ j = rk n κ' j := by
  unfold rk; congr 1; exact Finset.filter_congr fun x hx => h x (mem_range.1 hx)

theorem selOf_congr {κ' : ℕ → ℕ} (h : ∀ j < n, rk n κ j = rk n κ' j) (k : ℕ) : selOf n κ k = selOf n κ' k := by
  have : (fun j => j < n ∧ rk n κ j = k) = (fun j => j < n ∧ rk n κ' j = k) := by
    funext j; apply propext; constructor <;> rintro ⟨h1, h2⟩ <;> refine ⟨h1, ?_⟩
    · rw [← h j h1]; exact h2
    · rw [h j h1]; exact h2
  unfold selOf
  simp only [this]

theorem rk_id {j : ℕ} (hj : j < n) : rk n id j = j := by
  unfold rk
  rw [show ((range n).filter fun j' => id j' < id j) = range j by ext x; simp only [mem_filter, mem_range, id]; omega, card_range]

theorem selOf_id {k : ℕ} (hk : k < n) : selOf n id k = k := by
  have hi : Inj n id := fun _ _ _ _ h => h
  have := selOf_rk hi hk
  rwa [rk_id hk] at this

/-! ## A counting pass -/

/-- Where a counting pass on the digits `D` puts entry `x`: after every entry of a smaller digit and every earlier entry of its own. -/
def place (n : ℕ) (D : ℕ → ℕ) (x : ℕ) : ℕ := ((range n).filter fun j => D j < D x).card + ((range x).filter fun j => D j = D x).card

theorem place_eq {D : ℕ → ℕ} {x : ℕ} (hx : x < n) :
    place n D x = ((range n).filter fun j => D j < D x ∨ (D j = D x ∧ j < x)).card := by
  unfold place
  rw [Finset.filter_or, Finset.card_union_of_disjoint]
  · congr 2; ext j; simp only [mem_filter, mem_range]; constructor
    · rintro ⟨h1, h2⟩; exact ⟨by omega, h2, h1⟩
    · rintro ⟨_, h2, h1⟩; exact ⟨h1, h2⟩
  · rw [Finset.disjoint_filter]; rintro j _ h1 ⟨h2, _⟩; omega

variable {κ' : ℕ → ℕ} {D Dg : ℕ → ℕ}

/-- A counting pass over entries that lie in the order of `κ` lays them in the order of `κ'`, digit first and then `κ`. -/
theorem place_rk (hκ : Inj n κ) (hD : ∀ j < n, D (rk n κ j) = Dg j)
    (h' : ∀ j' < n, ∀ j < n, (κ' j' < κ' j ↔ Dg j' < Dg j ∨ (Dg j' = Dg j ∧ κ j' < κ j))) {j : ℕ} (hj : j < n) :
    place n D (rk n κ j) = rk n κ' j := by
  rw [place_eq (rk_lt hj)]
  unfold rk at *
  symm
  refine Finset.card_bij (fun j' _ => rk n κ j') ?_ ?_ ?_
  · intro j' hm
    simp only [mem_filter, mem_range] at hm ⊢
    refine ⟨rk_lt hm.1, ?_⟩
    have hd := hD j' hm.1; have hd' := hD j hj
    have e := (h' j' hm.1 j hj).1 hm.2
    unfold rk
    rw [hd, hd']
    rcases e with e | ⟨e1, e2⟩
    · exact .inl e
    · exact .inr ⟨e1, (rk_lt_iff hj hm.1).2 e2⟩
  · intro a ha b hb h
    simp only [mem_filter, mem_range] at ha hb
    exact rk_inj hκ a ha.1 b hb.1 h
  · intro x hx
    simp only [mem_filter, mem_range] at hx
    obtain ⟨j', hj', rfl⟩ := surj_of_inj (rk_inj hκ) (fun j hj => rk_lt hj) hx.1
    refine ⟨j', ?_, rfl⟩
    simp only [mem_filter, mem_range]
    refine ⟨hj', (h' j' hj' j hj).2 ?_⟩
    have hd := hD j' hj'; have hd' := hD j hj
    unfold rk at hd hd' hx
    rw [hd, hd'] at hx
    rcases hx.2 with e | ⟨e1, e2⟩
    · exact .inl e
    · exact .inr ⟨e1, (rk_lt_iff hj hj').1 (by unfold rk; exact e2)⟩

theorem place_lt {x : ℕ} (hx : x < n) : place n D x < n := by
  rw [place_eq hx]
  have : ((range n).filter fun j => D j < D x ∨ (D j = D x ∧ j < x)) ⊂ range n :=
    Finset.filter_ssubset.2 ⟨x, mem_range.2 hx, by simp⟩
  have := Finset.card_lt_card this
  simpa using this

theorem place_inj : Inj n (place n D) := by
  -- the places are the ranks of the numbers `D x * n + x`
  have key : ∀ x < n, place n D x = rk n (fun x => D x * n + x) x := by
    intro x hx
    have := place_rk (n := n) (κ := id) (κ' := fun x => D x * n + x) (D := D) (Dg := D) (fun _ _ _ _ h => h)
      (fun j hj => by rw [rk_id hj]) (fun j' hj' j hj => by
        simp only [id]
        rcases lt_trichotomy (D j') (D j) with h | h | h
        · have : (D j' + 1) * n ≤ D j * n := Nat.mul_le_mul_right _ h
          rw [Nat.add_mul, one_mul] at this
          exact ⟨fun _ => .inl h, fun _ => by omega⟩
        · rw [h]; constructor
          · intro h2; exact .inr ⟨rfl, by omega⟩
          · rintro (h2 | ⟨_, h2⟩) <;> omega
        · have : (D j + 1) * n ≤ D j' * n := Nat.mul_le_mul_right _ h
          rw [Nat.add_mul, one_mul] at this
          constructor
          · intro h2; omega
          · rintro (h2 | ⟨h2, _⟩) <;> omega) hx
    rwa [rk_id hx] at this
  have hinj : Inj n (fun x => D x * n + x) := by
    intro a ha b hb h
    dsimp only at h
    rcases lt_trichotomy (D a) (D b) with h1 | h1 | h1
    · have : (D a + 1) * n ≤ D b * n := Nat.mul_le_mul_right _ h1
      rw [Nat.add_mul, one_mul] at this; omega
    · rw [h1] at h; omega
    · have : (D b + 1) * n ≤ D a * n := Nat.mul_le_mul_right _ h1
      rw [Nat.add_mul, one_mul] at this; omega
  intro a ha b hb h
  rw [key a ha, key b hb] at h
  exact rk_inj hinj a ha b hb h

/-! ## The radix sort's keys -/

/-- The number entry `j` is ordered by after `p` passes on words `w`: the word's low `8 p` bits, then the entry's place. -/
def rkey (w : ℕ → ℕ) (p : ℕ) (j : ℕ) : ℕ := (w j % 2 ^ (8 * p)) * 2 ^ 32 + j

/-- Entries ordered by words and then places: the stable order. -/
def skey (w : ℕ → ℕ) (j : ℕ) : ℕ := w j * 2 ^ 32 + j

theorem rkey_inj {w : ℕ → ℕ} {p : ℕ} (hn : n ≤ 2 ^ 32) : Inj n (rkey w p) := by
  intro a ha b hb h
  unfold rkey at h
  omega

theorem rkey_lt (w : ℕ → ℕ) (p : ℕ) {j : ℕ} (hj : j < 2 ^ 32) : rkey w p j < 2 ^ (8 * p) * 2 ^ 32 := by
  unfold rkey
  have : w j % 2 ^ (8 * p) < 2 ^ (8 * p) := Nat.mod_lt _ (Nat.two_pow_pos _)
  have : (w j % 2 ^ (8 * p) + 1) * 2 ^ 32 ≤ 2 ^ (8 * p) * 2 ^ 32 := Nat.mul_le_mul_right _ this
  rw [Nat.add_mul, one_mul] at this
  omega

theorem rkey_succ (w : ℕ → ℕ) (p j : ℕ) :
    rkey w (p + 1) j = (w j / 2 ^ (8 * p) % 256) * (2 ^ (8 * p) * 2 ^ 32) + rkey w p j := by
  unfold rkey
  have : w j % 2 ^ (8 * (p + 1)) = w j % 2 ^ (8 * p) + 2 ^ (8 * p) * (w j / 2 ^ (8 * p) % 256) := by
    rw [show 2 ^ (8 * (p + 1)) = 2 ^ (8 * p) * 256 by rw [Nat.mul_add, pow_add]; rfl, Nat.mod_mul]
  rw [this]
  generalize 2 ^ (8 * p) = B
  rw [Nat.add_mul, Nat.mul_comm B, Nat.mul_assoc]; omega

theorem rkey_succ_lt {w : ℕ → ℕ} {p : ℕ} (hn : n ≤ 2 ^ 32) (j' : ℕ) (hj' : j' < n) (j : ℕ) (hj : j < n) :
    rkey w (p + 1) j' < rkey w (p + 1) j ↔ w j' / 2 ^ (8 * p) % 256 < w j / 2 ^ (8 * p) % 256
      ∨ (w j' / 2 ^ (8 * p) % 256 = w j / 2 ^ (8 * p) % 256 ∧ rkey w p j' < rkey w p j) := by
  rw [rkey_succ, rkey_succ]
  have h1 := rkey_lt w p (j := j') (by omega)
  have h2 := rkey_lt w p (j := j) (by omega)
  generalize rkey w p j' = a at *
  generalize rkey w p j = b at *
  generalize 2 ^ (8 * p) * 2 ^ 32 = B at *
  generalize w j' / 2 ^ (8 * p) % 256 = x at *
  generalize w j / 2 ^ (8 * p) % 256 = y at *
  rcases lt_trichotomy x y with h | h | h
  · have : (x + 1) * B ≤ y * B := Nat.mul_le_mul_right _ h
    rw [Nat.add_mul, one_mul] at this
    exact ⟨fun _ => .inl h, fun _ => by omega⟩
  · subst h; constructor
    · intro h; exact .inr ⟨rfl, by omega⟩
    · rintro (h | ⟨_, h⟩) <;> omega
  · have : (y + 1) * B ≤ x * B := Nat.mul_le_mul_right _ h
    rw [Nat.add_mul, one_mul] at this
    constructor
    · intro h2; omega
    · rintro (h2 | ⟨h2, _⟩) <;> omega

/-- THE STEP: entries in the order of the low `p` digits, distributed by digit `p`, lie in the order of the low `p + 1`. -/
theorem place_selOf {w : ℕ → ℕ} {p : ℕ} (hn : n ≤ 2 ^ 32) {D : ℕ → ℕ} (hD : ∀ x < n, D x = w (selOf n (rkey w p) x) / 2 ^ (8 * p) % 256)
    {x : ℕ} (hx : x < n) : selOf n (rkey w (p + 1)) (place n D x) = selOf n (rkey w p) x := by
  have hi := rkey_inj (w := w) (p := p) hn
  have hs := selOf_spec hi hx
  have hp := place_rk (n := n) (κ := rkey w p) (κ' := rkey w (p + 1)) (D := D) (Dg := fun j => w j / 2 ^ (8 * p) % 256) hi
    (fun j hj => by rw [hD _ (rk_lt hj), selOf_rk hi hj]) (rkey_succ_lt hn) hs.1
  rw [hs.2] at hp
  rw [hp, selOf_rk (rkey_inj hn) hs.1]

theorem selOf_rkey_zero {w : ℕ → ℕ} {k : ℕ} (hk : k < n) : selOf n (rkey w 0) k = k := by
  rw [show rkey w 0 = id from funext fun j => by simp [rkey, Nat.mod_one], selOf_id hk]

theorem selOf_rkey_four {w : ℕ → ℕ} (hw : ∀ j, w j < 2 ^ 32) (k : ℕ) : selOf n (rkey w 4) k = selOf n (skey w) k := by
  rw [show rkey w 4 = skey w from funext fun j => by unfold rkey skey; rw [Nat.mod_eq_of_lt (by simpa using hw j)]]

theorem skey_inj {w : ℕ → ℕ} (hn : n ≤ 2 ^ 32) : Inj n (skey w) := by
  intro a ha b hb h
  unfold skey at h
  omega

end Cert.Proof.Radix
-- ==== Proof.Lanes.lean ====
/-
  The sixteen-lane steps of the sort, read lane by lane. A vector is read as a function of its lane number (`cn`), a buffer as a
  function of its element number. Here is what each step does in those terms: a load by index and a store by index
  (`vector_load_idx`, `vector_store_idx`), the running count of equal lanes (`scan_count`), the running sum (`scan`).
-/
module

public import Idealize.ShloMosaic.Lib.SparseCore.Ops
public import proofs.«01_k».proof.Proof.Rank

@[expose] public section

namespace Cert.Proof.Radix

open Finset Idealize.ShloMosaic

/-- A vector of `n` elements. -/
abbrev Vec1 (n : ℕ) : Shape := ⟨1, ![n]⟩

/-- Element `j` of a vector of `n`. -/
def ix {n : ℕ} (j : ℕ) (h : j < n) : (Vec1 n).Idx := fun a => ⟨j, by rw [Fin.eq_zero a]; exact h⟩

/-- The vector as a function of the element's number (zero past the end). -/
def cn {n w : ℕ} (f : (Vec1 n).Idx → BitVec w) (j : ℕ) : BitVec w := if h : j < n then f (ix j h) else 0

variable {n w : ℕ}

theorem ix_val (x : (Vec1 n).Idx) : ix (x 0).val (x 0).isLt = x := by
  funext a; rw [Fin.eq_zero a]; rfl

theorem eq_ix (x : (Vec1 n).Idx) : ∃ j, ∃ h : j < n, x = ix j h := ⟨(x 0).val, (x 0).isLt, (ix_val x).symm⟩

theorem ix_inj {j j' : ℕ} {h : j < n} {h' : j' < n} : (ix j h : (Vec1 n).Idx) = ix j' h' ↔ j = j' := by
  constructor
  · intro e; exact congrArg (fun x : (Vec1 n).Idx => (x 0).val) e
  · rintro rfl; rfl

theorem cn_ix (f : (Vec1 n).Idx → BitVec w) {j : ℕ} (h : j < n) : cn f j = f (ix j h) := dif_pos h

theorem cn_val (f : (Vec1 n).Idx → BitVec w) (x : (Vec1 n).Idx) : f x = cn f (x 0).val := by
  rw [cn_ix f (show (x 0).val < n from (x 0).isLt)]; exact congrArg f (ix_val x).symm

theorem ofLane_eq (k : Fin 16) : (Shape.ofLane (d := ![16]) k : (Vec1 16).Idx) = ix k.val k.isLt := by
  funext a; rw [Fin.eq_zero a]; rfl

/-! ## Stores by index -/

section Store

variable {F : FTy → Type} [FloatOps F] {d : Fin 1 → Nat} {s : Shape} {e : EltTy}
variable (idxs : Fin s.rank → IVec ⟨1, d⟩ 32) (v : Vec F ⟨1, d⟩ e) (mask : IVec ⟨1, d⟩ 1) (add : Bool) (h : ∀ a x, (idxs a x).toNat < s.size a)

/-- One lane of the store. -/
def laneStep (g : Vec F s e) (k : Fin (d 0)) : Vec F s e :=
  if mask (Shape.ofLane k) = 1 then
    fun j => if (∀ a, (j a).val = (idxAt idxs h (Shape.ofLane k) a).val) then
      (if add then Elt.idxAdd e (g (idxAt idxs h (Shape.ofLane k))) (v (Shape.ofLane k)) else v (Shape.ofLane k)) else g j
  else g

theorem storeIdx_eq (f : Vec F s e) : storeIdx f idxs v mask add h = (List.finRange (d 0)).foldl (laneStep idxs v mask add h) f := rfl

theorem laneStep_miss (g : Vec F s e) (k : Fin (d 0)) (j : s.Idx) (hm : mask (Shape.ofLane k) = 1 → idxAt idxs h (Shape.ofLane k) ≠ j) :
    laneStep idxs v mask add h g k j = g j := by
  unfold laneStep
  split
  · next h1 =>
    dsimp only
    rw [if_neg]
    intro hc; exact hm h1 (funext fun a => Fin.ext (hc a).symm)
  · rfl

theorem laneStep_hit (g : Vec F s e) (k : Fin (d 0)) (j : s.Idx) (h1 : mask (Shape.ofLane k) = 1) (hj : idxAt idxs h (Shape.ofLane k) = j) :
    laneStep idxs v mask add h g k j = if add then Elt.idxAdd e (g j) (v (Shape.ofLane k)) else v (Shape.ofLane k) := by
  unfold laneStep
  rw [if_pos h1]
  rw [hj, if_pos fun _ => rfl]

theorem fold_miss (j : s.Idx) : ∀ (l : List (Fin (d 0))) (g : Vec F s e),
    (∀ k ∈ l, mask (Shape.ofLane k) = 1 → idxAt idxs h (Shape.ofLane k) ≠ j) → l.foldl (laneStep idxs v mask add h) g j = g j
  | [], _, _ => rfl
  | k :: l, g, hl => by
    rw [List.foldl_cons, fold_miss j l _ fun k' hk' => hl k' (List.mem_cons_of_mem _ hk')]
    exact laneStep_miss idxs v mask add h g k j (hl k List.mem_cons_self)

/-- An element no lane names keeps what it held. -/
theorem storeIdx_miss (f : Vec F s e) (j : s.Idx) (hj : ∀ k : Fin (d 0), mask (Shape.ofLane k) = 1 → idxAt idxs h (Shape.ofLane k) ≠ j) :
    storeIdx f idxs v mask add h j = f j := by
  rw [storeIdx_eq]; exact fold_miss idxs v mask add h j _ f fun k _ => hj k

/-- An element exactly one lane names gets that lane's word, or has it added. -/
theorem storeIdx_hit (f : Vec F s e) (j : s.Idx) (k : Fin (d 0)) (h1 : mask (Shape.ofLane k) = 1) (hj : idxAt idxs h (Shape.ofLane k) = j)
    (hu : ∀ k' : Fin (d 0), k' ≠ k → mask (Shape.ofLane k') = 1 → idxAt idxs h (Shape.ofLane k') ≠ j) :
    storeIdx f idxs v mask add h j = if add then Elt.idxAdd e (f j) (v (Shape.ofLane k)) else v (Shape.ofLane k) := by
  rw [storeIdx_eq]
  obtain ⟨l₁, l₂, hl⟩ := List.append_of_mem (List.mem_finRange k)
  have hnd : (l₁ ++ k :: l₂).Nodup := hl ▸ List.nodup_finRange _
  rw [List.nodup_append, List.nodup_cons] at hnd
  rw [hl, List.foldl_append, List.foldl_cons,
    fold_miss idxs v mask add h j l₂ _ (fun k' hk' => hu k' (fun e => hnd.2.1.1 (e ▸ hk'))),
    laneStep_hit idxs v mask add h _ k j h1 hj,
    fold_miss idxs v mask add h j l₁ _ (fun k' hk' => hu k' (fun e => hnd.2.2 k' hk' k List.mem_cons_self e))]

end Store

variable {F : FTy → Type} [FloatOps F]

theorem idxAt_ix {i : (Vec1 16).Idx → BitVec 32} (h : ∀ (a : Fin 1) x, ((![i] : Fin 1 → IVec (Vec1 16) 32) a x).toNat < (Vec1 n).size a) {l : ℕ} (hl : l < 16) :
    ∃ hb, (idxAt (s := Vec1 n) (![i] : Fin 1 → IVec (Vec1 16) 32) h (ix l hl) : (Vec1 n).Idx) = ix (cn i l).toNat hb := by
  have hb := h 0 (ix l hl)
  refine ⟨by rw [cn_ix i hl]; exact hb, ?_⟩
  funext a; rw [Fin.eq_zero a]; apply Fin.ext
  show (i (ix l hl)).toNat = (cn i l).toNat
  rw [cn_ix i hl]

theorem idxAt_lane {i : (Vec1 16).Idx → BitVec 32} (h : ∀ (a : Fin 1) x, ((![i] : Fin 1 → IVec (Vec1 16) 32) a x).toNat < (Vec1 n).size a) (k : Fin 16) :
    ∃ hb, (idxAt (s := Vec1 n) (![i] : Fin 1 → IVec (Vec1 16) 32) h (Shape.ofLane (d := ![16]) k) : (Vec1 n).Idx) = ix (cn i k.val).toNat hb := by
  rw [ofLane_eq]; exact idxAt_ix (n := n) h k.isLt

/-- A load by index, lane by lane. -/
theorem cn_loadIdx (f : (Vec1 n).Idx → BitVec 32) (i : (Vec1 16).Idx → BitVec 32)
    (h : ∀ (a : Fin 1) x, ((![i] : Fin 1 → IVec (Vec1 16) 32) a x).toNat < (Vec1 n).size a) {l : ℕ} (hl : l < 16) :
    cn (loadIdx (F := F) (e := .i32) f (![i] : Fin 1 → IVec (Vec1 16) 32) h) l = cn f (cn i l).toNat := by
  obtain ⟨hb, he⟩ := idxAt_ix (n := n) h hl
  rw [cn_ix _ hl, cn_ix f hb]
  show f (idxAt _ h (ix l hl)) = _
  rw [he]

/-- A store by index at places that differ lane by lane: each place gets its lane's word, -/
theorem cn_storeIdx_hit (f : (Vec1 n).Idx → BitVec 32) (i v : (Vec1 16).Idx → BitVec 32)
    (h : ∀ (a : Fin 1) x, ((![i] : Fin 1 → IVec (Vec1 16) 32) a x).toNat < (Vec1 n).size a)
    (hi : ∀ l < 16, ∀ l' < 16, (cn i l).toNat = (cn i l').toNat → l = l') {l : ℕ} (hl : l < 16) :
    cn (storeIdx (F := F) (e := .i32) f (![i] : Fin 1 → IVec (Vec1 16) 32) v (fun _ => 1#1) false h) (cn i l).toNat = cn v l := by
  obtain ⟨hb, he⟩ := idxAt_ix (n := n) h hl
  rw [cn_ix _ hb]
  refine (storeIdx_hit (F := F) (e := .i32) (![i] : Fin 1 → IVec (Vec1 16) 32) v (fun _ => 1#1) false h f _ (⟨l, hl⟩ : Fin 16) rfl ?_ ?_).trans ?_
  · rw [ofLane_eq]; exact he
  · intro k hk _ hc
    obtain ⟨hb', he'⟩ := idxAt_lane (n := n) h k
    replace hc := ix_inj.1 (he'.symm.trans hc)
    exact hk (Fin.ext (hi _ k.isLt _ hl hc))
  · rw [ofLane_eq, cn_ix v hl]; rfl

/-- and every other element keeps what it held. -/
theorem cn_storeIdx_miss (f : (Vec1 n).Idx → BitVec 32) (i v : (Vec1 16).Idx → BitVec 32)
    (h : ∀ (a : Fin 1) x, ((![i] : Fin 1 → IVec (Vec1 16) 32) a x).toNat < (Vec1 n).size a) {q : ℕ} (hq : ∀ l < 16, (cn i l).toNat ≠ q) :
    cn (storeIdx (F := F) (e := .i32) f (![i] : Fin 1 → IVec (Vec1 16) 32) v (fun _ => 1#1) false h) q = cn f q := by
  by_cases hqn : q < n
  · rw [cn_ix _ hqn, cn_ix f hqn]
    refine storeIdx_miss (F := F) (e := .i32) (![i] : Fin 1 → IVec (Vec1 16) 32) v (fun _ => 1#1) false h f _ ?_
    intro k _ hc
    obtain ⟨hb', he'⟩ := idxAt_lane (n := n) h k
    replace hc := ix_inj.1 (he'.symm.trans hc)
    exact hq _ k.isLt hc
  · unfold cn; rw [dif_neg hqn, dif_neg hqn]

/-! ## Counts of equal lanes -/

/-- How many of the first `m` lanes hold the word `b`. -/
def cnt (D : ℕ → ℕ) (m b : ℕ) : ℕ := ((range m).filter fun j => D j = b).card

theorem cnt_mono (D : ℕ → ℕ) {m m' : ℕ} (h : m ≤ m') (b : ℕ) : cnt D m b ≤ cnt D m' b := by
  unfold cnt; exact Finset.card_le_card (Finset.filter_subset_filter _ (Finset.range_mono h))

theorem cnt_le (D : ℕ → ℕ) (m b : ℕ) : cnt D m b ≤ m := by
  unfold cnt; exact (Finset.card_filter_le _ _).trans (by rw [card_range])

theorem cnt_add (D : ℕ → ℕ) (m m' b : ℕ) : cnt D (m + m') b = cnt D m b + cnt (fun j => D (m + j)) m' b := by
  induction m' with
  | zero => simp [cnt]
  | succ k ih =>
    have e1 : cnt D (m + (k + 1)) b = cnt D (m + k) b + if D (m + k) = b then 1 else 0 := by
      unfold cnt; rw [← Nat.add_assoc, range_add_one, filter_insert]; split
      · rw [card_insert_of_notMem (by simp)]
      · rfl
    have e2 : cnt (fun j => D (m + j)) (k + 1) b = cnt (fun j => D (m + j)) k b + if D (m + k) = b then 1 else 0 := by
      unfold cnt; rw [range_add_one, filter_insert]; split
      · rw [card_insert_of_notMem (by simp)]
      · rfl
    rw [e1, e2, ih]; omega

theorem cnt_succ (D : ℕ → ℕ) (m b : ℕ) : cnt D (m + 1) b = cnt D m b + if D m = b then 1 else 0 := by
  unfold cnt; rw [range_add_one, filter_insert]; split
  · rw [card_insert_of_notMem (by simp)]
  · rfl

theorem cnt_congr {D D' : ℕ → ℕ} {m : ℕ} (h : ∀ j < m, D j = D' j) (b : ℕ) : cnt D m b = cnt D' m b := by
  unfold cnt; congr 1; exact filter_congr fun x hx => by rw [h x (mem_range.1 hx)]

theorem cnt_eq_zero {D : ℕ → ℕ} {m b : ℕ} (h : ∀ j < m, D j ≠ b) : cnt D m b = 0 := by
  unfold cnt; rw [card_eq_zero, filter_eq_empty_iff]; intro x hx; exact h x (mem_range.1 hx)

/-- The lanes of a vector of sixteen, as numbers. -/
theorem card_lanes (P : ℕ → Prop) [DecidablePred P] (m : ℕ) (hm : m < 16) (Q : (Vec1 16).Idx → Prop) [DecidablePred Q]
    (hQ : ∀ x, Q x ↔ ((x 0).val ≤ m ∧ P (x 0).val)) : (univ.filter Q).card = ((range (m + 1)).filter P).card := by
  refine Finset.card_bij (fun x _ => (x 0).val) ?_ ?_ ?_
  · intro x hx; simp only [mem_filter, mem_univ, true_and, hQ] at hx; simp only [mem_filter, mem_range]; exact ⟨by omega, hx.2⟩
  · intro x _ y _ hxy; rw [← ix_val x, ← ix_val y]; exact ix_inj.2 hxy
  · intro j hj; simp only [mem_filter, mem_range] at hj
    refine ⟨ix j (by omega), ?_, rfl⟩
    simp only [mem_filter, mem_univ, true_and, hQ]
    exact ⟨show j ≤ m by omega, hj.2⟩

theorem scanCount_count (i : (Vec1 16).Idx → BitVec 32) {l : ℕ} (hl : l < 16) :
    (scanCount (broadcast (Vec1 16) 1#1) i).2 (ix l hl) = BitVec.ofNat 32 (cnt (fun l => (cn i l).toNat) (l + 1) (cn i l).toNat) := by
  unfold scanCount
  dsimp only
  rw [if_pos (show broadcast (Vec1 16) 1#1 (ix l hl) = 1 from rfl)]
  congr 1
  refine card_lanes (fun k => (cn i k).toNat = (cn i l).toNat) l hl _ fun x => ?_
  rw [Shape.rowMajor_val_one, Shape.rowMajor_val_one, cn_val i x, cn_ix i hl]
  constructor
  · rintro ⟨h1, _, h2⟩; exact ⟨h1, by rw [h2]⟩
  · rintro ⟨h1, h2⟩; exact ⟨h1, rfl, BitVec.eq_of_toNat_eq h2⟩

theorem scanCount_last (i : (Vec1 16).Idx → BitVec 32) {l : ℕ} (hl : l < 16) :
    (scanCount (broadcast (Vec1 16) 1#1) i).1 (ix l hl) = 1 ↔ ∀ k < 16, l < k → (cn i k).toNat ≠ (cn i l).toNat := by
  unfold scanCount
  dsimp only
  have e : (∀ j : (Vec1 16).Idx, ((Vec1 16).rowMajor (ix l hl)).val < ((Vec1 16).rowMajor j).val → ¬(broadcast (Vec1 16) 1#1 j = 1 ∧ i j = i (ix l hl)))
      ↔ ∀ k < 16, l < k → (cn i k).toNat ≠ (cn i l).toNat := by
    constructor
    · intro hj k hk hlk hc
      refine hj (ix k hk) ?_ ⟨rfl, ?_⟩
      · rw [Shape.rowMajor_val_one, Shape.rowMajor_val_one]; exact hlk
      · rw [cn_ix i hk, cn_ix i hl] at hc; exact BitVec.eq_of_toNat_eq hc
    · rintro hk j hj ⟨_, h2⟩
      rw [Shape.rowMajor_val_one, Shape.rowMajor_val_one] at hj
      refine hk (j 0).val (j 0).isLt hj ?_
      rw [← cn_val, cn_ix i hl, h2]
  rw [← e]
  constructor
  · intro h; by_contra hc; rw [if_neg (fun ⟨_, h2⟩ => hc h2)] at h; exact absurd h (by decide)
  · intro h; rw [if_pos ⟨rfl, h⟩]

/-- The counts scattered by addition at the last lane of each word: each element grows by the number of lanes that name it. -/
theorem cn_storeIdx_count (f : (Vec1 n).Idx → BitVec 32) (i : (Vec1 16).Idx → BitVec 32)
    (h : ∀ (a : Fin 1) x, ((![i] : Fin 1 → IVec (Vec1 16) 32) a x).toNat < (Vec1 n).size a) {b : ℕ} (hb : b < n) :
    cn (storeIdx (F := F) (e := .i32) f (![i] : Fin 1 → IVec (Vec1 16) 32) (scanCount (broadcast (Vec1 16) 1#1) i).2
        (scanCount (broadcast (Vec1 16) 1#1) i).1 true h) b
      = cn f b + BitVec.ofNat 32 (cnt (fun l => (cn i l).toNat) 16 b) := by
  rw [cn_ix _ hb, cn_ix f hb]
  by_cases hx : ∃ l < 16, (cn i l).toNat = b
  · -- the last lane of the word
    have hne : ((range 16).filter fun l => (cn i l).toNat = b).Nonempty := by
      obtain ⟨l, hl, hlb⟩ := hx; exact ⟨l, by simp only [mem_filter, mem_range]; exact ⟨hl, hlb⟩⟩
    set k := ((range 16).filter fun l => (cn i l).toNat = b).max' hne with hk
    have hkm := Finset.max'_mem _ hne
    rw [← hk] at hkm
    simp only [mem_filter, mem_range] at hkm
    have hmax : ∀ l < 16, (cn i l).toNat = b → l ≤ k := fun l hl hlb =>
      Finset.le_max' _ l (by simp only [mem_filter, mem_range]; exact ⟨hl, hlb⟩)
    have hlast : (scanCount (broadcast (Vec1 16) 1#1) i).1 (ix k hkm.1) = 1 :=
      (scanCount_last i hkm.1).2 fun l hl hlt hc => absurd (hmax l hl (hc.trans hkm.2)) (by omega)
    obtain ⟨hb', he⟩ := idxAt_ix (n := n) h hkm.1
    have hit := storeIdx_hit (F := F) (e := .i32) (![i] : Fin 1 → IVec (Vec1 16) 32) (scanCount (broadcast (Vec1 16) 1#1) i).2
      (scanCount (broadcast (Vec1 16) 1#1) i).1 true h f (ix b hb) (⟨k, hkm.1⟩ : Fin 16)
      (by rw [ofLane_eq]; exact hlast) (by rw [ofLane_eq]; exact he.trans (ix_inj.2 hkm.2))
      (by
        intro k' hk' h1 hc
        obtain ⟨hb'', he'⟩ := idxAt_lane (n := n) h k'
        replace hc := ix_inj.1 (he'.symm.trans hc)
        replace h1 : (scanCount (broadcast (Vec1 16) 1#1) i).1 (ix k'.val k'.isLt) = 1 := (congrArg _ (ofLane_eq k').symm).trans h1
        have h2 := hmax _ k'.isLt hc
        have h3 := (scanCount_last i k'.isLt).1 h1 k hkm.1 (by
          rcases Nat.lt_or_ge k'.val k with h | h
          · exact h
          · exact absurd (Fin.ext (by show k'.val = k; omega)) hk')
        exact h3 (hkm.2.trans hc.symm))
    rw [hit, ofLane_eq]
    simp only [↓reduceIte, Elt.idxAdd_i32]
    rw [scanCount_count i hkm.1, hkm.2]
    congr 2
    have := cnt_add (fun l => (cn i l).toNat) (k + 1) (16 - (k + 1)) b
    rw [show k + 1 + (16 - (k + 1)) = 16 by omega] at this
    rw [this, cnt_eq_zero (m := 16 - (k + 1))]; · rfl
    intro j hj hc
    exact absurd (hmax _ (by omega) hc) (by omega)
  · rw [storeIdx_miss (F := F) (e := .i32)]
    · rw [cnt_eq_zero]; · simp
      intro j hj hc; exact hx ⟨j, hj, hc⟩
    · intro k _ hc
      obtain ⟨hb', he⟩ := idxAt_lane (n := n) h k
      replace hc := ix_inj.1 (he.symm.trans hc)
      exact hx ⟨k, k.isLt, hc⟩

/-! ## The running sum -/

theorem foldl_sum (v : Fin 16 → BitVec 32) (c : Fin 16 → ℕ) (hv : ∀ k, v k = BitVec.ofNat 32 (c k)) : ∀ (l : List (Fin 16)) (a : ℕ) (r : BitVec 32),
    r = BitVec.ofNat 32 a → l.foldl (fun r k => ScanKind.step .sum r (v k)) r = BitVec.ofNat 32 (a + (l.map c).sum)
  | [], a, r, hr => by simpa using hr
  | k :: l, a, r, hr => by
    rw [List.foldl_cons, foldl_sum v c hv l (a + c k) _ (by
      show r + v k = _
      rw [hr, hv, BitVec.ofNat_add]), List.map_cons, List.sum_cons, Nat.add_assoc]

/-- The running sum, lane by lane. -/
theorem cn_scan (v : (Vec1 16).Idx → BitVec 32) (c : ℕ → ℕ) (hv : ∀ l < 16, cn v l = BitVec.ofNat 32 (c l)) {l : ℕ} (hl : l < 16) :
    cn (scan .sum v) l = BitVec.ofNat 32 (∑ k ∈ range (l + 1), c k) := by
  rw [cn_ix _ hl]
  unfold scan
  dsimp only
  have e := foldl_sum (fun k => v (Shape.ofLane (d := ![16]) k)) (fun k => c k.val) (fun k => by
      rw [ofLane_eq, ← cn_ix v k.isLt, hv k.val k.isLt])
      ((List.finRange 16).filter fun k => decide (0 < k.val ∧ k.val ≤ l)) (c 0) (v (Shape.ofLane (d := ![16]) (0 : Fin 16)))
      (by rw [ofLane_eq]; exact (cn_ix v (show 0 < 16 by omega)).symm.trans (hv 0 (by omega)))
  refine e.trans ?_
  congr 1
  have : ∀ l : Fin 16, (((List.finRange 16).filter fun k => decide (0 < k.val ∧ k.val ≤ l.val)).map fun k => k.val) = (List.range l.val).map (· + 1) := by decide
  have h2 := this ⟨l, hl⟩
  rw [show (fun k : Fin 16 => c k.val) = c ∘ (fun k : Fin 16 => k.val) from rfl, ← List.map_map, h2, Finset.sum_range_succ', Nat.add_comm, List.map_map]
  rfl

end Cert.Proof.Radix
-- ==== Proof.Hold.lean ====
/-
  A tile's integer buffers held at contents given element by element (`Hold m G`: buffer `m` holds word `G j` at `j`), and what each
  of the kernel's steps on them — a load or a store of sixteen lanes, a load or a store by index — needs and leaves in those terms.
-/
module

public import Idealize.ShloMosaic.Lib.SparseCore.Ops
public import proofs.«01_k».proof.Proof.Lanes

@[expose] public section

noncomputable section

namespace Cert.Proof.Radix

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {α : Type} {Q : α → sProp (MT nD τ sig Ix (Elt F) Name U Lvl)}
variable {n : ℕ}

local notation "𝕄" => MT nD τ sig Ix (Elt F) Name U Lvl

/-- Buffer `m` held outright, with word `G j` at element `j`. -/
def Hold (m : Memref sig c.2.kind .vmem (Vec1 n) .i32) (G : ℕ → BitVec 32) : sProp 𝕄 :=
  iprop(∃ f : Buf (Elt F) (m.view.loc c), ⌜∀ j < n, cn (n := n) (w := 32) (m.view.read (Elt F) f) j = G j⌝ ∗ m.view.loc c ↦[m.view.set]{fullShare} f)

variable {c} {m : Memref sig c.2.kind .vmem (Vec1 n) .i32}

theorem Hold.mono {G G' : ℕ → BitVec 32} (h : ∀ j < n, G j = G' j) : (Hold c m G : sProp 𝕄) ⊢ Hold c m G' := by
  unfold Hold
  iintro ⟨%f, %hf, H⟩
  iexists f; isplitr
  · ipureintro; intro j hj; rw [hf j hj, h j hj]
  · iexact H

theorem Hold.of (f : Buf (Elt F) (m.view.loc c)) :
    (m.view.loc c ↦[m.view.set]{fullShare} f : sProp 𝕄) ⊢ Hold c m (cn (n := n) (w := 32) (m.view.read (Elt F) f)) := by
  unfold Hold
  iintro H
  iexists f; isplitr
  · ipureintro; intro j hj; rfl
  · iexact H

variable (c)

/-- The sixteen lanes at offset `o`. -/
def vec (G : ℕ → BitVec 32) (o : ℕ) : (Vec1 16).Idx → BitVec 32 := fun x => G (o + (x 0).val)

theorem cn_vec (G : ℕ → BitVec 32) (o : ℕ) {l : ℕ} (hl : l < 16) : cn (vec G o) l = G (o + l) := by
  rw [cn_ix _ hl]; rfl

theorem emb_unit (off : Fin 1 → ℕ) (inb : ∀ a, off a + (![16] : Fin 1 → ℕ) a ≤ (Vec1 n).size a) (x : (Vec1 16).Idx) :
    ∃ h, (Rect.unit (s := Vec1 n) off ![16] inb).emb x = ix (off 0 + (x 0).val) h := by
  have h0 := inb 0
  have hx : (x 0).val < 16 := (x 0).isLt
  refine ⟨lt_of_lt_of_le (show off 0 + (x 0).val < off 0 + 16 by omega) h0, ?_⟩
  funext a; rw [Fin.eq_zero a]; apply Fin.ext
  show off 0 + 1 * (x 0).val = off 0 + (x 0).val
  omega

/-- A load of sixteen lanes. -/
theorem wp_loadH {off : Fin 1 → ℕ} {inb : ∀ a, off a + (![16] : Fin 1 → ℕ) a ≤ (Vec1 n).size a} {G : ℕ → BitVec 32}
    {hl : m.view.LoadsAt (Rect.unit (s := Vec1 n) off ![16] inb).toLoadRect}
    {k : ((Vec1 16).Idx → BitVec 32) → Prog (TpuEff nD τ sig (Elt F) Λ c.2) α} {o : ℕ} (ho : off = ![o]) :
    Hold c m G ⊢ iprop((Hold c m G -∗ wp frame (wpE defs 𝒱 c bd) E (k (vec G o)) Q)
      -∗ wp frame (wpE defs 𝒱 c bd) E (.op (.load m (Rect.unit (s := Vec1 n) off ![16] inb).toLoadRect hl) k) Q) := by
  subst ho
  unfold Hold
  iintro ⟨%f, %hf, H⟩ Hk
  have e : (m.access (Rect.unit (s := Vec1 n) ![o] ![16] inb)).read (Elt F) f = vec G o := by
    funext x
    obtain ⟨hb, he⟩ := emb_unit ![o] inb x
    refine (congrArg (m.view.read (Elt F) f) he).trans ?_
    have := hf _ hb
    rw [cn_ix _ hb] at this
    exact this
  iapply (wp_load_rect (defs := defs) 𝒱 c bd E (Q := Q) (m := m) (r := Rect.unit (s := Vec1 n) ![o] ![16] inb) (hl := hl) (k := k) (f := f)
    (View.set_slice_subset _ _)) $$ H
  iintro H
  rw [e]
  iapply Hk
  iexists f; isplitr
  · ipureintro; exact hf
  · iexact H

/-- A store of sixteen lanes. -/
theorem wp_storeH {off : Fin 1 → ℕ} {inb : ∀ a, off a + (![16] : Fin 1 → ℕ) a ≤ (Vec1 n).size a} {G : ℕ → BitVec 32}
    {w : (Vec1 16).Idx → BitVec 32} {hx : (m.access (Rect.unit (s := Vec1 n) off ![16] inb)).Stores Finset.univ}
    {hm : Finset.univ = Finset.univ ∨ ∀ a, (Rect.unit (s := Vec1 n) off ![16] inb).stride a = 1}
    {k : PUnit → Prog (TpuEff nD τ sig (Elt F) Λ c.2) α} {o : ℕ} (ho : off = ![o]) :
    Hold c m G ⊢ iprop((Hold c m (fun j => if o ≤ j ∧ j < o + 16 then cn w (j - o) else G j) -∗ wp frame (wpE defs 𝒱 c bd) E (k ⟨⟩) Q)
      -∗ wp frame (wpE defs 𝒱 c bd) E (.op (.store m (Rect.unit (s := Vec1 n) off ![16] inb) w Finset.univ hx hm) k) Q) := by
  subst ho
  unfold Hold
  iintro ⟨%f, %hf, H⟩ Hk
  iapply (wp_store (defs := defs) 𝒱 c bd E (Q := Q) (m := m) (r := Rect.unit (s := Vec1 n) ![o] ![16] inb) (w := w) (Mk := Finset.univ) (hx := hx) (hm := hm)
    (k := k) (f := f) (S := m.view.set) (View.set_slice_subset _ _)) $$ H
  iintro H
  iapply Hk
  iexists _; isplitr
  rotate_left
  · iexact H
  · ipureintro
    intro j hj
    rw [cn_ix _ hj]
    beta_reduce
    split
    · next hc =>
      obtain ⟨hb, he⟩ := emb_unit (n := n) ![o] inb (ix (n := 16) (j - o) (by omega))
      have hj' : (ix j hj : (Vec1 n).Idx) = (Rect.unit (s := Vec1 n) ![o] ![16] inb).emb (ix (n := 16) (j - o) (by omega)) := by
        rw [he]; exact ix_inj.2 (show j = o + (j - o) by omega)
      rw [hj']
      refine (View.read_slice_write_emb (v := m.view) (Rect.unit (s := Vec1 n) ![o] ![16] inb) f w (Finset.mem_univ _)).trans ?_
      rw [cn_ix w (show j - o < 16 by omega)]
    · next hc =>
      refine (View.read_slice_write_of_not_mem (v := m.view) (Rect.unit (s := Vec1 n) ![o] ![16] inb) f w Finset.univ ?_).trans ?_
      · intro hmem
        obtain ⟨x, -, hx⟩ := Finset.mem_map.1 hmem
        obtain ⟨hb, he⟩ := emb_unit (n := n) ![o] inb x
        have h2 := ix_inj.1 (he.symm.trans hx)
        have hx16 : (x 0).val < 16 := (x 0).isLt
        simp only [Matrix.cons_val_zero] at h2
        omega
      · have := hf j hj; rw [cn_ix _ hj] at this; exact this

theorem emb_whole (x : (Vec1 n).Idx) : (Rect.whole (Vec1 n)).emb x = x := Rect.emb_whole_apply (Vec1 n) x

theorem read_whole (f : Buf (Elt F) (m.view.loc c)) : (m.access (.whole (Vec1 n))).read (Elt F) f = m.view.read (Elt F) f := by
  funext x
  exact congrArg (m.view.read (Elt F) f) (emb_whole x)

theorem read_write_whole (f : Buf (Elt F) (m.view.loc c)) (w : (Vec1 n).Idx → BitVec 32) :
    m.view.read (Elt F) ((m.access (.whole (Vec1 n))).write (Elt F) f w Finset.univ) = w := by
  funext x
  have := View.read_slice_write_emb (Val := Elt F) (v := m.view) (Rect.whole (Vec1 n)) f w (Finset.mem_univ x)
  rwa [emb_whole x] at this

/-- A load by index. -/
theorem wp_loadIdxH {i : (Vec1 16).Idx → BitVec 32} {h : ∀ (a : Fin 1) x, ((![i] : Fin 1 → IVec (Vec1 16) 32) a x).toNat < (Vec1 n).size a}
    {hl : m.view.Loads} {G : ℕ → BitVec 32} {k : ((Vec1 16).Idx → BitVec 32) → Prog (TpuEff nD τ sig (Elt F) Λ c.2) α} :
    Hold c m G ⊢ iprop((Hold c m G -∗ wp frame (wpE defs 𝒱 c bd) E (k (fun x => G (i x).toNat)) Q)
      -∗ wp frame (wpE defs 𝒱 c bd) E ((SparseCore.vectorLoadIdx m (![i] : Fin 1 → IVec (Vec1 16) 32) h hl >>= k)) Q) := by
  unfold Hold
  iintro ⟨%f, %hf, H⟩ Hk
  have e : loadIdx (F := F) (e := .i32) ((m.access (.whole (Vec1 n))).read (Elt F) f) (![i] : Fin 1 → IVec (Vec1 16) 32) h = fun x => G (i x).toNat := by
    rw [read_whole]
    funext x
    obtain ⟨l, hl, rfl⟩ := eq_ix x
    have hb : (cn i l).toNat < n := by rw [cn_ix i hl]; exact h 0 (ix l hl)
    have := cn_loadIdx (F := F) (n := n) (m.view.read (Elt F) f) i h hl
    rw [cn_ix _ hl, hf _ hb, cn_ix i hl] at this
    exact this
  iapply (SparseCore.wp_vectorLoadIdx (defs := defs) 𝒱 c bd E (Q := Q) (base := m) (idxs := (![i] : Fin 1 → IVec (Vec1 16) 32)) (h := h) (hl := hl) (k := k) (f := f)
    (View.set_slice_subset _ _)) $$ H
  iintro H
  rw [e]
  iapply Hk
  iexists f; isplitr
  · ipureintro; exact hf
  · iexact H

theorem set_whole_eq : (m.access (.whole (Vec1 n))).set = m.view.set := by
  rw [View.set_slice, Rect.set_whole]; rfl

theorem pts_whole (f : Buf (Elt F) (m.view.loc c)) :
    ((m.access (.whole (Vec1 n))).loc c ↦[(m.access (.whole (Vec1 n))).set]{fullShare} f : sProp 𝕄) = (m.view.loc c ↦[m.view.set]{fullShare} f) := by
  rw [set_whole_eq]

/-- A store by index, the places all different. -/
theorem wp_storeIdxH {i v : (Vec1 16).Idx → BitVec 32} {h : ∀ (a : Fin 1) x, ((![i] : Fin 1 → IVec (Vec1 16) 32) a x).toNat < (Vec1 n).size a}
    {hs : (m.access (.whole (Vec1 n))).Stores Finset.univ} {G : ℕ → BitVec 32} {k : PUnit → Prog (TpuEff nD τ sig (Elt F) Λ c.2) α}
    (hi : ∀ l < 16, ∀ l' < 16, (cn i l).toNat = (cn i l').toNat → l = l') :
    Hold c m G ⊢ iprop((∀ G', ⌜(∀ l < 16, G' (cn i l).toNat = cn v l) ∧ ∀ q < n, (∀ l < 16, (cn i l).toNat ≠ q) → G' q = G q⌝
          -∗ Hold c m G' -∗ wp frame (wpE defs 𝒱 c bd) E (k ⟨⟩) Q)
      -∗ wp frame (wpE defs 𝒱 c bd) E ((SparseCore.vectorStoreIdx (F := F) m (![i] : Fin 1 → IVec (Vec1 16) 32) v (fun _ => 1#1) false h hs >>= k)) Q) := by
  unfold Hold
  iintro ⟨%f, %hf, H⟩ Hk
  iapply (SparseCore.wp_vectorStoreIdx (defs := defs) 𝒱 c bd E (Q := Q) (base := m) (idxs := (![i] : Fin 1 → IVec (Vec1 16) 32)) (v := v) (mask := fun _ => 1#1)
    (add := false) (h := h) (hs := hs) (k := k) (f := f)) $$ [H]
  · iapply (Entails.of_eq (pts_whole c f).symm); iexact H
  iintro H
  iapply Hk $$ %(cn (n := n) (w := 32) (storeIdx (F := F) (e := .i32) (m.view.read (Elt F) f) (![i] : Fin 1 → IVec (Vec1 16) 32) v (fun _ => 1#1) false h)) [] [H]
  · ipureintro
    refine ⟨fun l hl => cn_storeIdx_hit (F := F) _ i v h hi hl, fun q hq hm => ?_⟩
    rw [cn_storeIdx_miss (F := F) _ i v h hm, hf q hq]
  · iexists _; isplitr
    rotate_left
    · iapply (Entails.of_eq (pts_whole c _)); iexact H
    · ipureintro; intro j hj
      rw [read_whole, read_write_whole]

/-- The running counts added at the last lane of each word. -/
theorem wp_countH {i : (Vec1 16).Idx → BitVec 32} {h : ∀ (a : Fin 1) x, ((![i] : Fin 1 → IVec (Vec1 16) 32) a x).toNat < (Vec1 n).size a}
    {hs : (m.access (.whole (Vec1 n))).Stores Finset.univ} {G : ℕ → BitVec 32} {k : PUnit → Prog (TpuEff nD τ sig (Elt F) Λ c.2) α} :
    Hold c m G ⊢ iprop((Hold c m (fun b => G b + BitVec.ofNat 32 (cnt (fun l => (cn i l).toNat) 16 b)) -∗ wp frame (wpE defs 𝒱 c bd) E (k ⟨⟩) Q)
      -∗ wp frame (wpE defs 𝒱 c bd) E ((SparseCore.vectorStoreIdx (F := F) m (![i] : Fin 1 → IVec (Vec1 16) 32) (scanCount (broadcast (Vec1 16) 1#1) i).2
          (scanCount (broadcast (Vec1 16) 1#1) i).1 true h hs >>= k)) Q) := by
  unfold Hold
  iintro ⟨%f, %hf, H⟩ Hk
  iapply (SparseCore.wp_vectorStoreIdx (defs := defs) 𝒱 c bd E (Q := Q) (base := m) (idxs := (![i] : Fin 1 → IVec (Vec1 16) 32))
    (v := (scanCount (broadcast (Vec1 16) 1#1) i).2) (mask := (scanCount (broadcast (Vec1 16) 1#1) i).1)
    (add := true) (h := h) (hs := hs) (k := k) (f := f)) $$ [H]
  · iapply (Entails.of_eq (pts_whole c f).symm); iexact H
  iintro H
  iapply Hk
  iexists _; isplitr
  rotate_left
  · iapply (Entails.of_eq (pts_whole c _)); iexact H
  · ipureintro; intro j hj
    rw [read_whole, read_write_whole, cn_storeIdx_count (F := F) _ i h hj, hf j hj]

end Cert.Proof.Radix
-- ==== Proof.Loops.lean ====
/-
  The kernel's counted loops, one statement per kind, each proved once for every copy of it in the kernel: clear the bins, count the
  digits, turn the counts into starting places, move the entries to their places, and write the row numbers a gather reads.
  A loop enters by the equation of its trip to the written one (`hb`), which at each copy is by computation.
-/
module

public import Idealize.ShloMosaic.Lib.Tactic
public import proofs.«01_k».proof.Proof.Hold

@[expose] public section

noncomputable section

namespace Cert.Proof.Radix

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {α : Type} {Q : α → sProp (MT nD τ sig Ix (Elt F) Name U Lvl)}

local notation "𝕄" => MT nD τ sig Ix (Elt F) Name U Lvl

/-! ## Buffers known on a first part -/

/-- Buffer `m` held outright, its first `N` words those of `G`. -/
def HoldTo {n : ℕ} (m : Memref sig c.2.kind .vmem (Vec1 n) .i32) (N : ℕ) (G : ℕ → BitVec 32) : sProp 𝕄 :=
  iprop(∃ G', ⌜∀ j < N, G' j = G j⌝ ∗ Hold c m G')

variable {c} in
theorem Hold.mono' {n : ℕ} {m : Memref sig c.2.kind .vmem (Vec1 n) .i32} {G G' : ℕ → BitVec 32} :
    (Hold c m G : sProp 𝕄) ⊢ iprop(⌜∀ j < n, G j = G' j⌝ -∗ Hold c m G') := by
  iintro H %h; iapply (Hold.mono h); iexact H

variable {c} in
theorem HoldTo.of {n : ℕ} {m : Memref sig c.2.kind .vmem (Vec1 n) .i32} {N : ℕ} {G G' : ℕ → BitVec 32} (h : ∀ j < N, G' j = G j) :
    (Hold c m G' : sProp 𝕄) ⊢ HoldTo c m N G := by
  unfold HoldTo; iintro H; iexists G'; isplitr
  · ipureintro; exact h
  · iexact H

variable {c} in
theorem HoldTo.mono {n : ℕ} {m : Memref sig c.2.kind .vmem (Vec1 n) .i32} {N N' : ℕ} {G G' : ℕ → BitVec 32} (hN : N' ≤ N) (h : ∀ j < N', G j = G' j) :
    (HoldTo c m N G : sProp 𝕄) ⊢ HoldTo c m N' G' := by
  unfold HoldTo; iintro ⟨%g, %hg, H⟩; iexists g; isplitr
  · ipureintro; intro j hj; rw [hg j (by omega), h j hj]
  · iexact H

variable {c} in
theorem HoldTo.any {n : ℕ} {m : Memref sig c.2.kind .vmem (Vec1 n) .i32} {N : ℕ} {G G' : ℕ → BitVec 32} : (HoldTo c m N G : sProp 𝕄) ⊢ HoldTo c m 0 G' :=
  HoldTo.mono (Nat.zero_le _) fun _ h => absurd h (Nat.not_lt_zero _)

/-- Sixteen words below the size are good indices. -/
theorem idx_ok {n : ℕ} {v : IVec (Vec1 16) 32} (h : ∀ x, (v x).toNat < n) : ∀ (a : Fin 1) x, ((![v] : Fin 1 → IVec (Vec1 16) 32) a x).toNat < (Vec1 n).size a :=
  fun a x => by obtain rfl := Fin.eq_zero a; exact h x

/-! ## Digits -/

/-- Digit `p` of a word. -/
def dg (p : ℕ) (w : BitVec 32) : ℕ := w.toNat / 2 ^ (8 * p) % 256

theorem dg_lt (p : ℕ) (w : BitVec 32) : dg p w < 256 := Nat.mod_lt _ (by decide)

/-- The digits of sixteen words as the kernel computes them. -/
abbrev digits (v : (Vec1 16).Idx → BitVec 32) (sh : BitVec 32) : (Vec1 16).Idx → BitVec 32 :=
  andi (shrui v (broadcast (Vec1 16) sh)) (broadcast (Vec1 16) 255#32)

theorem digits_toNat {p : ℕ} (hp : p < 4) (v : (Vec1 16).Idx → BitVec 32) (x : (Vec1 16).Idx) :
    (digits v (BitVec.ofNat 32 (8 * p)) x).toNat = dg p (v x) := by
  have e : (BitVec.ofNat 32 (8 * p)).toNat = 8 * p := by rw [BitVec.toNat_ofNat]; omega
  show (IntOp.andi (IntOp.shrui .vector (v x) (BitVec.ofNat 32 (8 * p))) 255#32).toNat = _
  unfold IntOp.shrui IntOp.andi dg
  rw [e, if_pos (by omega), BitVec.toNat_and, BitVec.ushiftRight_eq', BitVec.toNat_ushiftRight, e, Nat.shiftRight_eq_div_pow]
  show _ &&& (2 ^ 8 - 1) = _
  rw [Nat.and_two_pow_sub_one_eq_mod]

theorem cn_digits {p : ℕ} (hp : p < 4) (G : ℕ → BitVec 32) (o : ℕ) {l : ℕ} (hl : l < 16) :
    (cn (digits (vec G o) (BitVec.ofNat 32 (8 * p))) l).toNat = dg p (G (o + l)) := by
  rw [cn_ix _ hl, digits_toNat hp]; rfl

/-! ## Clearing the bins -/

theorem zero_loop {m : Memref sig c.2.kind .vmem (Vec1 256) .i32} {l : Scf.Loop 32} {ok : l.OK} {init : BitVec 32}
    {body : Fin l.trips → BitVec 32 → Prog (TpuEff nD τ sig (Elt F) Λ c.2) (BitVec 32)} {kk : BitVec 32 → Prog (TpuEff nD τ sig (Elt F) Λ c.2) α}
    {off : Fin l.trips → Fin 1 → ℕ} {inb : ∀ t, ∀ a, off t a + (![16] : Fin 1 → ℕ) a ≤ (Vec1 256).size a}
    {hl : ∀ t, m.view.LoadsAt (Rect.unit (s := Vec1 256) (off t) ![16] (inb t)).toLoadRect}
    {hx : ∀ t, (m.access (Rect.unit (s := Vec1 256) (off t) ![16] (inb t))).Stores Finset.univ}
    {hm : ∀ t, Finset.univ = Finset.univ ∨ ∀ a, (Rect.unit (s := Vec1 256) (off t) ![16] (inb t)).stride a = 1} {z : BitVec 32}
    (hT : l.trips = 16) (ho : ∀ t, off t = ![16 * t.val])
    (hb : ∀ t acc, body t acc = .op (.load m (Rect.unit (s := Vec1 256) (off t) ![16] (inb t)).toLoadRect (hl t)) fun _ =>
      .op (.store m (Rect.unit (s := Vec1 256) (off t) ![16] (inb t)) (broadcast (Vec1 16) 0#32) Finset.univ (hx t) (hm t)) fun _ => .ret z) :
    HoldTo c m 0 (fun _ => 0) ⊢ iprop((∀ acc, Hold c m (fun _ => 0) -∗ wp frame (wpE defs 𝒱 c bd) E (kk acc) Q)
      -∗ wp frame (wpE defs 𝒱 c bd) E (Scf.Loop.for l ok init body >>= kk) Q) := by
  have hmain := Scf.wp_for_bind frame (wpE defs 𝒱 c bd) E l.lb l.ub l.st ok init body
    (fun t _ => HoldTo c m (16 * t) (fun _ => 0)) (fun t acc => by
      rw [hb]
      unfold HoldTo
      iintro ⟨%G, %hG, H⟩
      iapply (wp_loadH 𝒱 c bd E (ho t)) $$ H
      iintro H
      iapply (wp_storeH 𝒱 c bd E (ho t)) $$ H
      iintro H
      rw [wp_ret]; imodintro
      iexists _; isplitr
      rotate_left
      · iexact H
      · ipureintro; intro j hj
        beta_reduce
        split
        · next h => rw [cn_ix _ (show j - 16 * t.val < 16 by omega)]; rfl
        · exact hG j (by omega)) (kk := kk) (Q := Q)
  iintro H Hk
  iapply hmain $$ [H]
  · iexact H
  iintro %acc H
  iapply Hk $$ %acc
  unfold HoldTo
  icases H with ⟨%G, %hG, H⟩
  iapply (Hold.mono (G := G) (fun j hj => hG j (by
    have : Scf.trips l.lb l.ub l.st = 16 := hT
    rw [this]; exact hj)))
  iexact H

/-! ## Counting the digits -/

theorem hist_loop {nk : ℕ} {mk : Memref sig c.2.kind .vmem (Vec1 nk) .i32} {m : Memref sig c.2.kind .vmem (Vec1 256) .i32}
    {l : Scf.Loop 32} {ok : l.OK} {init : BitVec 32}
    {body : Fin l.trips → BitVec 32 → Prog (TpuEff nD τ sig (Elt F) Λ c.2) (BitVec 32)} {kk : BitVec 32 → Prog (TpuEff nD τ sig (Elt F) Λ c.2) α}
    {off : Fin l.trips → Fin 1 → ℕ} {inb : ∀ t, ∀ a, off t a + (![16] : Fin 1 → ℕ) a ≤ (Vec1 nk).size a}
    {hl : ∀ t, mk.view.LoadsAt (Rect.unit (s := Vec1 nk) (off t) ![16] (inb t)).toLoadRect}
    {P : IVec (Vec1 16) 32 → Prop} {dec : ∀ v, Decidable (P v)}
    {hP : ∀ v, P v → ∀ (a : Fin 1) x, ((![v] : Fin 1 → IVec (Vec1 16) 32) a x).toNat < (Vec1 256).size a}
    {hs : (m.access (.whole (Vec1 256))).Stores Finset.univ} {z : BitVec 32}
    (base n p : ℕ) {N : ℕ} (hN : base + n ≤ N) (hp : p < 4) {K : ℕ → BitVec 32} (D : ℕ → ℕ) (hD : ∀ j < n, D j = dg p (K (base + j)))
    (hT : 16 * l.trips = n) (ho : ∀ t, off t = ![base + 16 * t.val]) (hPi : ∀ v : IVec (Vec1 16) 32, (∀ x, (v x).toNat < 256) → P v)
    (hb : ∀ t acc, body t acc = .op (.load mk (Rect.unit (s := Vec1 nk) (off t) ![16] (inb t)).toLoadRect (hl t)) fun v =>
      .op (.assume (P (digits v (BitVec.ofNat 32 (8 * p)))) (dec _)) fun h =>
      SparseCore.vectorStoreIdx m ![digits v (BitVec.ofNat 32 (8 * p))] (scanCount (broadcast (Vec1 16) 1#1) (digits v (BitVec.ofNat 32 (8 * p)))).2
        (scanCount (broadcast (Vec1 16) 1#1) (digits v (BitVec.ofNat 32 (8 * p)))).1 true (hP _ h.down) hs >>= fun _ => .ret z) :
    iprop(HoldTo c mk N K ∗ Hold c m (fun _ => 0))
      ⊢ iprop((∀ acc, HoldTo c mk N K -∗ Hold c m (fun b => BitVec.ofNat 32 (cnt D n b)) -∗ wp frame (wpE defs 𝒱 c bd) E (kk acc) Q)
      -∗ wp frame (wpE defs 𝒱 c bd) E (Scf.Loop.for l ok init body >>= kk) Q) := by
  unfold HoldTo
  iintro ⟨⟨%K', %hK, Hk⟩, H⟩ Hkk
  have hmain := Scf.wp_for_bind frame (wpE defs 𝒱 c bd) E l.lb l.ub l.st ok init body
    (fun t _ => iprop(Hold c mk K' ∗ Hold c m (fun b => BitVec.ofNat 32 (cnt D (16 * t) b)))) (fun t acc => by
      have htl : t.val < l.trips := t.isLt
      rw [hb]
      iintro ⟨Hk, H⟩
      iapply (wp_loadH 𝒱 c bd E (ho t)) $$ Hk
      iintro Hk
      iapply (wp_assume 𝒱 c bd E (hPi _ fun x => by rw [digits_toNat hp]; exact dg_lt _ _))
      iapply (wp_countH 𝒱 c bd E) $$ H
      iintro H
      rw [wp_ret]; imodintro
      isplitl [Hk]; · iexact Hk
      iapply Hold.mono' $$ H
      ipureintro; intro b _; beta_reduce
      rw [← BitVec.ofNat_add]; congr 1
      rw [Nat.mul_add, Nat.mul_one, cnt_add]; congr 1
      refine cnt_congr (fun j hj => ?_) b
      rw [cn_digits hp _ _ hj, hD _ (by omega), hK _ (by omega), Nat.add_assoc]) (kk := kk) (Q := Q)
  iapply hmain $$ [H Hk]
  · isplitl [Hk]; · iexact Hk
    iexact H
  iintro %acc ⟨Hk, H⟩
  iapply Hkk $$ %acc [Hk] [H]
  · iexists K'; isplitr
    · ipureintro; exact hK
    · iexact Hk
  · rw [show 16 * Scf.trips l.lb l.ub l.st = n from hT]; iexact H

/-! ## From counts to starting places -/

/-- How many of the first `n` digits are below `b`. -/
def below (n : ℕ) (D : ℕ → ℕ) (b : ℕ) : ℕ := ((Finset.range n).filter fun j => D j < b).card

theorem below_eq (n : ℕ) (D : ℕ → ℕ) : ∀ b, below n D b = ∑ k ∈ Finset.range b, cnt D n k
  | 0 => by simp [below]
  | b + 1 => by
    rw [Finset.sum_range_succ, ← below_eq n D b]
    unfold below cnt
    rw [← Finset.card_union_of_disjoint]
    · congr 1; ext x; simp only [Finset.mem_filter, Finset.mem_union, Finset.mem_range]; constructor
      · rintro ⟨h1, h2⟩
        rcases Nat.lt_or_ge (D x) b with h | h
        · exact .inl ⟨h1, h⟩
        · exact .inr ⟨h1, by omega⟩
      · rintro (⟨h1, h2⟩ | ⟨h1, h2⟩) <;> exact ⟨h1, by omega⟩
    · rw [Finset.disjoint_filter]; intro x _ h1 h2; omega

theorem below_add (n : ℕ) (D : ℕ → ℕ) (b : ℕ) : ∀ l, below n D (b + l) = below n D b + ∑ k ∈ Finset.range l, cnt D n (b + k)
  | 0 => by simp
  | l + 1 => by
    rw [Finset.sum_range_succ, ← Nat.add_assoc (below n D b), ← below_add n D b l, below_eq, below_eq, ← Nat.add_assoc, Finset.sum_range_succ]

theorem place_below (n : ℕ) (D : ℕ → ℕ) (x : ℕ) : place n D x = below n D (D x) + cnt D x (D x) := rfl

theorem prefix_loop {m : Memref sig c.2.kind .vmem (Vec1 256) .i32} {l : Scf.Loop 32} {ok : l.OK} {init : BitVec 32}
    {body : Fin l.trips → BitVec 32 → Prog (TpuEff nD τ sig (Elt F) Λ c.2) (BitVec 32)} {kk : BitVec 32 → Prog (TpuEff nD τ sig (Elt F) Λ c.2) α}
    {off : Fin l.trips → Fin 1 → ℕ} {inb : ∀ t, ∀ a, off t a + (![16] : Fin 1 → ℕ) a ≤ (Vec1 256).size a}
    {hl : ∀ t, m.view.LoadsAt (Rect.unit (s := Vec1 256) (off t) ![16] (inb t)).toLoadRect}
    {hx : ∀ t, (m.access (Rect.unit (s := Vec1 256) (off t) ![16] (inb t))).Stores Finset.univ}
    {hm : ∀ t, Finset.univ = Finset.univ ∨ ∀ a, (Rect.unit (s := Vec1 256) (off t) ![16] (inb t)).stride a = 1}
    {hpos : ∀ a, (![15] : Fin 1 → ℕ) a < (Vec1 16).size a}
    {n : ℕ} {D : ℕ → ℕ} (hT : l.trips = 16) (ho : ∀ t, off t = ![16 * t.val]) (hi : init = 0)
    (hb : ∀ t acc, body t acc = .op (.load m (Rect.unit (s := Vec1 256) (off t) ![16] (inb t)).toLoadRect (hl t)) fun v =>
      .op (.load m (Rect.unit (s := Vec1 256) (off t) ![16] (inb t)).toLoadRect (hl t)) fun _ =>
      .op (.store m (Rect.unit (s := Vec1 256) (off t) ![16] (inb t)) (addi (subi (scan .sum v) v) (broadcast (Vec1 16) acc)) Finset.univ (hx t) (hm t)) fun _ =>
      .ret (Scalar.addi acc (extractAt ![15] (scan .sum v) hpos))) :
    Hold c m (fun b => BitVec.ofNat 32 (cnt D n b))
      ⊢ iprop((∀ acc, Hold c m (fun b => BitVec.ofNat 32 (below n D b)) -∗ wp frame (wpE defs 𝒱 c bd) E (kk acc) Q)
      -∗ wp frame (wpE defs 𝒱 c bd) E (Scf.Loop.for l ok init body >>= kk) Q) := by
  have hmain := Scf.wp_for_bind frame (wpE defs 𝒱 c bd) E l.lb l.ub l.st ok init body
    (fun t acc => iprop(⌜acc = BitVec.ofNat 32 (below n D (16 * t))⌝
      ∗ Hold c m (fun b => if b < 16 * t then BitVec.ofNat 32 (below n D b) else BitVec.ofNat 32 (cnt D n b)))) (fun t acc => by
      rw [hb]
      iintro ⟨%hacc, H⟩
      iapply (wp_loadH 𝒱 c bd E (ho t)) $$ H
      iintro H
      iapply (wp_loadH 𝒱 c bd E (ho t)) $$ H
      iintro H
      iapply (wp_storeH 𝒱 c bd E (ho t)) $$ H
      iintro H
      have hv : ∀ l < 16, cn (vec (fun b => if b < 16 * t.val then BitVec.ofNat 32 (below n D b) else BitVec.ofNat 32 (cnt D n b)) (16 * t.val)) l
          = BitVec.ofNat 32 (cnt D n (16 * t.val + l)) := fun l hl => by
        rw [cn_vec _ _ hl, if_neg (by omega)]
      have hsc := fun l hl => cn_scan (l := l) _ (fun l => cnt D n (16 * t.val + l)) hv hl
      rw [wp_ret]; imodintro
      isplitr
      · ipureintro
        show acc + scan .sum _ (fun a => ⟨(![15] : Fin 1 → ℕ) a, _⟩) = _
        have h15 := hsc 15 (by omega)
        rw [cn_ix _ (by omega)] at h15
        have e : (fun a => ⟨(![15] : Fin 1 → ℕ) a, hpos a⟩ : (Vec1 16).Idx) = ix 15 (by omega) := by
          funext a; rw [Fin.eq_zero a]; rfl
        rw [e, h15, hacc, ← BitVec.ofNat_add, ← below_add, Nat.mul_add]
      · iapply Hold.mono' $$ H
        ipureintro; intro b _; beta_reduce
        by_cases h : 16 * t.val ≤ b ∧ b < 16 * t.val + 16
        · have hbl : b - 16 * t.val < 16 := by omega
          rw [if_pos h, if_pos (by omega), cn_ix _ hbl]
          show scan .sum _ (ix (b - 16 * t.val) hbl) - vec _ _ (ix (b - 16 * t.val) hbl) + acc = _
          rw [← cn_ix (scan .sum _) hbl, ← cn_ix (vec _ _) hbl, hsc _ hbl, hv _ hbl, hacc, Finset.sum_range_succ, BitVec.ofNat_add, BitVec.add_sub_cancel, BitVec.add_comm,
            ← BitVec.ofNat_add, ← below_add, show 16 * t.val + (b - 16 * t.val) = b by omega]
        · rw [if_neg h]
          by_cases hb' : b < 16 * t.val
          · rw [if_pos hb', if_pos (by omega)]
          · rw [if_neg hb', if_neg (by omega)]) (kk := kk) (Q := Q)
  iintro H Hk
  iapply hmain $$ [H]
  · isplitr
    · ipureintro; rw [hi]; simp [below]
    · iapply Hold.mono' $$ H; ipureintro; intro b _; beta_reduce; rw [if_neg (by omega)]
  iintro %acc ⟨-, H⟩
  iapply Hk $$ %acc
  iapply Hold.mono' $$ H
  ipureintro; intro b hb; beta_reduce
  have : Scf.trips l.lb l.ub l.st = 16 := hT
  rw [if_pos (by rw [this]; exact hb)]

/-! ## Moving the entries to their places -/

/-- The kernel's positions: the starting place of the digit, plus how often it came before. -/
theorem place_word {n : ℕ} (D : ℕ → ℕ) (G : ℕ → BitVec 32) (i : (Vec1 16).Idx → BitVec 32) (m : ℕ)
    (hi : ∀ l < 16, (cn i l).toNat = D (m + l)) (hG : ∀ l < 16, G (D (m + l)) = BitVec.ofNat 32 (below n D (D (m + l)) + cnt D m (D (m + l))))
    {l : ℕ} (hl : l < 16) :
    cn (subi (addi (fun x => G (i x).toNat) (scanCount (broadcast (Vec1 16) 1#1) i).2) (broadcast (Vec1 16) 1#32)) l
      = BitVec.ofNat 32 (place n D (m + l)) := by
  rw [cn_ix _ hl]
  show G (i (ix l hl)).toNat + (scanCount (broadcast (Vec1 16) 1#1) i).2 (ix l hl) - 1#32 = _
  rw [← cn_ix i hl, hi l hl, hG l hl, scanCount_count, cnt_succ]
  have e : cnt (fun l => (cn i l).toNat) l (cn i l).toNat = cnt (fun j => D (m + j)) l (D (m + l)) := by
    rw [hi l hl]; exact cnt_congr (fun j hj => hi j (by omega)) _
  rw [e, if_pos rfl, ← BitVec.ofNat_add, ← Nat.add_assoc, BitVec.ofNat_add _ 1, BitVec.add_sub_cancel, place_below, cnt_add, Nat.add_assoc]

/-- A buffer being filled through `pos`: the first `T` entries are in place. -/
def Put {n : ℕ} (m : Memref sig c.2.kind .vmem (Vec1 n) .i32) (pos : ℕ → ℕ) (V : ℕ → BitVec 32) (T : ℕ) : sProp 𝕄 :=
  iprop(∃ G, ⌜∀ j < T, G (pos j) = V j⌝ ∗ Hold c m G)

theorem put_step {nb n : ℕ} {m : Memref sig c.2.kind .vmem (Vec1 nb) .i32} {pos : ℕ → ℕ} {V : ℕ → BitVec 32} {T : ℕ}
    (hinj : Inj n pos) (hlt : ∀ j < n, pos j < nb) (hT : T + 16 ≤ n) (hn : n ≤ 2 ^ 32) (hnb : nb ≤ 2 ^ 32)
    {i v : (Vec1 16).Idx → BitVec 32} (hi : ∀ l < 16, cn i l = BitVec.ofNat 32 (pos (T + l))) (hv : ∀ l < 16, cn v l = V (T + l))
    {hP : ∀ (a : Fin 1) x, ((![i] : Fin 1 → IVec (Vec1 16) 32) a x).toNat < (Vec1 nb).size a} {hs : (m.access (.whole (Vec1 nb))).Stores Finset.univ}
    {k : PUnit → Prog (TpuEff nD τ sig (Elt F) Λ c.2) α} :
    Put c m pos V T ⊢ iprop((Put c m pos V (T + 16) -∗ wp frame (wpE defs 𝒱 c bd) E (k ⟨⟩) Q)
      -∗ wp frame (wpE defs 𝒱 c bd) E (SparseCore.vectorStoreIdx m ![i] v (fun _ => 1#1) false hP hs >>= k) Q) := by
  have hi' : ∀ l < 16, (cn i l).toNat = pos (T + l) := fun l hl => by
    rw [hi l hl, BitVec.toNat_ofNat, Nat.mod_eq_of_lt]; exact Nat.lt_of_lt_of_le (hlt _ (by omega)) hnb
  unfold Put
  iintro ⟨%G, %hG, H⟩ Hk
  iapply (wp_storeIdxH 𝒱 c bd E (fun l hl l' hl' h => by
    rw [hi' l hl, hi' l' hl'] at h
    have := hinj _ (by omega) _ (by omega) h; omega)) $$ H
  iintro %G' %hG' H
  iapply Hk
  iexists G'; isplitr
  · ipureintro; intro j hj
    by_cases h : j < T
    · rw [hG'.2 _ (hlt _ (by omega)) (fun l hl => by
        rw [hi' l hl]; intro h'; have := hinj _ (by omega) _ (by omega) h'; omega), hG j h]
    · have e : T + (j - T) = j := by omega
      have := hG'.1 (j - T) (by omega)
      rw [hi' _ (by omega), hv _ (by omega), e] at this
      exact this
  · iexact H

/-- Everything in place: the buffer is what the entries make it. -/
theorem Put.done {nb n : ℕ} {m : Memref sig c.2.kind .vmem (Vec1 nb) .i32} {pos : ℕ → ℕ} {V W : ℕ → BitVec 32}
    (hinj : Inj n pos) (hlt : ∀ j < n, pos j < n) (hW : ∀ j < n, V j = W (pos j)) :
    (Put c m pos V n : sProp 𝕄) ⊢ HoldTo c m n W := by
  unfold Put HoldTo
  iintro ⟨%G, %hG, H⟩
  iexists G; isplitr
  · ipureintro; intro y hy
    obtain ⟨j, hj, rfl⟩ := surj_of_inj hinj hlt hy
    rw [hG j hj, hW j hj]
  · iexact H

theorem Put.start {nb : ℕ} {m : Memref sig c.2.kind .vmem (Vec1 nb) .i32} {pos : ℕ → ℕ} {V : ℕ → BitVec 32} :
    (HoldTo c m 0 (fun _ => 0) : sProp 𝕄) ⊢ Put c m pos V (16 * 0) := by
  unfold Put HoldTo
  iintro ⟨%G, -, H⟩
  iexists G; isplitr
  · ipureintro; intro j hj; omega
  · iexact H

/-- The end of a moving trip, from the digits on: `mid` stores the entries at their places. -/
theorem move_step {m : Memref sig c.2.kind .vmem (Vec1 256) .i32}
    {P P' : IVec (Vec1 16) 32 → Prop} {dec : ∀ v, Decidable (P v)} {dec' : ∀ v, Decidable (P' v)}
    {hP : ∀ v, P v → ∀ (a : Fin 1) x, ((![v] : Fin 1 → IVec (Vec1 16) 32) a x).toNat < (Vec1 256).size a}
    {hPs : ∀ v, P v → ∀ (a : Fin 1) x, ((![v] : Fin 1 → IVec (Vec1 16) 32) a x).toNat < (Vec1 256).size a}
    {hs : (m.access (.whole (Vec1 256))).Stores Finset.univ} {hl : m.view.Loads} {z : BitVec 32}
    (mid : (v : IVec (Vec1 16) 32) → P' v → Prog (TpuEff nD τ sig (Elt F) Λ c.2) PUnit) {R R' : sProp 𝕄}
    {n nb : ℕ} {D : ℕ → ℕ} {T : ℕ} (hn : n ≤ nb) (hnb : nb ≤ 2 ^ 32) (hT : T + 16 ≤ n) (d : IVec (Vec1 16) 32) (hd : ∀ l < 16, (cn d l).toNat = D (T + l))
    (hD : ∀ j < n, D j < 256)
    (hPi : ∀ v : IVec (Vec1 16) 32, (∀ x, (v x).toNat < 256) → P v) (hPi' : ∀ v : IVec (Vec1 16) 32, (∀ x, (v x).toNat < nb) → P' v)
    (hmid : ∀ {k : PUnit → Prog (TpuEff nD τ sig (Elt F) Λ c.2) (BitVec 32)} (pos : IVec (Vec1 16) 32) (h : P' pos) {Q : BitVec 32 → sProp 𝕄},
      (∀ l < 16, cn pos l = BitVec.ofNat 32 (place n D (T + l))) →
      R ⊢ iprop((R' -∗ wp frame (wpE defs 𝒱 c bd) E (k ⟨⟩) Q) -∗ wp frame (wpE defs 𝒱 c bd) E (mid pos h >>= k) Q))
    {Q : BitVec 32 → sProp 𝕄} :
    iprop(Hold c m (fun b => BitVec.ofNat 32 (below n D b + cnt D T b)) ∗ R)
      ⊢ iprop((Hold c m (fun b => BitVec.ofNat 32 (below n D b + cnt D (T + 16) b)) -∗ R' -∗ wp frame (wpE defs 𝒱 c bd) E (.ret z) Q)
      -∗ wp frame (wpE defs 𝒱 c bd) E (.op (.assume (P d) (dec _)) fun h =>
        SparseCore.vectorLoadIdx m ![d] (hP _ h.down) hl >>= fun g =>
        .op (.assume (P' (subi (addi g (scanCount (broadcast (Vec1 16) 1#1) d).2) (broadcast (Vec1 16) 1#32))) (dec' _)) fun h' =>
        mid (subi (addi g (scanCount (broadcast (Vec1 16) 1#1) d).2) (broadcast (Vec1 16) 1#32)) h'.down >>= fun _ =>
        SparseCore.vectorStoreIdx m ![d] (scanCount (broadcast (Vec1 16) 1#1) d).2
          (scanCount (broadcast (Vec1 16) 1#1) d).1 true (hPs _ h.down) hs >>= fun _ => .ret z) Q) := by
  have hw := fun {l} (hl : l < 16) => place_word (n := n) D (fun b => BitVec.ofNat 32 (below n D b + cnt D T b)) d T hd (fun _ _ => rfl) hl
  iintro ⟨H, HR⟩ Hk
  iapply (wp_assume 𝒱 c bd E (hPi _ fun x => by
    obtain ⟨j, hj, rfl⟩ := eq_ix x
    rw [← cn_ix d, hd _ hj]; exact hD _ (by omega)))
  iapply (wp_loadIdxH 𝒱 c bd E) $$ H
  iintro H
  iapply (wp_assume 𝒱 c bd E (hPi' _ fun x => by
    obtain ⟨j, hj, rfl⟩ := eq_ix x
    refine lt_of_eq_of_lt (congrArg BitVec.toNat ((cn_ix _ hj).symm.trans (hw hj))) ?_
    have := place_lt (D := D) (show T + j < n by omega)
    rw [BitVec.toNat_ofNat, Nat.mod_eq_of_lt (by omega)]; omega))
  iapply (hmid _ _ (fun l hl => hw hl)) $$ HR
  iintro HR
  iapply (wp_countH 𝒱 c bd E) $$ H
  iintro H
  iapply Hk $$ [H] HR
  iapply Hold.mono' $$ H
  ipureintro; intro b _; beta_reduce
  rw [← BitVec.ofNat_add]; congr 1
  rw [cnt_add, ← Nat.add_assoc]; congr 1
  exact cnt_congr (fun j hj => hd j hj) b

/-! The three moves: from the keys with the entry numbers made on the way, between the two buffer pairs, and the last, numbers only. -/

theorem move_first {nk nb : ℕ} {mk : Memref sig c.2.kind .vmem (Vec1 nk) .i32} {m : Memref sig c.2.kind .vmem (Vec1 256) .i32}
    {mk' : Memref sig c.2.kind .vmem (Vec1 nb) .i32} {mi' : Memref sig c.2.kind .vmem (Vec1 nb) .i32}
    {l : Scf.Loop 32} {ok : l.OK} {init : BitVec 32}
    {body : Fin l.trips → BitVec 32 → Prog (TpuEff nD τ sig (Elt F) Λ c.2) (BitVec 32)} {kk : BitVec 32 → Prog (TpuEff nD τ sig (Elt F) Λ c.2) α}
    {off : Fin l.trips → Fin 1 → ℕ} {inb : ∀ t, ∀ a, off t a + (![16] : Fin 1 → ℕ) a ≤ (Vec1 nk).size a}
    {hl : ∀ t, mk.view.LoadsAt (Rect.unit (s := Vec1 nk) (off t) ![16] (inb t)).toLoadRect}
    {P P' : IVec (Vec1 16) 32 → Prop} {dec : ∀ v, Decidable (P v)} {dec' : ∀ v, Decidable (P' v)}
    {hP hPs : ∀ v, P v → ∀ (a : Fin 1) x, ((![v] : Fin 1 → IVec (Vec1 16) 32) a x).toNat < (Vec1 256).size a}
    {hP₁ hP₂ : ∀ v, P' v → ∀ (a : Fin 1) x, ((![v] : Fin 1 → IVec (Vec1 16) 32) a x).toNat < (Vec1 nb).size a}
    {hs : (m.access (.whole (Vec1 256))).Stores Finset.univ} {hlx : m.view.Loads}
    {hsk : (mk'.access (.whole (Vec1 nb))).Stores Finset.univ}
    {hsi : (mi'.access (.whole (Vec1 nb))).Stores Finset.univ} {z : BitVec 32}
    (base n p : ℕ) {N : ℕ} (hN : base + n ≤ N) (hp : p < 4) {K : ℕ → BitVec 32} (D : ℕ → ℕ) (hD : ∀ j < n, D j = dg p (K (base + j))) (hn : n ≤ nb) (hnb : nb ≤ 2 ^ 32)
    (K' : ℕ → BitVec 32) (hK' : ∀ j < n, K (base + j) = K' (place n D j))
    (V : Fin l.trips → IVec (Vec1 16) 32) (hV : ∀ t, ∀ i < 16, cn (V t) i = BitVec.ofNat 32 (16 * t.val + i))
    (I' : ℕ → BitVec 32) (hI' : ∀ j < n, BitVec.ofNat 32 j = I' (place n D j))
    (hT : 16 * l.trips = n) (ho : ∀ t, off t = ![base + 16 * t.val])
    (hPi : ∀ v : IVec (Vec1 16) 32, (∀ x, (v x).toNat < 256) → P v) (hPi' : ∀ v : IVec (Vec1 16) 32, (∀ x, (v x).toNat < nb) → P' v)
    (hb : ∀ t acc, body t acc = .op (.load mk (Rect.unit (s := Vec1 nk) (off t) ![16] (inb t)).toLoadRect (hl t)) fun v =>
      .op (.assume (P (digits v (BitVec.ofNat 32 (8 * p)))) (dec _)) fun h =>
      SparseCore.vectorLoadIdx m ![digits v (BitVec.ofNat 32 (8 * p))] (hP _ h.down) hlx >>= fun g =>
      .op (.assume (P' (subi (addi g (scanCount (broadcast (Vec1 16) 1#1) (digits v (BitVec.ofNat 32 (8 * p)))).2) (broadcast (Vec1 16) 1#32))) (dec' _)) fun h' =>
      SparseCore.vectorStoreIdx mk' ![subi (addi g (scanCount (broadcast (Vec1 16) 1#1) (digits v (BitVec.ofNat 32 (8 * p)))).2) (broadcast (Vec1 16) 1#32)] v (fun _ => 1#1) false (hP₂ _ h'.down) hsk >>= fun _ =>
      SparseCore.vectorStoreIdx mi' ![subi (addi g (scanCount (broadcast (Vec1 16) 1#1) (digits v (BitVec.ofNat 32 (8 * p)))).2) (broadcast (Vec1 16) 1#32)] (V t) (fun _ => 1#1) false (hP₁ _ h'.down) hsi >>= fun _ =>
      SparseCore.vectorStoreIdx m ![digits v (BitVec.ofNat 32 (8 * p))] (scanCount (broadcast (Vec1 16) 1#1) (digits v (BitVec.ofNat 32 (8 * p)))).2 (scanCount (broadcast (Vec1 16) 1#1) (digits v (BitVec.ofNat 32 (8 * p)))).1 true
        (hPs _ h.down) hs >>= fun _ => .ret z) :
    iprop(HoldTo c mk N K ∗ Hold c m (fun b => BitVec.ofNat 32 (below n D b)) ∗ HoldTo c mk' 0 (fun _ => 0) ∗ HoldTo c mi' 0 (fun _ => 0))
      ⊢ iprop((∀ acc, HoldTo c mk N K -∗ HoldTo c m 0 (fun _ => 0) -∗ HoldTo c mk' n K' -∗ HoldTo c mi' n I' -∗ wp frame (wpE defs 𝒱 c bd) E (kk acc) Q)
      -∗ wp frame (wpE defs 𝒱 c bd) E (Scf.Loop.for l ok init body >>= kk) Q) := by
  have hinj : Inj n (place n D) := place_inj
  have hDlt : ∀ j < n, D j < 256 := fun j hj => by rw [hD j hj]; exact dg_lt _ _
  have hpl : ∀ j < n, place n D j < n := fun j hj => place_lt hj
  iintro ⟨H0, H1, H2, H3⟩ Hkk
  ihave Hk := (show HoldTo c mk N K ⊢ iprop(∃ G', ⌜∀ j < N, G' j = K j⌝ ∗ Hold c mk G') from .rfl) $$ H0
  icases Hk with ⟨%K₀, %hK, Hk⟩
  have hmain := Scf.wp_for_bind frame (wpE defs 𝒱 c bd) E l.lb l.ub l.st ok init body
    (fun t _ => iprop(Hold c mk K₀ ∗ Hold c m (fun b => BitVec.ofNat 32 (below n D b + cnt D (16 * t) b)) ∗ Put c mk' (place n D) (fun j => K (base + j)) (16 * t) ∗ Put c mi' (place n D) (fun j => BitVec.ofNat 32 j) (16 * t))) (fun t acc => by
      have htl : t.val < l.trips := t.isLt
      rw [hb]
      iintro ⟨Hk, H, Hk', Hi'⟩
      iapply (wp_loadH 𝒱 c bd E (ho t)) $$ Hk
      iintro Hk
      have hms := move_step (F := F) (defs := defs) (Ix := Ix) (Name := Name) (U := U) (Lvl := Lvl) 𝒱 c bd E (m := m) (dec := dec) (dec' := dec') (hP := hP) (hPs := hPs) (hs := hs) (hl := hlx) (z := z) (n := n) (nb := nb) (D := D) (T := 16 * t.val)
        (R := iprop(Put c mk' (place n D) (fun j => K (base + j)) (16 * t.val) ∗ Put c mi' (place n D) (fun j => BitVec.ofNat 32 j) (16 * t.val)))
        (R' := iprop(Put c mk' (place n D) (fun j => K (base + j)) (16 * t.val + 16) ∗ Put c mi' (place n D) (fun j => BitVec.ofNat 32 j) (16 * t.val + 16)))
        (fun pos h => SparseCore.vectorStoreIdx mk' ![pos] (vec K₀ (base + 16 * t.val)) (fun _ => 1#1) false (hP₂ _ h) hsk >>= fun _ =>
        SparseCore.vectorStoreIdx mi' ![pos] (V t) (fun _ => 1#1) false (hP₁ _ h) hsi)
        hn hnb (by omega) (digits (vec K₀ (base + 16 * t.val)) (BitVec.ofNat 32 (8 * p))) (fun l hl => by
          rw [cn_digits hp _ _ hl, hD _ (by omega), hK _ (by omega), Nat.add_assoc]) hDlt hPi hPi' (fun {k} pos h {Q} hpos => by
          iintro ⟨Hk', Hi'⟩ Hkk
          simp only [bind_assoc]
          iapply (put_step 𝒱 c bd E (pos := place n D) (V := fun j => K (base + j)) (T := 16 * t.val) hinj (fun j hj => Nat.lt_of_lt_of_le (hpl j hj) hn) (by omega) (by omega) hnb hpos (fun l hl => (by rw [cn_vec _ _ hl, Nat.add_assoc, hK _ (by omega)]))) $$ Hk'
          iintro Hk'
          have h2 := put_step (F := F) (defs := defs) (Ix := Ix) (Name := Name) (U := U) (Lvl := Lvl) 𝒱 c bd E (m := mi') (i := pos) (v := V t) (hP := hP₁ _ h) (hs := hsi) (k := k) (Q := Q) (pos := place n D) (V := fun j => BitVec.ofNat 32 j) (T := 16 * t.val) hinj (fun j hj => Nat.lt_of_lt_of_le (hpl j hj) hn) (by omega) (by omega) hnb hpos (fun l hl => hV t l hl)
          iapply h2 $$ Hi'
          iintro Hi'
          iapply Hkk
          isplitl [Hk']; · iexact Hk'
          iexact Hi')
        (Q := fun acc => iprop(Hold c mk K₀ ∗ Hold c m (fun b => BitVec.ofNat 32 (below n D b + cnt D (16 * (t.val + 1)) b)) ∗ Put c mk' (place n D) (fun j => K (base + j)) (16 * (t.val + 1)) ∗ Put c mi' (place n D) (fun j => BitVec.ofNat 32 j) (16 * (t.val + 1))))
      simp only [bind_assoc] at hms
      iapply hms $$ [H Hk' Hi']
      · isplitl [H]; · iexact H
        isplitl [Hk']; · iexact Hk'
        iexact Hi'
      iintro H ⟨Hk', Hi'⟩
      rw [wp_ret]; imodintro
      isplitl [Hk]; · iexact Hk
      isplitl [H]; · iexact H
      isplitl [Hk']; · iexact Hk'
      iexact Hi') (kk := kk) (Q := Q)
  iapply hmain $$ [Hk H1 H2 H3]
  · isplitl [Hk]; · iexact Hk
    isplitl [H1]; · iapply Hold.mono' $$ H1; ipureintro; intro b _; simp [cnt]
    isplitl [H2]; · iapply (Put.start _); iexact H2
    iapply (Put.start _); iexact H3
  iintro %acc ⟨Hk, H, Hk', Hi'⟩
  have hT' : 16 * Scf.trips l.lb l.ub l.st = n := hT
  rw [hT']
  iapply Hkk $$ %acc [Hk] [H] [Hk'] [Hi']
  · unfold HoldTo; iexists K₀; isplitr
    · ipureintro; exact hK
    · iexact Hk
  · iapply (HoldTo.of (fun j hj => absurd hj (Nat.not_lt_zero j))); iexact H
  · iapply (Put.done _ hinj hpl hK'); iexact Hk'
  · iapply (Put.done _ hinj hpl hI'); iexact Hi'

theorem move_mid {nk nb : ℕ} {mk : Memref sig c.2.kind .vmem (Vec1 nk) .i32} {m : Memref sig c.2.kind .vmem (Vec1 256) .i32}
    {mi : Memref sig c.2.kind .vmem (Vec1 nk) .i32} {mk' : Memref sig c.2.kind .vmem (Vec1 nb) .i32} {mi' : Memref sig c.2.kind .vmem (Vec1 nb) .i32}
    {l : Scf.Loop 32} {ok : l.OK} {init : BitVec 32}
    {body : Fin l.trips → BitVec 32 → Prog (TpuEff nD τ sig (Elt F) Λ c.2) (BitVec 32)} {kk : BitVec 32 → Prog (TpuEff nD τ sig (Elt F) Λ c.2) α}
    {off : Fin l.trips → Fin 1 → ℕ} {inb : ∀ t, ∀ a, off t a + (![16] : Fin 1 → ℕ) a ≤ (Vec1 nk).size a}
    {hl : ∀ t, mk.view.LoadsAt (Rect.unit (s := Vec1 nk) (off t) ![16] (inb t)).toLoadRect}
    {hli : ∀ t, mi.view.LoadsAt (Rect.unit (s := Vec1 nk) (off t) ![16] (inb t)).toLoadRect}
    {P P' : IVec (Vec1 16) 32 → Prop} {dec : ∀ v, Decidable (P v)} {dec' : ∀ v, Decidable (P' v)}
    {hP hPs : ∀ v, P v → ∀ (a : Fin 1) x, ((![v] : Fin 1 → IVec (Vec1 16) 32) a x).toNat < (Vec1 256).size a}
    {hP₁ hP₂ : ∀ v, P' v → ∀ (a : Fin 1) x, ((![v] : Fin 1 → IVec (Vec1 16) 32) a x).toNat < (Vec1 nb).size a}
    {hs : (m.access (.whole (Vec1 256))).Stores Finset.univ} {hlx : m.view.Loads}
    {hsk : (mk'.access (.whole (Vec1 nb))).Stores Finset.univ}
    {hsi : (mi'.access (.whole (Vec1 nb))).Stores Finset.univ} {z : BitVec 32}
    (n p : ℕ) (hp : p < 4) {K : ℕ → BitVec 32} (D : ℕ → ℕ) (hD : ∀ j < n, D j = dg p (K j)) (hn : n ≤ nb) (hnb : nb ≤ 2 ^ 32)
    (K' : ℕ → BitVec 32) (hK' : ∀ j < n, K j = K' (place n D j))
    {I : ℕ → BitVec 32} (I' : ℕ → BitVec 32) (hI' : ∀ j < n, I j = I' (place n D j))
    (hT : 16 * l.trips = n) (ho : ∀ t, off t = ![16 * t.val])
    (hPi : ∀ v : IVec (Vec1 16) 32, (∀ x, (v x).toNat < 256) → P v) (hPi' : ∀ v : IVec (Vec1 16) 32, (∀ x, (v x).toNat < nb) → P' v)
    (hb : ∀ t acc, body t acc = .op (.load mk (Rect.unit (s := Vec1 nk) (off t) ![16] (inb t)).toLoadRect (hl t)) fun v =>
      .op (.load mi (Rect.unit (s := Vec1 nk) (off t) ![16] (inb t)).toLoadRect (hli t)) fun vi =>
      .op (.assume (P (digits v (BitVec.ofNat 32 (8 * p)))) (dec _)) fun h =>
      SparseCore.vectorLoadIdx m ![digits v (BitVec.ofNat 32 (8 * p))] (hP _ h.down) hlx >>= fun g =>
      .op (.assume (P' (subi (addi g (scanCount (broadcast (Vec1 16) 1#1) (digits v (BitVec.ofNat 32 (8 * p)))).2) (broadcast (Vec1 16) 1#32))) (dec' _)) fun h' =>
      SparseCore.vectorStoreIdx mk' ![subi (addi g (scanCount (broadcast (Vec1 16) 1#1) (digits v (BitVec.ofNat 32 (8 * p)))).2) (broadcast (Vec1 16) 1#32)] v (fun _ => 1#1) false (hP₂ _ h'.down) hsk >>= fun _ =>
      SparseCore.vectorStoreIdx mi' ![subi (addi g (scanCount (broadcast (Vec1 16) 1#1) (digits v (BitVec.ofNat 32 (8 * p)))).2) (broadcast (Vec1 16) 1#32)] vi (fun _ => 1#1) false (hP₁ _ h'.down) hsi >>= fun _ =>
      SparseCore.vectorStoreIdx m ![digits v (BitVec.ofNat 32 (8 * p))] (scanCount (broadcast (Vec1 16) 1#1) (digits v (BitVec.ofNat 32 (8 * p)))).2 (scanCount (broadcast (Vec1 16) 1#1) (digits v (BitVec.ofNat 32 (8 * p)))).1 true
        (hPs _ h.down) hs >>= fun _ => .ret z) :
    iprop(HoldTo c mk (n) K ∗ HoldTo c mi n I ∗ Hold c m (fun b => BitVec.ofNat 32 (below n D b)) ∗ HoldTo c mk' 0 (fun _ => 0) ∗ HoldTo c mi' 0 (fun _ => 0))
      ⊢ iprop((∀ acc, HoldTo c mk (n) K -∗ HoldTo c mi n I -∗ HoldTo c m 0 (fun _ => 0) -∗ HoldTo c mk' n K' -∗ HoldTo c mi' n I' -∗ wp frame (wpE defs 𝒱 c bd) E (kk acc) Q)
      -∗ wp frame (wpE defs 𝒱 c bd) E (Scf.Loop.for l ok init body >>= kk) Q) := by
  have hinj : Inj n (place n D) := place_inj
  have hDlt : ∀ j < n, D j < 256 := fun j hj => by rw [hD j hj]; exact dg_lt _ _
  have hpl : ∀ j < n, place n D j < n := fun j hj => place_lt hj
  iintro ⟨H0, H1, H2, H3, H4⟩ Hkk
  ihave Hk := (show HoldTo c mk (n) K ⊢ iprop(∃ G', ⌜∀ j < n, G' j = K j⌝ ∗ Hold c mk G') from .rfl) $$ H0
  icases Hk with ⟨%K₀, %hK, Hk⟩
  ihave Hi := (show HoldTo c mi n I ⊢ iprop(∃ G', ⌜∀ j < n, G' j = I j⌝ ∗ Hold c mi G') from .rfl) $$ H1
  icases Hi with ⟨%I₀, %hI, Hi⟩
  have hmain := Scf.wp_for_bind frame (wpE defs 𝒱 c bd) E l.lb l.ub l.st ok init body
    (fun t _ => iprop(Hold c mk K₀ ∗ Hold c mi I₀ ∗ Hold c m (fun b => BitVec.ofNat 32 (below n D b + cnt D (16 * t) b)) ∗ Put c mk' (place n D) (fun j => K j) (16 * t) ∗ Put c mi' (place n D) (fun j => I j) (16 * t))) (fun t acc => by
      have htl : t.val < l.trips := t.isLt
      rw [hb]
      iintro ⟨Hk, Hi, H, Hk', Hi'⟩
      iapply (wp_loadH 𝒱 c bd E (ho t)) $$ Hk
      iintro Hk
      iapply (wp_loadH 𝒱 c bd E (ho t)) $$ Hi
      iintro Hi
      have hms := move_step (F := F) (defs := defs) (Ix := Ix) (Name := Name) (U := U) (Lvl := Lvl) 𝒱 c bd E (m := m) (dec := dec) (dec' := dec') (hP := hP) (hPs := hPs) (hs := hs) (hl := hlx) (z := z) (n := n) (nb := nb) (D := D) (T := 16 * t.val)
        (R := iprop(Put c mk' (place n D) (fun j => K j) (16 * t.val) ∗ Put c mi' (place n D) (fun j => I j) (16 * t.val)))
        (R' := iprop(Put c mk' (place n D) (fun j => K j) (16 * t.val + 16) ∗ Put c mi' (place n D) (fun j => I j) (16 * t.val + 16)))
        (fun pos h => SparseCore.vectorStoreIdx mk' ![pos] (vec K₀ (16 * t.val)) (fun _ => 1#1) false (hP₂ _ h) hsk >>= fun _ =>
        SparseCore.vectorStoreIdx mi' ![pos] (vec I₀ (16 * t.val)) (fun _ => 1#1) false (hP₁ _ h) hsi)
        hn hnb (by omega) (digits (vec K₀ (16 * t.val)) (BitVec.ofNat 32 (8 * p))) (fun l hl => by
          rw [cn_digits hp _ _ hl, hD _ (by omega), hK _ (by omega)]) hDlt hPi hPi' (fun {k} pos h {Q} hpos => by
          iintro ⟨Hk', Hi'⟩ Hkk
          simp only [bind_assoc]
          iapply (put_step 𝒱 c bd E (pos := place n D) (V := fun j => K j) (T := 16 * t.val) hinj (fun j hj => Nat.lt_of_lt_of_le (hpl j hj) hn) (by omega) (by omega) hnb hpos (fun l hl => (by rw [cn_vec _ _ hl, hK _ (by omega)]))) $$ Hk'
          iintro Hk'
          have h2 := put_step (F := F) (defs := defs) (Ix := Ix) (Name := Name) (U := U) (Lvl := Lvl) 𝒱 c bd E (m := mi') (i := pos) (v := vec I₀ (16 * t.val)) (hP := hP₁ _ h) (hs := hsi) (k := k) (Q := Q) (pos := place n D) (V := fun j => I j) (T := 16 * t.val) hinj (fun j hj => Nat.lt_of_lt_of_le (hpl j hj) hn) (by omega) (by omega) hnb hpos (fun l hl => (by rw [cn_vec _ _ hl, hI _ (by omega)]))
          iapply h2 $$ Hi'
          iintro Hi'
          iapply Hkk
          isplitl [Hk']; · iexact Hk'
          iexact Hi')
        (Q := fun acc => iprop(Hold c mk K₀ ∗ Hold c mi I₀ ∗ Hold c m (fun b => BitVec.ofNat 32 (below n D b + cnt D (16 * (t.val + 1)) b)) ∗ Put c mk' (place n D) (fun j => K j) (16 * (t.val + 1)) ∗ Put c mi' (place n D) (fun j => I j) (16 * (t.val + 1))))
      simp only [bind_assoc] at hms
      iapply hms $$ [H Hk' Hi']
      · isplitl [H]; · iexact H
        isplitl [Hk']; · iexact Hk'
        iexact Hi'
      iintro H ⟨Hk', Hi'⟩
      rw [wp_ret]; imodintro
      isplitl [Hk]; · iexact Hk
      isplitl [Hi]; · iexact Hi
      isplitl [H]; · iexact H
      isplitl [Hk']; · iexact Hk'
      iexact Hi') (kk := kk) (Q := Q)
  iapply hmain $$ [Hk Hi H2 H3 H4]
  · isplitl [Hk]; · iexact Hk
    isplitl [Hi]; · iexact Hi
    isplitl [H2]; · iapply Hold.mono' $$ H2; ipureintro; intro b _; simp [cnt]
    isplitl [H3]; · iapply (Put.start _); iexact H3
    iapply (Put.start _); iexact H4
  iintro %acc ⟨Hk, Hi, H, Hk', Hi'⟩
  have hT' : 16 * Scf.trips l.lb l.ub l.st = n := hT
  rw [hT']
  iapply Hkk $$ %acc [Hk] [Hi] [H] [Hk'] [Hi']
  · unfold HoldTo; iexists K₀; isplitr
    · ipureintro; exact hK
    · iexact Hk
  · unfold HoldTo; iexists I₀; isplitr
    · ipureintro; exact hI
    · iexact Hi
  · iapply (HoldTo.of (fun j hj => absurd hj (Nat.not_lt_zero j))); iexact H
  · iapply (Put.done _ hinj hpl hK'); iexact Hk'
  · iapply (Put.done _ hinj hpl hI'); iexact Hi'

theorem move_last {nk nb : ℕ} {mk : Memref sig c.2.kind .vmem (Vec1 nk) .i32} {m : Memref sig c.2.kind .vmem (Vec1 256) .i32}
    {mi : Memref sig c.2.kind .vmem (Vec1 nk) .i32} {mi' : Memref sig c.2.kind .vmem (Vec1 nb) .i32}
    {l : Scf.Loop 32} {ok : l.OK} {init : BitVec 32}
    {body : Fin l.trips → BitVec 32 → Prog (TpuEff nD τ sig (Elt F) Λ c.2) (BitVec 32)} {kk : BitVec 32 → Prog (TpuEff nD τ sig (Elt F) Λ c.2) α}
    {off : Fin l.trips → Fin 1 → ℕ} {inb : ∀ t, ∀ a, off t a + (![16] : Fin 1 → ℕ) a ≤ (Vec1 nk).size a}
    {hl : ∀ t, mk.view.LoadsAt (Rect.unit (s := Vec1 nk) (off t) ![16] (inb t)).toLoadRect}
    {hli : ∀ t, mi.view.LoadsAt (Rect.unit (s := Vec1 nk) (off t) ![16] (inb t)).toLoadRect}
    {P P' : IVec (Vec1 16) 32 → Prop} {dec : ∀ v, Decidable (P v)} {dec' : ∀ v, Decidable (P' v)}
    {hP hPs : ∀ v, P v → ∀ (a : Fin 1) x, ((![v] : Fin 1 → IVec (Vec1 16) 32) a x).toNat < (Vec1 256).size a}
    {hP₁ : ∀ v, P' v → ∀ (a : Fin 1) x, ((![v] : Fin 1 → IVec (Vec1 16) 32) a x).toNat < (Vec1 nb).size a}
    {hs : (m.access (.whole (Vec1 256))).Stores Finset.univ} {hlx : m.view.Loads}
    {hsi : (mi'.access (.whole (Vec1 nb))).Stores Finset.univ} {z : BitVec 32}
    (n p : ℕ) (hp : p < 4) {K : ℕ → BitVec 32} (D : ℕ → ℕ) (hD : ∀ j < n, D j = dg p (K j)) (hn : n ≤ nb) (hnb : nb ≤ 2 ^ 32)
    {I : ℕ → BitVec 32} (I' : ℕ → BitVec 32) (hI' : ∀ j < n, I j = I' (place n D j))
    (hT : 16 * l.trips = n) (ho : ∀ t, off t = ![16 * t.val])
    (hPi : ∀ v : IVec (Vec1 16) 32, (∀ x, (v x).toNat < 256) → P v) (hPi' : ∀ v : IVec (Vec1 16) 32, (∀ x, (v x).toNat < nb) → P' v)
    (hb : ∀ t acc, body t acc = .op (.load mk (Rect.unit (s := Vec1 nk) (off t) ![16] (inb t)).toLoadRect (hl t)) fun v =>
      .op (.load mi (Rect.unit (s := Vec1 nk) (off t) ![16] (inb t)).toLoadRect (hli t)) fun vi =>
      .op (.assume (P (digits v (BitVec.ofNat 32 (8 * p)))) (dec _)) fun h =>
      SparseCore.vectorLoadIdx m ![digits v (BitVec.ofNat 32 (8 * p))] (hP _ h.down) hlx >>= fun g =>
      .op (.assume (P' (subi (addi g (scanCount (broadcast (Vec1 16) 1#1) (digits v (BitVec.ofNat 32 (8 * p)))).2) (broadcast (Vec1 16) 1#32))) (dec' _)) fun h' =>
      SparseCore.vectorStoreIdx mi' ![subi (addi g (scanCount (broadcast (Vec1 16) 1#1) (digits v (BitVec.ofNat 32 (8 * p)))).2) (broadcast (Vec1 16) 1#32)] vi (fun _ => 1#1) false (hP₁ _ h'.down) hsi >>= fun _ =>
      SparseCore.vectorStoreIdx m ![digits v (BitVec.ofNat 32 (8 * p))] (scanCount (broadcast (Vec1 16) 1#1) (digits v (BitVec.ofNat 32 (8 * p)))).2 (scanCount (broadcast (Vec1 16) 1#1) (digits v (BitVec.ofNat 32 (8 * p)))).1 true
        (hPs _ h.down) hs >>= fun _ => .ret z) :
    iprop(HoldTo c mk (n) K ∗ HoldTo c mi n I ∗ Hold c m (fun b => BitVec.ofNat 32 (below n D b)) ∗ HoldTo c mi' 0 (fun _ => 0))
      ⊢ iprop((∀ acc, HoldTo c mk (n) K -∗ HoldTo c mi n I -∗ HoldTo c m 0 (fun _ => 0) -∗ HoldTo c mi' n I' -∗ wp frame (wpE defs 𝒱 c bd) E (kk acc) Q)
      -∗ wp frame (wpE defs 𝒱 c bd) E (Scf.Loop.for l ok init body >>= kk) Q) := by
  have hinj : Inj n (place n D) := place_inj
  have hDlt : ∀ j < n, D j < 256 := fun j hj => by rw [hD j hj]; exact dg_lt _ _
  have hpl : ∀ j < n, place n D j < n := fun j hj => place_lt hj
  iintro ⟨H0, H1, H2, H3⟩ Hkk
  ihave Hk := (show HoldTo c mk (n) K ⊢ iprop(∃ G', ⌜∀ j < n, G' j = K j⌝ ∗ Hold c mk G') from .rfl) $$ H0
  icases Hk with ⟨%K₀, %hK, Hk⟩
  ihave Hi := (show HoldTo c mi n I ⊢ iprop(∃ G', ⌜∀ j < n, G' j = I j⌝ ∗ Hold c mi G') from .rfl) $$ H1
  icases Hi with ⟨%I₀, %hI, Hi⟩
  have hmain := Scf.wp_for_bind frame (wpE defs 𝒱 c bd) E l.lb l.ub l.st ok init body
    (fun t _ => iprop(Hold c mk K₀ ∗ Hold c mi I₀ ∗ Hold c m (fun b => BitVec.ofNat 32 (below n D b + cnt D (16 * t) b)) ∗ Put c mi' (place n D) (fun j => I j) (16 * t))) (fun t acc => by
      have htl : t.val < l.trips := t.isLt
      rw [hb]
      iintro ⟨Hk, Hi, H, Hi'⟩
      iapply (wp_loadH 𝒱 c bd E (ho t)) $$ Hk
      iintro Hk
      iapply (wp_loadH 𝒱 c bd E (ho t)) $$ Hi
      iintro Hi
      have hms := move_step (F := F) (defs := defs) (Ix := Ix) (Name := Name) (U := U) (Lvl := Lvl) 𝒱 c bd E (m := m) (dec := dec) (dec' := dec') (hP := hP) (hPs := hPs) (hs := hs) (hl := hlx) (z := z) (n := n) (nb := nb) (D := D) (T := 16 * t.val)
        (R := iprop(Put c mi' (place n D) (fun j => I j) (16 * t.val)))
        (R' := iprop(Put c mi' (place n D) (fun j => I j) (16 * t.val + 16)))
        (fun pos h => SparseCore.vectorStoreIdx mi' ![pos] (vec I₀ (16 * t.val)) (fun _ => 1#1) false (hP₁ _ h) hsi)
        hn hnb (by omega) (digits (vec K₀ (16 * t.val)) (BitVec.ofNat 32 (8 * p))) (fun l hl => by
          rw [cn_digits hp _ _ hl, hD _ (by omega), hK _ (by omega)]) hDlt hPi hPi' (fun {k} pos h {Q} hpos => by
          iintro Hi' Hkk
          have h2 := put_step (F := F) (defs := defs) (Ix := Ix) (Name := Name) (U := U) (Lvl := Lvl) 𝒱 c bd E (m := mi') (i := pos) (v := vec I₀ (16 * t.val)) (hP := hP₁ _ h) (hs := hsi) (k := k) (Q := Q) (pos := place n D) (V := fun j => I j) (T := 16 * t.val) hinj (fun j hj => Nat.lt_of_lt_of_le (hpl j hj) hn) (by omega) (by omega) hnb hpos (fun l hl => (by rw [cn_vec _ _ hl, hI _ (by omega)]))
          iapply h2 $$ Hi'
          iintro Hi'
          iapply Hkk
          iexact Hi')
        (Q := fun acc => iprop(Hold c mk K₀ ∗ Hold c mi I₀ ∗ Hold c m (fun b => BitVec.ofNat 32 (below n D b + cnt D (16 * (t.val + 1)) b)) ∗ Put c mi' (place n D) (fun j => I j) (16 * (t.val + 1))))
      iapply hms $$ [H Hi']
      · isplitl [H]; · iexact H
        iexact Hi'
      iintro H Hi'
      rw [wp_ret]; imodintro
      isplitl [Hk]; · iexact Hk
      isplitl [Hi]; · iexact Hi
      isplitl [H]; · iexact H
      iexact Hi') (kk := kk) (Q := Q)
  iapply hmain $$ [Hk Hi H2 H3]
  · isplitl [Hk]; · iexact Hk
    isplitl [Hi]; · iexact Hi
    isplitl [H2]; · iapply Hold.mono' $$ H2; ipureintro; intro b _; simp [cnt]
    iapply (Put.start _); iexact H3
  iintro %acc ⟨Hk, Hi, H, Hi'⟩
  have hT' : 16 * Scf.trips l.lb l.ub l.st = n := hT
  rw [hT']
  iapply Hkk $$ %acc [Hk] [Hi] [H] [Hi']
  · unfold HoldTo; iexists K₀; isplitr
    · ipureintro; exact hK
    · iexact Hk
  · unfold HoldTo; iexists I₀; isplitr
    · ipureintro; exact hI
    · iexact Hi
  · iapply (HoldTo.of (fun j hj => absurd hj (Nat.not_lt_zero j))); iexact H
  · iapply (Put.done _ hinj hpl hI'); iexact Hi'

/-! ## Row numbers for the gathers -/

theorem build_loop {nk nb : ℕ} {mi : Memref sig c.2.kind .vmem (Vec1 nk) .i32} {mx : Memref sig c.2.kind .vmem (Vec1 nb) .i32}
    {l : Scf.Loop 32} {ok : l.OK} {init : BitVec 32}
    {body : Fin l.trips → BitVec 32 → Prog (TpuEff nD τ sig (Elt F) Λ c.2) (BitVec 32)} {kk : BitVec 32 → Prog (TpuEff nD τ sig (Elt F) Λ c.2) α}
    {off : Fin l.trips → Fin 1 → ℕ} {inb : ∀ t, ∀ a, off t a + (![16] : Fin 1 → ℕ) a ≤ (Vec1 nk).size a}
    {hl : ∀ t, mi.view.LoadsAt (Rect.unit (s := Vec1 nk) (off t) ![16] (inb t)).toLoadRect}
    {off' : Fin l.trips → Fin 1 → ℕ} {inb' : ∀ t, ∀ a, off' t a + (![16] : Fin 1 → ℕ) a ≤ (Vec1 nb).size a}
    {hl' : ∀ t, mx.view.LoadsAt (Rect.unit (s := Vec1 nb) (off' t) ![16] (inb' t)).toLoadRect}
    {hx : ∀ t, (mx.access (Rect.unit (s := Vec1 nb) (off' t) ![16] (inb' t))).Stores Finset.univ}
    {hm : ∀ t, Finset.univ = Finset.univ ∨ ∀ a, (Rect.unit (s := Vec1 nb) (off' t) ![16] (inb' t)).stride a = 1} {w z : BitVec 32}
    (n T o : ℕ) {I : ℕ → BitVec 32} (W : ℕ → BitVec 32) (hW : ∀ j < 16 * T, W (o + j) = I j + w)
    (hT : l.trips = T) (hn : 16 * T ≤ n) (ho : ∀ t, off t = ![16 * t.val]) (ho' : ∀ t, off' t = ![o + 16 * t.val])
    (hb : ∀ t acc, body t acc = .op (.load mi (Rect.unit (s := Vec1 nk) (off t) ![16] (inb t)).toLoadRect (hl t)) fun v =>
      .op (.load mx (Rect.unit (s := Vec1 nb) (off' t) ![16] (inb' t)).toLoadRect (hl' t)) fun _ =>
      .op (.store mx (Rect.unit (s := Vec1 nb) (off' t) ![16] (inb' t)) (addi v (broadcast (Vec1 16) w)) Finset.univ (hx t) (hm t)) fun _ => .ret z) :
    iprop(HoldTo c mi n I ∗ HoldTo c mx o W)
      ⊢ iprop((∀ acc, HoldTo c mi n I -∗ HoldTo c mx (o + 16 * T) W -∗ wp frame (wpE defs 𝒱 c bd) E (kk acc) Q)
      -∗ wp frame (wpE defs 𝒱 c bd) E (Scf.Loop.for l ok init body >>= kk) Q) := by
  have hmain := Scf.wp_for_bind frame (wpE defs 𝒱 c bd) E l.lb l.ub l.st ok init body
    (fun t _ => iprop(HoldTo c mi n I ∗ HoldTo c mx (o + 16 * t) W)) (fun t acc => by
      have htl : t.val < l.trips := t.isLt
      rw [hb]
      unfold HoldTo
      iintro ⟨⟨%I₀, %hI, Hi⟩, ⟨%G, %hG, H⟩⟩
      iapply (wp_loadH 𝒱 c bd E (ho t)) $$ Hi
      iintro Hi
      iapply (wp_loadH 𝒱 c bd E (ho' t)) $$ H
      iintro H
      iapply (wp_storeH 𝒱 c bd E (ho' t)) $$ H
      iintro H
      rw [wp_ret]; imodintro
      isplitl [Hi]
      · iexists I₀; isplitr
        · ipureintro; exact hI
        · iexact Hi
      iexists _; isplitr
      rotate_left
      · iexact H
      · ipureintro; intro j hj
        beta_reduce
        by_cases h : o + 16 * t.val ≤ j ∧ j < o + 16 * t.val + 16
        · have hj' : j - (o + 16 * t.val) < 16 := by omega
          rw [if_pos h, cn_ix _ hj']
          show vec I₀ (16 * t.val) (ix _ hj') + w = _
          rw [← cn_ix (vec _ _) hj', cn_vec _ _ hj', hI _ (by omega), ← hW _ (by omega)]
          congr 1; omega
        · rw [if_neg h]; exact hG j (by omega)) (kk := kk) (Q := Q)
  iintro ⟨Hi, H⟩ Hk
  iapply hmain $$ [Hi H]
  · isplitl [Hi]; · iexact Hi
    iexact H
  iintro %acc ⟨Hi, H⟩
  iapply Hk $$ %acc Hi
  rw [show Scf.trips l.lb l.ub l.st = T from hT]
  iexact H

end Cert.Proof.Radix
-- ==== Proof.Sort.lean ====
/-
  Four passes sort: what the two buffer pairs hold after each pass, and how a move carries one pass to the next.
-/
module

public import proofs.«01_k».proof.Proof.Loops

@[expose] public section

noncomputable section

namespace Cert.Proof.Radix

open Idealize.ShloMosaic

/-- The `n` key words from `base` on, as numbers. -/
def wd (K : ℕ → BitVec 32) (base : ℕ) : ℕ → ℕ := fun j => (K (base + j)).toNat

/-- The entries after `p` passes: entry `x` is number `sl … x` of the segment. -/
def sl (K : ℕ → BitVec 32) (base n p : ℕ) : ℕ → ℕ := selOf n (rkey (wd K base) p)
/-- Their keys … -/
def Kp (K : ℕ → BitVec 32) (base n p : ℕ) : ℕ → BitVec 32 := fun x => K (base + sl K base n p x)
/-- … their numbers as words … -/
def Ip (K : ℕ → BitVec 32) (base n p : ℕ) : ℕ → BitVec 32 := fun x => BitVec.ofNat 32 (sl K base n p x)
/-- … and the digits the next pass sorts them by. -/
def Dp (K : ℕ → BitVec 32) (base n p : ℕ) : ℕ → ℕ := fun x => dg p (Kp K base n p x)

variable {K : ℕ → BitVec 32} {base n : ℕ}

theorem sl_step (p : ℕ) (hn : n ≤ 2 ^ 32) {x : ℕ} (hx : x < n) : sl K base n (p + 1) (place n (Dp K base n p) x) = sl K base n p x :=
  place_selOf hn (fun _ _ => rfl) hx

theorem Kp_step (p : ℕ) (hn : n ≤ 2 ^ 32) : ∀ x < n, Kp K base n p x = Kp K base n (p + 1) (place n (Dp K base n p) x) := fun x hx => by
  unfold Kp; rw [sl_step p hn hx]

theorem Ip_step (p : ℕ) (hn : n ≤ 2 ^ 32) : ∀ x < n, Ip K base n p x = Ip K base n (p + 1) (place n (Dp K base n p) x) := fun x hx => by
  unfold Ip; rw [sl_step p hn hx]

theorem sl_zero {x : ℕ} (hx : x < n) : sl K base n 0 x = x := selOf_rkey_zero hx

theorem Kp_zero : ∀ x < n, K (base + x) = Kp K base n 0 x := fun x hx => by unfold Kp; rw [sl_zero hx]
theorem Ip_zero : ∀ x < n, BitVec.ofNat 32 x = Ip K base n 0 x := fun x hx => by unfold Ip; rw [sl_zero hx]
theorem Dp_zero : ∀ x < n, Dp K base n 0 x = dg 0 (K (base + x)) := fun x hx => by unfold Dp; rw [Kp_zero (K := K) (base := base) x hx]

theorem Kp_first (hn : n ≤ 2 ^ 32) : ∀ x < n, K (base + x) = Kp K base n 1 (place n (Dp K base n 0) x) := fun x hx => by
  rw [Kp_zero (K := K) (base := base) x hx, Kp_step 0 hn x hx]
theorem Ip_first (hn : n ≤ 2 ^ 32) : ∀ x < n, BitVec.ofNat 32 x = Ip K base n 1 (place n (Dp K base n 0) x) := fun x hx => by
  rw [Ip_zero (K := K) (base := base) x hx, Ip_step 0 hn x hx]

/-- After four passes the entries are in the order of their keys, equal keys in the order they came. -/
theorem sl_four (x : ℕ) : sl K base n 4 x = selOf n (skey (wd K base)) x := selOf_rkey_four (fun j => (K (base + j)).isLt) x

end Cert.Proof.Radix
-- ==== Proof.Base.lean ====
/-
  The kernel as the launch sees it: labels, tables, the resource algebra, the arrays and each tile's coordinates.
-/
module

public import proofs.«01_k».proof.Defs
public import proofs.«01_k».proof.Proof.Sort
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Knn

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The SparseCore and the tile of grid point `L`. -/
abbrev cV (L : grid0.Coords) : Fin τ.nSC := (L 0).castLE hcore0
abbrev jV (L : grid0.Coords) : Fin τ.nSub := (L 1).castLE hsub0

/-- The thread that runs grid point `L`. -/
abbrev thr (d : Dev nD) (L : grid0.Coords) : Thread nD τ := V d (cV L) (jV L)

end Cert.Proof.Knn
-- ==== Proof.Parts.lean ====
/-
  The sort's statements, window by window: each carries the nine scratch buffers from one state to the next.
-/
module

public import proofs.«01_k».proof.Proof.Base

@[expose] public section

noncomputable section

namespace Cert.Proof.Knn

open Cert.KernelIdeal Cert.KernelIdeal.Gen Cert.Proof.Radix

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords) (K : ℕ → BitVec 32)

local notation "𝕄" => MT nD τ sig (HIx 1) (Elt F) ℕ UU ℕ

/-! ## The rows the gathers read -/

/-- The map rows of batch `v6`, nearest first. -/
def rowsM (v6 : BitVec 32) : ℕ → BitVec 32 := fun j => Ip K 0 2048 4 j + Scalar.muli v6 2048#32
/-- The polygon rows. -/
def rowsP (v6 : BitVec 32) : ℕ → BitVec 32 := fun j => Ip K 2048 1024 4 j + Scalar.muli v6 1024#32
/-- The agent rows: the same agents at four heads. -/
def rowsA (v6 : BitVec 32) : ℕ → BitVec 32 := fun j => Ip K 3072 256 4 (j % 128) + Scalar.addi (Scalar.muli v6 1024#32) (BitVec.ofNat 32 (256 * (j / 128)))

theorem rowsM_eq (v6 : BitVec 32) : ∀ j < 16 * 64, rowsM K v6 (0 + j) = Ip K 0 2048 4 j + Scalar.muli v6 2048#32 := fun j _ => by rw [Nat.zero_add]; rfl
theorem rowsP_eq (v6 : BitVec 32) : ∀ j < 16 * 32, rowsP K v6 (0 + j) = Ip K 2048 1024 4 j + Scalar.muli v6 1024#32 := fun j _ => by rw [Nat.zero_add]; rfl
theorem rowsA_eq (v6 : BitVec 32) (h : ℕ) : ∀ j < 16 * 8, rowsA K v6 (128 * h + j) = Ip K 3072 256 4 j + Scalar.addi (Scalar.muli v6 1024#32) (BitVec.ofNat 32 (256 * h)) :=
  fun j hj => by
    unfold rowsA
    rw [show (128 * h + j) % 128 = j by omega, show (128 * h + j) / 128 = h by omega]

/-- The entry numbers as the first pass makes them. -/
theorem lane_ids (v2 : IVec S16 32) (hv2 : ∀ l < 16, cn v2 l = BitVec.ofNat 32 l) {n : ℕ} (t : Fin n) {l : ℕ} (hl : l < 16) :
    cn (addi v2 (broadcast S16 (Scalar.muli (Scf.iv 0#32 1#32 t) 16#32))) l = BitVec.ofNat 32 (16 * t.val + l) := by
  rw [cn_ix _ hl]
  show v2 (ix l hl) + (0#32 + BitVec.ofNat 32 t.val * 1#32) * 16#32 = _
  rw [← cn_ix v2 hl, hv2 l hl, Nat.add_comm, BitVec.ofNat_add, Nat.mul_comm, BitVec.ofNat_mul]
  simp

set_option maxHeartbeats 4000000 in
theorem part3  (arg2 : Memref sig .scVector .hbm S425984 .i32) (harg2 : arg2.IsWhole) (arg3 : Memref sig .scVector .hbm S131072x128 .f32) (harg3 : arg3.IsWhole) (arg4 : Memref sig .scVector .hbm S262144x128 .f32) (harg4 : arg4.IsWhole) (arg5 : Memref sig .scVector .hbm S32768x128 .f32) (harg5 : arg5.IsWhole) (arg6 : Memref sig .scVector .hbm S131072x128 .f32) (harg6 : arg6.IsWhole) (arg7 : Memref sig .scVector .hbm S294912x128 .f32) (harg7 : arg7.IsWhole) (arg8 : Memref sig .scVector .vmem S3328 .i32) (harg8 : arg8.IsWhole) (arg9 : Memref sig .scVector .vmem S2048 .i32) (harg9 : arg9.IsWhole) (arg10 : Memref sig .scVector .vmem S2048 .i32) (harg10 : arg10.IsWhole) (arg11 : Memref sig .scVector .vmem S2048 .i32) (harg11 : arg11.IsWhole) (arg12 : Memref sig .scVector .vmem S2048 .i32) (harg12 : arg12.IsWhole) (arg13 : Memref sig .scVector .vmem S256 .i32) (harg13 : arg13.IsWhole) (arg14 : Memref sig .scVector .vmem S1024 .i32) (harg14 : arg14.IsWhole) (arg15 : Memref sig .scVector .vmem S512 .i32) (harg15 : arg15.IsWhole) (arg16 : Memref sig .scVector .vmem S512 .i32) (harg16 : arg16.IsWhole) (arg17 : Memref sig .scVector .vmem S2x128x128 .f32) (harg17 : arg17.IsWhole) (arg18 : DmaSems sig S_) (arg19 : DmaSems sig S_) (v130_r0 : DmaSems sig S_) (v141_r1 : DmaSems sig S_) (v141_r2 : DmaSems sig S_) (v141_r3 : DmaSems sig S_) (v136_r4 : DmaSems sig S_) (v136_r5 : DmaSems sig S_) :
    iprop(HoldTo (thr d L) arg8 3328 K ∗ HoldTo (thr d L) arg9 2048 (Kp K 0 2048 1) ∗ HoldTo (thr d L) arg10 2048 (Ip K 0 2048 1) ∗ HoldTo (thr d L) arg11 0 (fun _ => 0) ∗ HoldTo (thr d L) arg12 0 (fun _ => 0) ∗ Hold (thr d L) arg13 (fun b => BitVec.ofNat 32 (below 2048 (Dp K 0 2048 1) b)) ∗ HoldTo (thr d L) arg14 0 (fun _ => 0) ∗ HoldTo (thr d L) arg15 0 (fun _ => 0) ∗ HoldTo (thr d L) arg16 0 (fun _ => 0))
      ⊢ (wp frame (wpE (defs₀ (F := F)) 𝒱₀ (thr d L) none) Set.univ (k0_part3 L arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5)
        (fun r => iprop(⌜r.1 = 0⌝ ∗ HoldTo (thr d L) arg8 3328 K ∗ HoldTo (thr d L) arg9 2048 (Kp K 0 2048 3) ∗ HoldTo (thr d L) arg10 2048 (Ip K 0 2048 3) ∗ HoldTo (thr d L) arg11 2048 (Kp K 0 2048 2) ∗ HoldTo (thr d L) arg12 2048 (Ip K 0 2048 2) ∗ Hold (thr d L) arg13 (fun b => BitVec.ofNat 32 (below 2048 (Dp K 0 2048 3) b)) ∗ HoldTo (thr d L) arg14 0 (fun _ => 0) ∗ HoldTo (thr d L) arg15 0 (fun _ => 0) ∗ HoldTo (thr d L) arg16 0 (fun _ => 0))) : sProp 𝕄) := by
  unfold k0_part3
  iintro ⟨H8, H9, H10, H11, H12, H13, H14, H15, H16⟩
  iapply (move_mid 𝒱₀ (thr d L) none Set.univ (hlx := View.loads_vmem h_S256) (P := k0_chk5) (P' := k0_chk6) (dec := k0_chk5.dec) (dec' := k0_chk6.dec) (hP := k0_idx7_inb) (hPs := k0_idx10_inb) (hP₂ := k0_idx8_inb) (hP₁ := k0_idx9_inb) 2048 1 (by decide) (K := Kp K 0 2048 1) (Dp K 0 2048 1) (fun _ _ => rfl) (by decide) (by decide) (Kp K 0 2048 2) (Kp_step 1 (by decide)) (I := Ip K 0 2048 1) (Ip K 0 2048 2) (Ip_step 1 (by decide)) (hT := rfl) (ho := k0_off9_eq) (hPi := fun _ h => ⟨idx_ok h, idx_ok h⟩) (hPi' := fun _ h => ⟨idx_ok h, idx_ok h⟩) (hb := ?hb)) $$ [H9 H10 H13 H11 H12]
  case hb => exact fun _ _ => rfl
  · isplitl [H9]; · iexact H9
    isplitl [H10]; · iexact H10
    isplitl [H13]; · iexact H13
    isplitl [H11]; · iexact H11
    iexact H12
  iintro %_ H9 H10 H13 H11 H12
  iapply (zero_loop 𝒱₀ (thr d L) none Set.univ (ho := k0_off10_eq) (hT := rfl) (hb := ?hb)) $$ [H13]
  case hb => exact fun _ _ => rfl
  · iexact H13
  iintro %_ H13
  iapply (hist_loop 𝒱₀ (thr d L) none Set.univ (P := k0_chk7) (dec := k0_chk7.dec) (hP := k0_idx11_inb) 0 2048 2 (N := 2048) (by decide) (by decide) (K := (Kp K 0 2048 2)) (Dp K 0 2048 2) (fun j _ => by rw [Nat.zero_add]; rfl) (hT := rfl) (ho := (fun t => (k0_off11_eq t).trans (congrArg (fun x => ![x]) (Nat.zero_add _).symm))) (hPi := fun _ h => idx_ok h) (hb := ?hb)) $$ [H11 H13]
  case hb => exact fun _ _ => rfl
  · isplitl [H11]; · iexact H11
    iexact H13
  iintro %_ H11 H13
  iapply (prefix_loop 𝒱₀ (thr d L) none Set.univ (n := 2048) (D := (Dp K 0 2048 2)) (ho := k0_off12_eq) (hT := rfl) (hi := rfl) (hb := ?hb)) $$ [H13]
  case hb => exact fun _ _ => rfl
  · iexact H13
  iintro %_ H13
  iapply (move_mid 𝒱₀ (thr d L) none Set.univ (hlx := View.loads_vmem h_S256) (P := k0_chk8) (P' := k0_chk9) (dec := k0_chk8.dec) (dec' := k0_chk9.dec) (hP := k0_idx12_inb) (hPs := k0_idx15_inb) (hP₂ := k0_idx13_inb) (hP₁ := k0_idx14_inb) 2048 2 (by decide) (K := Kp K 0 2048 2) (Dp K 0 2048 2) (fun _ _ => rfl) (by decide) (by decide) (Kp K 0 2048 3) (Kp_step 2 (by decide)) (I := Ip K 0 2048 2) (Ip K 0 2048 3) (Ip_step 2 (by decide)) (hT := rfl) (ho := k0_off13_eq) (hPi := fun _ h => ⟨idx_ok h, idx_ok h⟩) (hPi' := fun _ h => ⟨idx_ok h, idx_ok h⟩) (hb := ?hb)) $$ [H11 H12 H13 H9 H10]
  case hb => exact fun _ _ => rfl
  · isplitl [H11]; · iexact H11
    isplitl [H12]; · iexact H12
    isplitl [H13]; · iexact H13
    isplitl [H9]; · iapply HoldTo.any; iexact H9
    iapply HoldTo.any; iexact H10
  iintro %_ H11 H12 H13 H9 H10
  iapply (zero_loop 𝒱₀ (thr d L) none Set.univ (ho := k0_off14_eq) (hT := rfl) (hb := ?hb)) $$ [H13]
  case hb => exact fun _ _ => rfl
  · iexact H13
  iintro %_ H13
  iapply (hist_loop 𝒱₀ (thr d L) none Set.univ (P := k0_chk10) (dec := k0_chk10.dec) (hP := k0_idx16_inb) 0 2048 3 (N := 2048) (by decide) (by decide) (K := (Kp K 0 2048 3)) (Dp K 0 2048 3) (fun j _ => by rw [Nat.zero_add]; rfl) (hT := rfl) (ho := (fun t => (k0_off15_eq t).trans (congrArg (fun x => ![x]) (Nat.zero_add _).symm))) (hPi := fun _ h => idx_ok h) (hb := ?hb)) $$ [H9 H13]
  case hb => exact fun _ _ => rfl
  · isplitl [H9]; · iexact H9
    iexact H13
  iintro %_ H9 H13
  iapply (prefix_loop 𝒱₀ (thr d L) none Set.univ (n := 2048) (D := (Dp K 0 2048 3)) (ho := k0_off16_eq) (hT := rfl) (hi := rfl) (hb := ?hb)) $$ [H13]
  case hb => exact fun _ _ => rfl
  · iexact H13
  iintro %_ H13
  rw [wp_pure]; imodintro
  isplitr; · ipureintro; rfl
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 4000000 in
theorem part4  (arg2 : Memref sig .scVector .hbm S425984 .i32) (harg2 : arg2.IsWhole) (arg3 : Memref sig .scVector .hbm S131072x128 .f32) (harg3 : arg3.IsWhole) (arg4 : Memref sig .scVector .hbm S262144x128 .f32) (harg4 : arg4.IsWhole) (arg5 : Memref sig .scVector .hbm S32768x128 .f32) (harg5 : arg5.IsWhole) (arg6 : Memref sig .scVector .hbm S131072x128 .f32) (harg6 : arg6.IsWhole) (arg7 : Memref sig .scVector .hbm S294912x128 .f32) (harg7 : arg7.IsWhole) (arg8 : Memref sig .scVector .vmem S3328 .i32) (harg8 : arg8.IsWhole) (arg9 : Memref sig .scVector .vmem S2048 .i32) (harg9 : arg9.IsWhole) (arg10 : Memref sig .scVector .vmem S2048 .i32) (harg10 : arg10.IsWhole) (arg11 : Memref sig .scVector .vmem S2048 .i32) (harg11 : arg11.IsWhole) (arg12 : Memref sig .scVector .vmem S2048 .i32) (harg12 : arg12.IsWhole) (arg13 : Memref sig .scVector .vmem S256 .i32) (harg13 : arg13.IsWhole) (arg14 : Memref sig .scVector .vmem S1024 .i32) (harg14 : arg14.IsWhole) (arg15 : Memref sig .scVector .vmem S512 .i32) (harg15 : arg15.IsWhole) (arg16 : Memref sig .scVector .vmem S512 .i32) (harg16 : arg16.IsWhole) (arg17 : Memref sig .scVector .vmem S2x128x128 .f32) (harg17 : arg17.IsWhole) (arg18 : DmaSems sig S_) (arg19 : DmaSems sig S_) (v130_r0 : DmaSems sig S_) (v141_r1 : DmaSems sig S_) (v141_r2 : DmaSems sig S_) (v141_r3 : DmaSems sig S_) (v136_r4 : DmaSems sig S_) (v136_r5 : DmaSems sig S_) (v2 : IVec S16 32) (v6 : BitVec 32) (c0_i32_76 : BitVec 32) (c0_i32_77 : BitVec 32) (c128_i32_78 : BitVec 32) (hv2 : ∀ l < 16, cn v2 l = BitVec.ofNat 32 l) :
    iprop(HoldTo (thr d L) arg8 3328 K ∗ HoldTo (thr d L) arg9 2048 (Kp K 0 2048 3) ∗ HoldTo (thr d L) arg10 2048 (Ip K 0 2048 3) ∗ HoldTo (thr d L) arg11 2048 (Kp K 0 2048 2) ∗ HoldTo (thr d L) arg12 2048 (Ip K 0 2048 2) ∗ Hold (thr d L) arg13 (fun b => BitVec.ofNat 32 (below 2048 (Dp K 0 2048 3) b)) ∗ HoldTo (thr d L) arg14 0 (fun _ => 0) ∗ HoldTo (thr d L) arg15 0 (fun _ => 0) ∗ HoldTo (thr d L) arg16 0 (fun _ => 0))
      ⊢ (wp frame (wpE (defs₀ (F := F)) 𝒱₀ (thr d L) none) Set.univ (k0_part4 L arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 v2 v6 c0_i32_76 c0_i32_77 c128_i32_78)
        (fun r => iprop(⌜r.1 = 0⌝ ∗ HoldTo (thr d L) arg8 3328 K ∗ HoldTo (thr d L) arg9 1024 (Kp K 2048 1024 1) ∗ HoldTo (thr d L) arg10 1024 (Ip K 2048 1024 1) ∗ HoldTo (thr d L) arg11 2048 (Kp K 0 2048 2) ∗ HoldTo (thr d L) arg12 2048 (Ip K 0 2048 4) ∗ Hold (thr d L) arg13 (fun b => BitVec.ofNat 32 (cnt (Dp K 2048 1024 1) 1024 b)) ∗ HoldTo (thr d L) arg14 1024 (rowsM K v6) ∗ HoldTo (thr d L) arg15 0 (fun _ => 0) ∗ HoldTo (thr d L) arg16 0 (fun _ => 0))) : sProp 𝕄) := by
  unfold k0_part4
  iintro ⟨H8, H9, H10, H11, H12, H13, H14, H15, H16⟩
  iapply (move_last 𝒱₀ (thr d L) none Set.univ (hlx := View.loads_vmem h_S256) (P := k0_chk11) (P' := k0_chk12) (dec := k0_chk11.dec) (dec' := k0_chk12.dec) (hP := k0_idx17_inb) (hPs := k0_idx19_inb) (hP₁ := k0_idx18_inb) 2048 3 (by decide) (K := Kp K 0 2048 3) (Dp K 0 2048 3) (fun _ _ => rfl) (by decide) (by decide) (I := Ip K 0 2048 3) (Ip K 0 2048 4) (Ip_step 3 (by decide)) (hT := rfl) (ho := k0_off17_eq) (hPi := fun _ h => ⟨idx_ok h, idx_ok h⟩) (hPi' := fun _ h => idx_ok h) (hb := ?hb)) $$ [H9 H10 H13 H12]
  case hb => exact fun _ _ => rfl
  · isplitl [H9]; · iexact H9
    isplitl [H10]; · iexact H10
    isplitl [H13]; · iexact H13
    iapply HoldTo.any; iexact H12
  iintro %_ H9 H10 H13 H12
  iapply (build_loop 𝒱₀ (thr d L) none Set.univ 2048 64 0 (I := Ip K 0 2048 4) (rowsM K v6) (rowsM_eq K v6) rfl (by decide) k0_off18_eq (fun t => (k0_off19_eq t).trans (congrArg (fun x => ![x]) (Nat.zero_add _).symm)) (hb := ?hb)) $$ [H12 H14]
  case hb => exact fun _ _ => rfl
  · isplitl [H12]; · iexact H12
    iapply HoldTo.any; iexact H14
  iintro %_ H12 H14
  iapply (zero_loop 𝒱₀ (thr d L) none Set.univ (ho := k0_off20_eq) (hT := rfl) (hb := ?hb)) $$ [H13]
  case hb => exact fun _ _ => rfl
  · iexact H13
  iintro %_ H13
  iapply (hist_loop 𝒱₀ (thr d L) none Set.univ (P := k0_chk13) (dec := k0_chk13.dec) (hP := k0_idx20_inb) 2048 1024 0 (N := 3328) (by decide) (by decide) (K := K) (Dp K 2048 1024 0) Dp_zero (hT := rfl) (ho := (fun t => (k0_off21_eq t).trans (congrArg (fun x => ![x]) (Nat.add_comm _ _)))) (hPi := fun _ h => idx_ok h) (hb := ?hb)) $$ [H8 H13]
  case hb => exact fun _ _ => rfl
  · isplitl [H8]; · iexact H8
    iexact H13
  iintro %_ H8 H13
  iapply (prefix_loop 𝒱₀ (thr d L) none Set.univ (n := 1024) (D := (Dp K 2048 1024 0)) (ho := k0_off22_eq) (hT := rfl) (hi := rfl) (hb := ?hb)) $$ [H13]
  case hb => exact fun _ _ => rfl
  · iexact H13
  iintro %_ H13
  iapply (move_first 𝒱₀ (thr d L) none Set.univ (hlx := View.loads_vmem h_S256) (P := k0_chk14) (P' := k0_chk15) (dec := k0_chk14.dec) (dec' := k0_chk15.dec) (hP := k0_idx21_inb) (hPs := k0_idx24_inb) (hP₂ := k0_idx22_inb) (hP₁ := k0_idx23_inb) 2048 1024 0 (N := 3328) (by decide) (by decide) (K := K) (Dp K 2048 1024 0) Dp_zero (by decide) (by decide) (Kp K 2048 1024 1) (Kp_first (by decide)) (V := fun t => addi v2 (broadcast S16 (Scalar.muli (Scf.iv 0#32 1#32 t) 16#32))) (hV := fun t l hl => lane_ids v2 hv2 t hl) (Ip K 2048 1024 1) (Ip_first (by decide)) (hT := rfl) (ho := (fun t => (k0_off23_eq t).trans (congrArg (fun x => ![x]) (Nat.add_comm _ _)))) (hPi := fun _ h => ⟨idx_ok h, idx_ok h⟩) (hPi' := fun _ h => ⟨idx_ok h, idx_ok h⟩) (hb := ?hb)) $$ [H8 H13 H9 H10]
  case hb => exact fun _ _ => rfl
  · isplitl [H8]; · iexact H8
    isplitl [H13]; · iexact H13
    isplitl [H9]; · iapply HoldTo.any; iexact H9
    iapply HoldTo.any; iexact H10
  iintro %_ H8 H13 H9 H10
  iapply (zero_loop 𝒱₀ (thr d L) none Set.univ (ho := k0_off24_eq) (hT := rfl) (hb := ?hb)) $$ [H13]
  case hb => exact fun _ _ => rfl
  · iexact H13
  iintro %_ H13
  iapply (hist_loop 𝒱₀ (thr d L) none Set.univ (P := k0_chk16) (dec := k0_chk16.dec) (hP := k0_idx25_inb) 0 1024 1 (N := 1024) (by decide) (by decide) (K := (Kp K 2048 1024 1)) (Dp K 2048 1024 1) (fun j _ => by rw [Nat.zero_add]; rfl) (hT := rfl) (ho := (fun t => (k0_off25_eq t).trans (congrArg (fun x => ![x]) (Nat.zero_add _).symm))) (hPi := fun _ h => idx_ok h) (hb := ?hb)) $$ [H9 H13]
  case hb => exact fun _ _ => rfl
  · isplitl [H9]; · iexact H9
    iexact H13
  iintro %_ H9 H13
  rw [wp_pure]; imodintro
  isplitr; · ipureintro; rfl
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 4000000 in
theorem part5  (arg2 : Memref sig .scVector .hbm S425984 .i32) (harg2 : arg2.IsWhole) (arg3 : Memref sig .scVector .hbm S131072x128 .f32) (harg3 : arg3.IsWhole) (arg4 : Memref sig .scVector .hbm S262144x128 .f32) (harg4 : arg4.IsWhole) (arg5 : Memref sig .scVector .hbm S32768x128 .f32) (harg5 : arg5.IsWhole) (arg6 : Memref sig .scVector .hbm S131072x128 .f32) (harg6 : arg6.IsWhole) (arg7 : Memref sig .scVector .hbm S294912x128 .f32) (harg7 : arg7.IsWhole) (arg8 : Memref sig .scVector .vmem S3328 .i32) (harg8 : arg8.IsWhole) (arg9 : Memref sig .scVector .vmem S2048 .i32) (harg9 : arg9.IsWhole) (arg10 : Memref sig .scVector .vmem S2048 .i32) (harg10 : arg10.IsWhole) (arg11 : Memref sig .scVector .vmem S2048 .i32) (harg11 : arg11.IsWhole) (arg12 : Memref sig .scVector .vmem S2048 .i32) (harg12 : arg12.IsWhole) (arg13 : Memref sig .scVector .vmem S256 .i32) (harg13 : arg13.IsWhole) (arg14 : Memref sig .scVector .vmem S1024 .i32) (harg14 : arg14.IsWhole) (arg15 : Memref sig .scVector .vmem S512 .i32) (harg15 : arg15.IsWhole) (arg16 : Memref sig .scVector .vmem S512 .i32) (harg16 : arg16.IsWhole) (arg17 : Memref sig .scVector .vmem S2x128x128 .f32) (harg17 : arg17.IsWhole) (arg18 : DmaSems sig S_) (arg19 : DmaSems sig S_) (v130_r0 : DmaSems sig S_) (v141_r1 : DmaSems sig S_) (v141_r2 : DmaSems sig S_) (v141_r3 : DmaSems sig S_) (v136_r4 : DmaSems sig S_) (v136_r5 : DmaSems sig S_) (c0_i32_115 : BitVec 32) (c0_i32_116 : BitVec 32) (c1_i32_118 : BitVec 32) (v6 : BitVec 32) (hc0_i32_115 : c0_i32_115 = 0) :
    iprop(HoldTo (thr d L) arg8 3328 K ∗ HoldTo (thr d L) arg9 1024 (Kp K 2048 1024 1) ∗ HoldTo (thr d L) arg10 1024 (Ip K 2048 1024 1) ∗ HoldTo (thr d L) arg11 2048 (Kp K 0 2048 2) ∗ HoldTo (thr d L) arg12 2048 (Ip K 0 2048 4) ∗ Hold (thr d L) arg13 (fun b => BitVec.ofNat 32 (cnt (Dp K 2048 1024 1) 1024 b)) ∗ HoldTo (thr d L) arg14 1024 (rowsM K v6) ∗ HoldTo (thr d L) arg15 0 (fun _ => 0) ∗ HoldTo (thr d L) arg16 0 (fun _ => 0))
      ⊢ (wp frame (wpE (defs₀ (F := F)) 𝒱₀ (thr d L) none) Set.univ (k0_part5 L arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 c0_i32_115 c0_i32_116 c1_i32_118)
        (fun r => iprop(⌜r.1 = 0⌝ ∗ HoldTo (thr d L) arg8 3328 K ∗ HoldTo (thr d L) arg9 1024 (Kp K 2048 1024 3) ∗ HoldTo (thr d L) arg10 1024 (Ip K 2048 1024 3) ∗ HoldTo (thr d L) arg11 1024 (Kp K 2048 1024 2) ∗ HoldTo (thr d L) arg12 1024 (Ip K 2048 1024 2) ∗ Hold (thr d L) arg13 (fun b => BitVec.ofNat 32 (below 1024 (Dp K 2048 1024 3) b)) ∗ HoldTo (thr d L) arg14 1024 (rowsM K v6) ∗ HoldTo (thr d L) arg15 0 (fun _ => 0) ∗ HoldTo (thr d L) arg16 0 (fun _ => 0))) : sProp 𝕄) := by
  unfold k0_part5
  iintro ⟨H8, H9, H10, H11, H12, H13, H14, H15, H16⟩
  iapply (prefix_loop 𝒱₀ (thr d L) none Set.univ (n := 1024) (D := (Dp K 2048 1024 1)) (ho := k0_off26_eq) (hT := rfl) (hi := hc0_i32_115) (hb := ?hb)) $$ [H13]
  case hb => exact fun _ _ => rfl
  · iexact H13
  iintro %_ H13
  iapply (move_mid 𝒱₀ (thr d L) none Set.univ (hlx := View.loads_vmem h_S256) (P := k0_chk17) (P' := k0_chk18) (dec := k0_chk17.dec) (dec' := k0_chk18.dec) (hP := k0_idx26_inb) (hPs := k0_idx29_inb) (hP₂ := k0_idx27_inb) (hP₁ := k0_idx28_inb) 1024 1 (by decide) (K := Kp K 2048 1024 1) (Dp K 2048 1024 1) (fun _ _ => rfl) (by decide) (by decide) (Kp K 2048 1024 2) (Kp_step 1 (by decide)) (I := Ip K 2048 1024 1) (Ip K 2048 1024 2) (Ip_step 1 (by decide)) (hT := rfl) (ho := k0_off27_eq) (hPi := fun _ h => ⟨idx_ok h, idx_ok h⟩) (hPi' := fun _ h => ⟨idx_ok h, idx_ok h⟩) (hb := ?hb)) $$ [H9 H10 H13 H11 H12]
  case hb => exact fun _ _ => rfl
  · isplitl [H9]; · iexact H9
    isplitl [H10]; · iexact H10
    isplitl [H13]; · iexact H13
    isplitl [H11]; · iapply HoldTo.any; iexact H11
    iapply HoldTo.any; iexact H12
  iintro %_ H9 H10 H13 H11 H12
  iapply (zero_loop 𝒱₀ (thr d L) none Set.univ (ho := k0_off28_eq) (hT := rfl) (hb := ?hb)) $$ [H13]
  case hb => exact fun _ _ => rfl
  · iexact H13
  iintro %_ H13
  iapply (hist_loop 𝒱₀ (thr d L) none Set.univ (P := k0_chk19) (dec := k0_chk19.dec) (hP := k0_idx30_inb) 0 1024 2 (N := 1024) (by decide) (by decide) (K := (Kp K 2048 1024 2)) (Dp K 2048 1024 2) (fun j _ => by rw [Nat.zero_add]; rfl) (hT := rfl) (ho := (fun t => (k0_off29_eq t).trans (congrArg (fun x => ![x]) (Nat.zero_add _).symm))) (hPi := fun _ h => idx_ok h) (hb := ?hb)) $$ [H11 H13]
  case hb => exact fun _ _ => rfl
  · isplitl [H11]; · iexact H11
    iexact H13
  iintro %_ H11 H13
  iapply (prefix_loop 𝒱₀ (thr d L) none Set.univ (n := 1024) (D := (Dp K 2048 1024 2)) (ho := k0_off30_eq) (hT := rfl) (hi := rfl) (hb := ?hb)) $$ [H13]
  case hb => exact fun _ _ => rfl
  · iexact H13
  iintro %_ H13
  iapply (move_mid 𝒱₀ (thr d L) none Set.univ (hlx := View.loads_vmem h_S256) (P := k0_chk20) (P' := k0_chk21) (dec := k0_chk20.dec) (dec' := k0_chk21.dec) (hP := k0_idx31_inb) (hPs := k0_idx34_inb) (hP₂ := k0_idx32_inb) (hP₁ := k0_idx33_inb) 1024 2 (by decide) (K := Kp K 2048 1024 2) (Dp K 2048 1024 2) (fun _ _ => rfl) (by decide) (by decide) (Kp K 2048 1024 3) (Kp_step 2 (by decide)) (I := Ip K 2048 1024 2) (Ip K 2048 1024 3) (Ip_step 2 (by decide)) (hT := rfl) (ho := k0_off31_eq) (hPi := fun _ h => ⟨idx_ok h, idx_ok h⟩) (hPi' := fun _ h => ⟨idx_ok h, idx_ok h⟩) (hb := ?hb)) $$ [H11 H12 H13 H9 H10]
  case hb => exact fun _ _ => rfl
  · isplitl [H11]; · iexact H11
    isplitl [H12]; · iexact H12
    isplitl [H13]; · iexact H13
    isplitl [H9]; · iapply HoldTo.any; iexact H9
    iapply HoldTo.any; iexact H10
  iintro %_ H11 H12 H13 H9 H10
  iapply (zero_loop 𝒱₀ (thr d L) none Set.univ (ho := k0_off32_eq) (hT := rfl) (hb := ?hb)) $$ [H13]
  case hb => exact fun _ _ => rfl
  · iexact H13
  iintro %_ H13
  iapply (hist_loop 𝒱₀ (thr d L) none Set.univ (P := k0_chk22) (dec := k0_chk22.dec) (hP := k0_idx35_inb) 0 1024 3 (N := 1024) (by decide) (by decide) (K := (Kp K 2048 1024 3)) (Dp K 2048 1024 3) (fun j _ => by rw [Nat.zero_add]; rfl) (hT := rfl) (ho := (fun t => (k0_off33_eq t).trans (congrArg (fun x => ![x]) (Nat.zero_add _).symm))) (hPi := fun _ h => idx_ok h) (hb := ?hb)) $$ [H9 H13]
  case hb => exact fun _ _ => rfl
  · isplitl [H9]; · iexact H9
    iexact H13
  iintro %_ H9 H13
  iapply (prefix_loop 𝒱₀ (thr d L) none Set.univ (n := 1024) (D := (Dp K 2048 1024 3)) (ho := k0_off34_eq) (hT := rfl) (hi := rfl) (hb := ?hb)) $$ [H13]
  case hb => exact fun _ _ => rfl
  · iexact H13
  iintro %_ H13
  rw [wp_pure]; imodintro
  isplitr; · ipureintro; rfl
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 4000000 in
theorem part6  (arg2 : Memref sig .scVector .hbm S425984 .i32) (harg2 : arg2.IsWhole) (arg3 : Memref sig .scVector .hbm S131072x128 .f32) (harg3 : arg3.IsWhole) (arg4 : Memref sig .scVector .hbm S262144x128 .f32) (harg4 : arg4.IsWhole) (arg5 : Memref sig .scVector .hbm S32768x128 .f32) (harg5 : arg5.IsWhole) (arg6 : Memref sig .scVector .hbm S131072x128 .f32) (harg6 : arg6.IsWhole) (arg7 : Memref sig .scVector .hbm S294912x128 .f32) (harg7 : arg7.IsWhole) (arg8 : Memref sig .scVector .vmem S3328 .i32) (harg8 : arg8.IsWhole) (arg9 : Memref sig .scVector .vmem S2048 .i32) (harg9 : arg9.IsWhole) (arg10 : Memref sig .scVector .vmem S2048 .i32) (harg10 : arg10.IsWhole) (arg11 : Memref sig .scVector .vmem S2048 .i32) (harg11 : arg11.IsWhole) (arg12 : Memref sig .scVector .vmem S2048 .i32) (harg12 : arg12.IsWhole) (arg13 : Memref sig .scVector .vmem S256 .i32) (harg13 : arg13.IsWhole) (arg14 : Memref sig .scVector .vmem S1024 .i32) (harg14 : arg14.IsWhole) (arg15 : Memref sig .scVector .vmem S512 .i32) (harg15 : arg15.IsWhole) (arg16 : Memref sig .scVector .vmem S512 .i32) (harg16 : arg16.IsWhole) (arg17 : Memref sig .scVector .vmem S2x128x128 .f32) (harg17 : arg17.IsWhole) (arg18 : DmaSems sig S_) (arg19 : DmaSems sig S_) (v130_r0 : DmaSems sig S_) (v141_r1 : DmaSems sig S_) (v141_r2 : DmaSems sig S_) (v141_r3 : DmaSems sig S_) (v136_r4 : DmaSems sig S_) (v136_r5 : DmaSems sig S_) (v2 : IVec S16 32) (v6 : BitVec 32) (c0_i32_160 : BitVec 32) (c0_i32_161 : BitVec 32) (hv2 : ∀ l < 16, cn v2 l = BitVec.ofNat 32 l) :
    iprop(HoldTo (thr d L) arg8 3328 K ∗ HoldTo (thr d L) arg9 1024 (Kp K 2048 1024 3) ∗ HoldTo (thr d L) arg10 1024 (Ip K 2048 1024 3) ∗ HoldTo (thr d L) arg11 1024 (Kp K 2048 1024 2) ∗ HoldTo (thr d L) arg12 1024 (Ip K 2048 1024 2) ∗ Hold (thr d L) arg13 (fun b => BitVec.ofNat 32 (below 1024 (Dp K 2048 1024 3) b)) ∗ HoldTo (thr d L) arg14 1024 (rowsM K v6) ∗ HoldTo (thr d L) arg15 0 (fun _ => 0) ∗ HoldTo (thr d L) arg16 0 (fun _ => 0))
      ⊢ (wp frame (wpE (defs₀ (F := F)) 𝒱₀ (thr d L) none) Set.univ (k0_part6 L arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 v2 v6 c0_i32_160 c0_i32_161)
        (fun r => iprop(⌜r.1 = 0⌝ ∗ HoldTo (thr d L) arg8 3328 K ∗ HoldTo (thr d L) arg9 256 (Kp K 3072 256 1) ∗ HoldTo (thr d L) arg10 256 (Ip K 3072 256 1) ∗ HoldTo (thr d L) arg11 1024 (Kp K 2048 1024 2) ∗ HoldTo (thr d L) arg12 1024 (Ip K 2048 1024 4) ∗ Hold (thr d L) arg13 (fun b => BitVec.ofNat 32 (cnt (Dp K 3072 256 1) 256 b)) ∗ HoldTo (thr d L) arg14 1024 (rowsM K v6) ∗ HoldTo (thr d L) arg15 512 (rowsP K v6) ∗ HoldTo (thr d L) arg16 0 (fun _ => 0))) : sProp 𝕄) := by
  unfold k0_part6
  iintro ⟨H8, H9, H10, H11, H12, H13, H14, H15, H16⟩
  iapply (move_last 𝒱₀ (thr d L) none Set.univ (hlx := View.loads_vmem h_S256) (P := k0_chk23) (P' := k0_chk24) (dec := k0_chk23.dec) (dec' := k0_chk24.dec) (hP := k0_idx36_inb) (hPs := k0_idx38_inb) (hP₁ := k0_idx37_inb) 1024 3 (by decide) (K := Kp K 2048 1024 3) (Dp K 2048 1024 3) (fun _ _ => rfl) (by decide) (by decide) (I := Ip K 2048 1024 3) (Ip K 2048 1024 4) (Ip_step 3 (by decide)) (hT := rfl) (ho := k0_off35_eq) (hPi := fun _ h => ⟨idx_ok h, idx_ok h⟩) (hPi' := fun _ h => idx_ok h) (hb := ?hb)) $$ [H9 H10 H13 H12]
  case hb => exact fun _ _ => rfl
  · isplitl [H9]; · iexact H9
    isplitl [H10]; · iexact H10
    isplitl [H13]; · iexact H13
    iapply HoldTo.any; iexact H12
  iintro %_ H9 H10 H13 H12
  iapply (build_loop 𝒱₀ (thr d L) none Set.univ 1024 32 0 (I := Ip K 2048 1024 4) (rowsP K v6) (rowsP_eq K v6) rfl (by decide) k0_off36_eq (fun t => (k0_off37_eq t).trans (congrArg (fun x => ![x]) (Nat.zero_add _).symm)) (hb := ?hb)) $$ [H12 H15]
  case hb => exact fun _ _ => rfl
  · isplitl [H12]; · iexact H12
    iapply HoldTo.any; iexact H15
  iintro %_ H12 H15
  iapply (zero_loop 𝒱₀ (thr d L) none Set.univ (ho := k0_off38_eq) (hT := rfl) (hb := ?hb)) $$ [H13]
  case hb => exact fun _ _ => rfl
  · iexact H13
  iintro %_ H13
  iapply (hist_loop 𝒱₀ (thr d L) none Set.univ (P := k0_chk25) (dec := k0_chk25.dec) (hP := k0_idx39_inb) 3072 256 0 (N := 3328) (by decide) (by decide) (K := K) (Dp K 3072 256 0) Dp_zero (hT := rfl) (ho := (fun t => (k0_off39_eq t).trans (congrArg (fun x => ![x]) (Nat.add_comm _ _)))) (hPi := fun _ h => idx_ok h) (hb := ?hb)) $$ [H8 H13]
  case hb => exact fun _ _ => rfl
  · isplitl [H8]; · iexact H8
    iexact H13
  iintro %_ H8 H13
  iapply (prefix_loop 𝒱₀ (thr d L) none Set.univ (n := 256) (D := (Dp K 3072 256 0)) (ho := k0_off40_eq) (hT := rfl) (hi := rfl) (hb := ?hb)) $$ [H13]
  case hb => exact fun _ _ => rfl
  · iexact H13
  iintro %_ H13
  iapply (move_first 𝒱₀ (thr d L) none Set.univ (hlx := View.loads_vmem h_S256) (P := k0_chk26) (P' := k0_chk27) (dec := k0_chk26.dec) (dec' := k0_chk27.dec) (hP := k0_idx40_inb) (hPs := k0_idx43_inb) (hP₂ := k0_idx41_inb) (hP₁ := k0_idx42_inb) 3072 256 0 (N := 3328) (by decide) (by decide) (K := K) (Dp K 3072 256 0) Dp_zero (by decide) (by decide) (Kp K 3072 256 1) (Kp_first (by decide)) (V := fun t => addi v2 (broadcast S16 (Scalar.muli (Scf.iv 0#32 1#32 t) 16#32))) (hV := fun t l hl => lane_ids v2 hv2 t hl) (Ip K 3072 256 1) (Ip_first (by decide)) (hT := rfl) (ho := (fun t => (k0_off41_eq t).trans (congrArg (fun x => ![x]) (Nat.add_comm _ _)))) (hPi := fun _ h => ⟨idx_ok h, idx_ok h⟩) (hPi' := fun _ h => ⟨idx_ok h, idx_ok h⟩) (hb := ?hb)) $$ [H8 H13 H9 H10]
  case hb => exact fun _ _ => rfl
  · isplitl [H8]; · iexact H8
    isplitl [H13]; · iexact H13
    isplitl [H9]; · iapply HoldTo.any; iexact H9
    iapply HoldTo.any; iexact H10
  iintro %_ H8 H13 H9 H10
  iapply (zero_loop 𝒱₀ (thr d L) none Set.univ (ho := k0_off42_eq) (hT := rfl) (hb := ?hb)) $$ [H13]
  case hb => exact fun _ _ => rfl
  · iexact H13
  iintro %_ H13
  iapply (hist_loop 𝒱₀ (thr d L) none Set.univ (P := k0_chk28) (dec := k0_chk28.dec) (hP := k0_idx44_inb) 0 256 1 (N := 256) (by decide) (by decide) (K := (Kp K 3072 256 1)) (Dp K 3072 256 1) (fun j _ => by rw [Nat.zero_add]; rfl) (hT := rfl) (ho := (fun t => (k0_off43_eq t).trans (congrArg (fun x => ![x]) (Nat.zero_add _).symm))) (hPi := fun _ h => idx_ok h) (hb := ?hb)) $$ [H9 H13]
  case hb => exact fun _ _ => rfl
  · isplitl [H9]; · iexact H9
    iexact H13
  iintro %_ H9 H13
  rw [wp_pure]; imodintro
  isplitr; · ipureintro; rfl
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 4000000 in
theorem part7  (arg2 : Memref sig .scVector .hbm S425984 .i32) (harg2 : arg2.IsWhole) (arg3 : Memref sig .scVector .hbm S131072x128 .f32) (harg3 : arg3.IsWhole) (arg4 : Memref sig .scVector .hbm S262144x128 .f32) (harg4 : arg4.IsWhole) (arg5 : Memref sig .scVector .hbm S32768x128 .f32) (harg5 : arg5.IsWhole) (arg6 : Memref sig .scVector .hbm S131072x128 .f32) (harg6 : arg6.IsWhole) (arg7 : Memref sig .scVector .hbm S294912x128 .f32) (harg7 : arg7.IsWhole) (arg8 : Memref sig .scVector .vmem S3328 .i32) (harg8 : arg8.IsWhole) (arg9 : Memref sig .scVector .vmem S2048 .i32) (harg9 : arg9.IsWhole) (arg10 : Memref sig .scVector .vmem S2048 .i32) (harg10 : arg10.IsWhole) (arg11 : Memref sig .scVector .vmem S2048 .i32) (harg11 : arg11.IsWhole) (arg12 : Memref sig .scVector .vmem S2048 .i32) (harg12 : arg12.IsWhole) (arg13 : Memref sig .scVector .vmem S256 .i32) (harg13 : arg13.IsWhole) (arg14 : Memref sig .scVector .vmem S1024 .i32) (harg14 : arg14.IsWhole) (arg15 : Memref sig .scVector .vmem S512 .i32) (harg15 : arg15.IsWhole) (arg16 : Memref sig .scVector .vmem S512 .i32) (harg16 : arg16.IsWhole) (arg17 : Memref sig .scVector .vmem S2x128x128 .f32) (harg17 : arg17.IsWhole) (arg18 : DmaSems sig S_) (arg19 : DmaSems sig S_) (v130_r0 : DmaSems sig S_) (v141_r1 : DmaSems sig S_) (v141_r2 : DmaSems sig S_) (v141_r3 : DmaSems sig S_) (v136_r4 : DmaSems sig S_) (v136_r5 : DmaSems sig S_) (c0_i32_199 : BitVec 32) (c0_i32_200 : BitVec 32) (v6 : BitVec 32) (hc0_i32_199 : c0_i32_199 = 0) :
    iprop(HoldTo (thr d L) arg8 3328 K ∗ HoldTo (thr d L) arg9 256 (Kp K 3072 256 1) ∗ HoldTo (thr d L) arg10 256 (Ip K 3072 256 1) ∗ HoldTo (thr d L) arg11 1024 (Kp K 2048 1024 2) ∗ HoldTo (thr d L) arg12 1024 (Ip K 2048 1024 4) ∗ Hold (thr d L) arg13 (fun b => BitVec.ofNat 32 (cnt (Dp K 3072 256 1) 256 b)) ∗ HoldTo (thr d L) arg14 1024 (rowsM K v6) ∗ HoldTo (thr d L) arg15 512 (rowsP K v6) ∗ HoldTo (thr d L) arg16 0 (fun _ => 0))
      ⊢ (wp frame (wpE (defs₀ (F := F)) 𝒱₀ (thr d L) none) Set.univ (k0_part7 L arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 c0_i32_199 c0_i32_200)
        (fun r => iprop(⌜r = 0⌝ ∗ HoldTo (thr d L) arg8 3328 K ∗ HoldTo (thr d L) arg9 256 (Kp K 3072 256 3) ∗ HoldTo (thr d L) arg10 256 (Ip K 3072 256 3) ∗ HoldTo (thr d L) arg11 256 (Kp K 3072 256 2) ∗ HoldTo (thr d L) arg12 256 (Ip K 3072 256 2) ∗ Hold (thr d L) arg13 (fun b => BitVec.ofNat 32 (below 256 (Dp K 3072 256 3) b)) ∗ HoldTo (thr d L) arg14 1024 (rowsM K v6) ∗ HoldTo (thr d L) arg15 512 (rowsP K v6) ∗ HoldTo (thr d L) arg16 0 (fun _ => 0))) : sProp 𝕄) := by
  unfold k0_part7
  iintro ⟨H8, H9, H10, H11, H12, H13, H14, H15, H16⟩
  iapply (prefix_loop 𝒱₀ (thr d L) none Set.univ (n := 256) (D := (Dp K 3072 256 1)) (ho := k0_off44_eq) (hT := rfl) (hi := hc0_i32_199) (hb := ?hb)) $$ [H13]
  case hb => exact fun _ _ => rfl
  · iexact H13
  iintro %_ H13
  iapply (move_mid 𝒱₀ (thr d L) none Set.univ (hlx := View.loads_vmem h_S256) (P := k0_chk29) (P' := k0_chk30) (dec := k0_chk29.dec) (dec' := k0_chk30.dec) (hP := k0_idx45_inb) (hPs := k0_idx48_inb) (hP₂ := k0_idx46_inb) (hP₁ := k0_idx47_inb) 256 1 (by decide) (K := Kp K 3072 256 1) (Dp K 3072 256 1) (fun _ _ => rfl) (by decide) (by decide) (Kp K 3072 256 2) (Kp_step 1 (by decide)) (I := Ip K 3072 256 1) (Ip K 3072 256 2) (Ip_step 1 (by decide)) (hT := rfl) (ho := k0_off45_eq) (hPi := fun _ h => ⟨idx_ok h, idx_ok h⟩) (hPi' := fun _ h => ⟨idx_ok h, idx_ok h⟩) (hb := ?hb)) $$ [H9 H10 H13 H11 H12]
  case hb => exact fun _ _ => rfl
  · isplitl [H9]; · iexact H9
    isplitl [H10]; · iexact H10
    isplitl [H13]; · iexact H13
    isplitl [H11]; · iapply HoldTo.any; iexact H11
    iapply HoldTo.any; iexact H12
  iintro %_ H9 H10 H13 H11 H12
  iapply (zero_loop 𝒱₀ (thr d L) none Set.univ (ho := k0_off46_eq) (hT := rfl) (hb := ?hb)) $$ [H13]
  case hb => exact fun _ _ => rfl
  · iexact H13
  iintro %_ H13
  iapply (hist_loop 𝒱₀ (thr d L) none Set.univ (P := k0_chk31) (dec := k0_chk31.dec) (hP := k0_idx49_inb) 0 256 2 (N := 256) (by decide) (by decide) (K := (Kp K 3072 256 2)) (Dp K 3072 256 2) (fun j _ => by rw [Nat.zero_add]; rfl) (hT := rfl) (ho := (fun t => (k0_off47_eq t).trans (congrArg (fun x => ![x]) (Nat.zero_add _).symm))) (hPi := fun _ h => idx_ok h) (hb := ?hb)) $$ [H11 H13]
  case hb => exact fun _ _ => rfl
  · isplitl [H11]; · iexact H11
    iexact H13
  iintro %_ H11 H13
  iapply (prefix_loop 𝒱₀ (thr d L) none Set.univ (n := 256) (D := (Dp K 3072 256 2)) (ho := k0_off48_eq) (hT := rfl) (hi := rfl) (hb := ?hb)) $$ [H13]
  case hb => exact fun _ _ => rfl
  · iexact H13
  iintro %_ H13
  iapply (move_mid 𝒱₀ (thr d L) none Set.univ (hlx := View.loads_vmem h_S256) (P := k0_chk32) (P' := k0_chk33) (dec := k0_chk32.dec) (dec' := k0_chk33.dec) (hP := k0_idx50_inb) (hPs := k0_idx53_inb) (hP₂ := k0_idx51_inb) (hP₁ := k0_idx52_inb) 256 2 (by decide) (K := Kp K 3072 256 2) (Dp K 3072 256 2) (fun _ _ => rfl) (by decide) (by decide) (Kp K 3072 256 3) (Kp_step 2 (by decide)) (I := Ip K 3072 256 2) (Ip K 3072 256 3) (Ip_step 2 (by decide)) (hT := rfl) (ho := k0_off49_eq) (hPi := fun _ h => ⟨idx_ok h, idx_ok h⟩) (hPi' := fun _ h => ⟨idx_ok h, idx_ok h⟩) (hb := ?hb)) $$ [H11 H12 H13 H9 H10]
  case hb => exact fun _ _ => rfl
  · isplitl [H11]; · iexact H11
    isplitl [H12]; · iexact H12
    isplitl [H13]; · iexact H13
    isplitl [H9]; · iapply HoldTo.any; iexact H9
    iapply HoldTo.any; iexact H10
  iintro %_ H11 H12 H13 H9 H10
  iapply (zero_loop 𝒱₀ (thr d L) none Set.univ (ho := k0_off50_eq) (hT := rfl) (hb := ?hb)) $$ [H13]
  case hb => exact fun _ _ => rfl
  · iexact H13
  iintro %_ H13
  iapply (hist_loop 𝒱₀ (thr d L) none Set.univ (P := k0_chk34) (dec := k0_chk34.dec) (hP := k0_idx54_inb) 0 256 3 (N := 256) (by decide) (by decide) (K := (Kp K 3072 256 3)) (Dp K 3072 256 3) (fun j _ => by rw [Nat.zero_add]; rfl) (hT := rfl) (ho := (fun t => (k0_off51_eq t).trans (congrArg (fun x => ![x]) (Nat.zero_add _).symm))) (hPi := fun _ h => idx_ok h) (hb := ?hb)) $$ [H9 H13]
  case hb => exact fun _ _ => rfl
  · isplitl [H9]; · iexact H9
    iexact H13
  iintro %_ H9 H13
  iapply (prefix_loop 𝒱₀ (thr d L) none Set.univ (n := 256) (D := (Dp K 3072 256 3)) (ho := k0_off52_eq) (hT := rfl) (hi := rfl) (hb := ?hb)) $$ [H13]
  case hb => exact fun _ _ => rfl
  · iexact H13
  iintro %_ H13
  rw [wp_pure]; imodintro
  isplitr; · ipureintro; rfl
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.Proof.Knn
-- ==== Proof.Moves.lean ====
/-
  The kernel's transfers: rows fetched by an index list and written out, and rows copied through a tile's buffer, each as a rule
  for the loop that does it.
-/
module

public import proofs.«01_k».proof.Proof.Base

@[expose] public section

noncomputable section

namespace Cert.Proof.Knn

open Cert.KernelIdeal Cert.KernelIdeal.Gen Cert.Proof.Radix

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

local notation "𝕄" => MT nD τ sig (HIx 1) (Elt F) ℕ UU ℕ

/-- A table of `R` rows of 128. -/
abbrev Tab (R : ℕ) : Shape := ⟨2, ![R, 128]⟩

abbrev SB := Memref sig .scVector .hbm (Tab 294912) .f32
abbrev RB := Memref sig .scVector .vmem S2x128x128 .f32

/-- The output's elements `B`, held outright, with the rows `Done` at `G`. -/
def OutTo (o : SB) (B : Finset (Idx (o.view.loc (thr d L)))) (Done : ℕ → Prop) (G : (Tab 294912).Idx → Elt F .f32) : sProp 𝕄 :=
  iprop(∃ g : Buf (Elt F) (o.view.loc (thr d L)), ⌜∀ j, Done (j 0).val → o.view.read (Elt F) g j = G j⌝ ∗ o.view.loc (thr d L) ↦[B]{fullShare} g)

/-- A buffer held outright at some contents. -/
def Any {s : Shape} {e : EltTy} (m : Memref sig .scVector .vmem s e) : sProp 𝕄 :=
  iprop(∃ f : Buf (Elt F) (m.view.loc (thr d L)), m.view.loc (thr d L) ↦[m.view.set]{fullShare} f)

/-- What the tile owes, every wait so far its own. -/
def Ow (O : CellTallies nD τ sig (HIx 1)) (W : Waits sig (HIx 1)) : sProp 𝕄 :=
  iprop(∃ W', ⌜∀ p ∈ W', p ∈ W ∨ p.2 = none⌝ ∗ owes (thr d L) O W')

variable {d L}

theorem OutTo.mono {o : SB} {B : Finset (Idx (o.view.loc (thr d L)))} {Done Done' : ℕ → Prop} {G : (Tab 294912).Idx → Elt F .f32}
    (h : ∀ r, Done' r → Done r) : (OutTo d L o B Done G : sProp 𝕄) ⊢ OutTo d L o B Done' G := by
  unfold OutTo
  iintro ⟨%g, %hg, H⟩
  iexists g; isplitr
  · ipureintro; exact fun j hj => hg j (h _ hj)
  · iexact H

theorem wait_mem {O W : Waits sig (HIx 1)} {s : SemLoc sig} (h : ∀ p ∈ O, p ∈ W ∨ p.2 = none) :
    ∀ p ∈ insert (s, (default : HIx 1)) O, p ∈ W ∨ p.2 = none := fun p hp => by
  rcases Finset.mem_insert.mp hp with hp | hp
  · exact .inr (hp ▸ rfl)
  · exact h p hp

/-- A block of 128 rows at row `r`. -/
theorem emb_rows {R : ℕ} {off : Fin 2 → ℕ} {inb : ∀ a, off a + (![128, 128] : Fin 2 → ℕ) a ≤ (Tab R).size a} {r : ℕ} (h : off = ![r, 0])
    (x : (Tab 128).Idx) : (((Rect.unit (s := Tab R) off ![128, 128] inb).emb x) 0).val = r + (x 0).val
      ∧ (((Rect.unit (s := Tab R) off ![128, 128] inb).emb x) 1).val = (x 1).val := by
  subst h
  constructor
  · show r + 1 * (x 0).val = _; omega
  · show 0 + 1 * (x 1).val = _; omega

/-- The output after 128 rows are written at row `r`. -/
theorem write_rows {o : SB} {g : o.view.ty.Contents (Elt F)} {Done : ℕ → Prop} {G : (Tab 294912).Idx → Elt F .f32}
    {off : Fin 2 → ℕ} {inb : ∀ a, off a + (![128, 128] : Fin 2 → ℕ) a ≤ (Tab 294912).size a} {hst : ∀ a, (Rect.unit (s := Tab 294912) off ![128, 128] inb).stride a = 1}
    {r : ℕ} (h : off = ![r, 0])
    (w : (Tab 128).Idx → Elt F .f32) (hg : ∀ j, Done (j 0).val → o.view.read (Elt F) g j = G j)
    (hw : ∀ x, ∀ j : (Tab 294912).Idx, (j 0).val = r + (x 0).val → (j 1).val = (x 1).val → w x = G j) :
    ∀ j, (Done (j 0).val ∨ (r ≤ (j 0).val ∧ (j 0).val < r + 128)) →
      o.view.read (Elt F) ((o.slice (Rect.unit (s := Tab 294912) off ![128, 128] inb) hst).view.write (Elt F) g w Finset.univ) j = G j := by
  intro j hj
  by_cases hr : r ≤ (j 0).val ∧ (j 0).val < r + 128
  · have e : j = (Rect.unit (s := Tab 294912) off ![128, 128] inb).emb
        (fun a => if ha : a = 0 then ⟨(j 0).val - r, by subst ha; show _ < 128; omega⟩ else ⟨(j 1).val, by
          have : a = 1 := by have := a.isLt; ext; have h2 : a.val ≠ 0 := fun h0 => ha (Fin.ext h0); show a.val = 1; have h3 : a.val < 2 := a.isLt; omega
          subst this; exact (j 1).isLt⟩ : (Tab 128).Idx) := by
      funext a
      apply Fin.ext
      have := emb_rows (inb := inb) h (fun a => if ha : a = 0 then ⟨(j 0).val - r, by subst ha; show _ < 128; omega⟩ else ⟨(j 1).val, by
          have : a = 1 := by have := a.isLt; ext; have h2 : a.val ≠ 0 := fun h0 => ha (Fin.ext h0); show a.val = 1; have h3 : a.val < 2 := a.isLt; omega
          subst this; exact (j 1).isLt⟩ : (Tab 128).Idx)
      match a with
      | 0 => rw [this.1]; show _ = r + ((j 0).val - r); omega
      | 1 => rw [this.2]; rfl
    have e0 := emb_rows (inb := inb) h
    generalize (fun a => if ha : a = 0 then _ else _ : (Tab 128).Idx) = x at e
    subst e
    refine (View.read_slice_write_emb (v := o.view) (Rect.unit (s := Tab 294912) off ![128, 128] inb) g w (Finset.mem_univ x)).trans ?_
    exact hw x _ (e0 x).1 (e0 x).2
  · have hD : Done (j 0).val := hj.resolve_right hr
    rw [← hg j hD]
    refine View.read_slice_write_of_not_mem (v := o.view) (Rect.unit (s := Tab 294912) off ![128, 128] inb) g w Finset.univ ?_
    intro hm
    apply hr
    obtain ⟨x, -, rfl⟩ := Finset.mem_map.mp hm
    have := (emb_rows (inb := inb) h x).1
    have hx : (x 0).val < 128 := (x 0).isLt
    constructor
    · exact this ▸ Nat.le_add_right _ _
    · exact this ▸ Nat.add_lt_add_left hx _

variable (O : CellTallies nD τ sig (HIx 1)) (W : Waits sig (HIx 1))
variable {α : Type} {Q : α → sProp (MT nD τ sig (HIx 1) (Elt F) ℕ UU ℕ)}

local notation "wpT" => wp frame (wpE (defs₀ (F := F)) 𝒱₀ (thr d L) none) Set.univ

/-- Contents equal through a view read through it as its own. -/
theorem HoldTo.elim {n N : ℕ} {m : Memref sig .scVector .vmem (Vec1 n) .i32} {G : ℕ → BitVec 32} :
    (HoldTo (thr d L) m N G : sProp 𝕄) ⊢ iprop(∃ f : Buf (Elt F) (m.view.loc (thr d L)),
      ⌜∀ j < N, j < n → cn (n := n) (w := 32) (m.view.read (Elt F) f) j = G j⌝ ∗ m.view.loc (thr d L) ↦[m.view.set]{fullShare} f) := by
  unfold HoldTo Hold
  iintro ⟨%G', %hG, %f, %hf, H⟩
  iexists f; isplitr
  · ipureintro; intro j hj hn; rw [hf j hn, hG j hj]
  · iexact H

theorem HoldTo.intro' {n N : ℕ} {m : Memref sig .scVector .vmem (Vec1 n) .i32} {G : ℕ → BitVec 32} (f : Buf (Elt F) (m.view.loc (thr d L)))
    (h : ∀ j < N, cn (n := n) (w := 32) (m.view.read (Elt F) f) j = G j) :
    (m.view.loc (thr d L) ↦[m.view.set]{fullShare} f : sProp 𝕄) ⊢ HoldTo (thr d L) m N G := by
  unfold HoldTo Hold
  iintro H
  iexists (cn (n := n) (w := 32) (m.view.read (Elt F) f)); isplitr
  · ipureintro; exact h
  iexists f; isplitr
  · ipureintro; intro j hj; rfl
  · iexact H

/-- 128 rows written out from a buffer that holds them. -/
theorem copy_out {o : SB} {B : Finset (Idx (o.view.loc (thr d L)))} {Done : ℕ → Prop} {G : (Tab 294912).Idx → Elt F .f32}
    {s : Memref sig .scVector .vmem (Tab 128) .f32} {sem : DmaSem sig} {fs : Buf (Elt F) (s.view.loc (thr d L))}
    {off : Fin 2 → ℕ} {inb : ∀ a, off a + (![128, 128] : Fin 2 → ℕ) a ≤ (Tab 294912).size a} {hst : ∀ a, (Rect.unit (s := Tab 294912) off ![128, 128] inb).stride a = 1}
    {r : ℕ} (h : off = ![r, 0]) (hB : (o.slice (Rect.unit (s := Tab 294912) off ![128, 128] inb) hst).view.set ⊆ B)
    (hw : ∀ x, ∀ j : (Tab 294912).Idx, (j 0).val = r + (x 0).val → (j 1).val = (x 1).val → s.view.read (Elt F) fs x = G j)
    {hs hs' : s.view.WordExact} {hd hd' : (o.slice (Rect.unit (s := Tab 294912) off ![128, 128] inb) hst).view.WordExact}
    {hty : DmaTarget.Typed (nD := nD) (τ := τ) (p := (thr d L).2) .vmem (.dma sem) (.here (o.slice (Rect.unit (s := Tab 294912) off ![128, 128] inb) hst))}
    {k : PUnit → Prog (TpuEff nD τ sig (Elt F) Λ₀ (thr d L).2) α} :
    iprop(Transfers.MayWaits (thr d L) (default : HIx 1) O ∗ (s.view.loc (thr d L) ↦[s.view.set]{fullShare} fs) ∗ OutTo d L o B Done G ∗ semVal (thr d L, SemLoc.dma sem) 0 ∗ Ow d L O W)
      ⊢ iprop(((s.view.loc (thr d L) ↦[s.view.set]{fullShare} fs) -∗ OutTo d L o B (fun j => Done j ∨ (r ≤ j ∧ j < r + 128)) G -∗ semVal (thr d L, SemLoc.dma sem) 0 -∗ Ow d L O W
          -∗ wpT (k ⟨⟩) Q)
        -∗ wpT (.op (.enqueueDma s (.here (o.slice (Rect.unit (s := Tab 294912) off ![128, 128] inb) hst)) (.dma sem) hs hd hty) fun _ =>
          .op (.waitDma2 sem s (o.slice (Rect.unit (s := Tab 294912) off ![128, 128] inb) hst) hs' hd') k) Q) := by
  unfold OutTo Ow
  iintro ⟨#Hmw, Hs, ⟨%g, %hg, Ho⟩, Hsem, %W', %hW', HO⟩ Hk
  iapply (Transfers.wp_dmaLocal countersEmb 𝒱₀ (thr d L) none (default : HIx 1) (o.slice (Rect.unit (s := Tab 294912) off ![128, 128] inb) hst).view.dmaCredit rfl
    (View.dmaCredit_pos _ (show 0 < (Tab 128).numel by decide)) hB) $$ [Hs Ho Hsem]
  · isplitl [Hs]; · iexact Hs
    isplitl [Ho]; · iexact Ho
    iexact Hsem
  iintro Hfl
  iapply (Transfers.wp_waitLocalO countersEmb 𝒱₀ (thr d L) none (default : HIx 1) rfl) $$ [Hfl HO]
  · isplitl [Hfl]; · iexact Hfl
    isplitl [HO]; · iexact HO
    iapply (Transfers.MayWaits.elim (SemLoc.dma sem)) $$ Hmw
  iintro ⟨⟨Ho, Hs⟩, Hsem, HO⟩
  iapply Hk $$ Hs [Ho] Hsem
  · iexists _; isplitr
    swap; · iexact Ho
    ipureintro
    exact write_rows h _ hg hw
  · iexists _; isplitr
    swap; · iexact HO
    ipureintro; exact wait_mem hW'

/-- The whole table as a slice of itself. -/
theorem read_all {R : ℕ} {x : Memref sig .scVector .hbm (Tab R) .f32} {inb : ∀ a, (![0, 0] : Fin 2 → ℕ) a + (Tab R).size a ≤ (Tab R).size a}
    {hst : ∀ a, (Rect.unit (s := Tab R) ![0, 0] (Tab R).size inb).stride a = 1} (fx : x.view.ty.Contents (Elt F)) (y : (Tab R).Idx) :
    (x.slice (Rect.unit (s := Tab R) ![0, 0] (Tab R).size inb) hst).view.read (Elt F) fx y = x.view.read (Elt F) fx y := by
  show x.view.read (Elt F) fx ((Rect.unit (s := Tab R) ![0, 0] (Tab R).size inb).emb y) = _
  congr 1
  funext a
  apply Fin.ext
  match a with
  | 0 => show 0 + 1 * (y 0).val = _; omega
  | 1 => show 0 + 1 * (y 1).val = _; omega

/-- A stretch of an index list. -/
theorem read_list {n : ℕ} {mi : Memref sig .scVector .vmem (Vec1 n) .i32} {off : Fin 1 → ℕ} {inb : ∀ a, off a + (Vec1 128).size a ≤ (Vec1 n).size a}
    {hst : ∀ a, (Rect.unit (s := Vec1 n) off (Vec1 128).size inb).stride a = 1} {b : ℕ} (h : off = ![b])
    (f : mi.view.ty.Contents (Elt F)) (x : (Vec1 128).Idx) :
    (mi.slice (Rect.unit (s := Vec1 n) off (Vec1 128).size inb) hst).view.read (Elt F) f x = cn (n := n) (w := 32) (mi.view.read (Elt F) f) (b + (x 0).val) := by
  subst h
  have hx : (x 0).val < 128 := (x 0).isLt
  have h0 : b + 128 ≤ n := inb 0
  show mi.view.read (Elt F) f ((Rect.unit (s := Vec1 n) ![b] (Vec1 128).size inb).emb x) = _
  rw [cn_ix _ (show b + (x 0).val < n by omega)]
  congr 1
  funext a
  obtain rfl := Fin.eq_zero a
  apply Fin.ext
  show b + 1 * (x 0).val = b + (x 0).val
  omega

theorem one_symm {n : ℕ} (k : Fin (Vec1 n).numel) : ((((Vec1 n).rowMajor.symm k) 0)).val = k.val := by
  have := Shape.rowMajor_val_one ((Vec1 n).rowMajor.symm k)
  rw [Equiv.apply_symm_apply] at this
  exact this.symm

/-- The row a gather's payload holds. -/
theorem payload_at {R : ℕ} (hg : (Tab R).Gathers 0 (Tab 128)) (g : (Tab R).Idx → Elt F .f32) (idx : (Vec1 128).Idx → Elt F .i32)
    (hn : (Vec1 128).numel = (Tab 128).size hg.axis') (hin : ∀ x, (idx x).toNat < (Tab R).size hg.axis) {J : ℕ → BitVec 32}
    (hJ : ∀ z, idx z = J (z 0).val) (z : (Tab 128).Idx) (y : (Tab R).Idx) (hy0 : (y 0).val = (J (z 0).val).toNat) (hy1 : (y 1).val = (z 1).val) :
    SparseCore.gatherPayload hg g (SparseCore.rows idx hn hin) z = g y := by
  unfold SparseCore.gatherPayload
  congr 1
  funext a
  apply Fin.ext
  match a with
  | 0 =>
    rw [hy0]
    refine (congrArg Fin.val (Shape.Gathers.idx_axis hg _ z)).trans ?_
    unfold SparseCore.rows
    refine (congrArg BitVec.toNat (hJ _)).trans ?_
    exact congrArg (fun t => (J t).toNat) (one_symm _)
  | 1 => exact (Shape.Gathers.idx_of_ne hg _ z 1 (show (1 : ℕ) ≠ 0 from Nat.one_ne_zero)).trans hy1.symm

/-- 128 rows of a table fetched by a stretch of an index list. -/
theorem fetch {R n : ℕ} {x : Memref sig .scVector .hbm (Tab R) .f32} {mi : Memref sig .scVector .vmem (Vec1 n) .i32}
    {s : Memref sig .scVector .vmem (Tab 128) .f32} {sem : DmaSem sig} {q : PosShare TreeShare} {fx : Buf (Elt F) (x.view.loc (thr d L))} {I : ℕ → BitVec 32}
    {inbx : ∀ a, (![0, 0] : Fin 2 → ℕ) a + (Tab R).size a ≤ (Tab R).size a} {hstx : ∀ a, (Rect.unit (s := Tab R) ![0, 0] (Tab R).size inbx).stride a = 1}
    {off : Fin 1 → ℕ} {inb : ∀ a, off a + (Vec1 128).size a ≤ (Vec1 n).size a} {hst : ∀ a, (Rect.unit (s := Vec1 n) off (Vec1 128).size inb).stride a = 1}
    {b N : ℕ} (h : off = ![b]) (hNn : N ≤ n) (hbN : b + 128 ≤ N) (hI : ∀ j < N, (I j).toNat < R)
    {hg : (Tab R).Gathers 0 (Tab 128)} {hn : (Vec1 128).numel = (Tab 128).size hg.axis'}
    (hN : ∑ j, (s.slice ((Tab 128).rowRect hg.axis' j) ((Tab 128).stride_rowRect hg.axis' j)).view.dmaCredit = s.view.dmaCredit)
    {hp : (thr d L).2.kind = .scVector} {hsrc hsrc' : (x.slice (Rect.unit (s := Tab R) ![0, 0] (Tab R).size inbx) hstx).view.WordExact} {he : EltTy.f32.bits = 32}
    {hsp : Space.hbm = .hbm ∨ Space.hbm = .shared} {hr : (Tab R).StreamRows 0} {hdst : s.view.WordExact}
    {k : PUnit → Prog (TpuEff nD τ sig (Elt F) Λ₀ (thr d L).2) α} :
    iprop(Transfers.MayWaits (thr d L) (default : HIx 1) O ∗ (x.view.loc (thr d L) ↦[x.view.set]{q} fx) ∗ HoldTo (thr d L) mi N I ∗ Any d L s
        ∗ semVal (thr d L, SemLoc.dma sem) 0 ∗ Ow d L O W)
      ⊢ iprop((∀ fs : Buf (Elt F) (s.view.loc (thr d L)), ⌜∀ (z : (Tab 128).Idx) (y : (Tab R).Idx), (y 0).val = (I (b + (z 0).val)).toNat → (y 1).val = (z 1).val →
              s.view.read (Elt F) fs z = x.view.read (Elt F) fx y⌝ -∗ (s.view.loc (thr d L) ↦[s.view.set]{fullShare} fs)
          -∗ (x.view.loc (thr d L) ↦[x.view.set]{q} fx) -∗ HoldTo (thr d L) mi N I -∗ semVal (thr d L, SemLoc.dma sem) 0 -∗ Ow d L O W
          -∗ wpT (k ⟨⟩) Q)
        -∗ wpT (SparseCore.enqueueIndirectGather hp (x.slice (Rect.unit (s := Tab R) ![0, 0] (Tab R).size inbx) hstx) s hg
            (mi.slice (Rect.unit (s := Vec1 n) off (Vec1 128).size inb) hst) hn sem hsrc he hsp hr >>= fun _ =>
          .op (.waitDma2 sem (x.slice (Rect.unit (s := Tab R) ![0, 0] (Tab R).size inbx) hstx) s hsrc' hdst) k) Q) := by
  unfold Any Ow
  iintro ⟨#Hmw, Hx, Hi, ⟨%f0, Hs⟩, Hsem, %W', %hW', HO⟩ Hk
  ihave Hi := HoldTo.elim $$ Hi
  icases Hi with ⟨%fi, %hfi, Hi⟩
  have h0 : b + 128 ≤ n := by have := inb 0; subst h; exact this
  have hrd : ∀ z : (Vec1 128).Idx,  (mi.slice (Rect.unit (s := Vec1 n) off (Vec1 128).size inb) hst).view.read (Elt F) fi z = I (b + (z 0).val) := by
    intro z
    have hz : (z 0).val < 128 := (z 0).isLt
    exact (read_list h fi z).trans (hfi _ (by omega) (by omega))
  have hin : ∀ z, ((mi.slice (Rect.unit (s := Vec1 n) off (Vec1 128).size inb) hst).view.read (Elt F) fi z).toNat < (Tab R).size hg.axis := by
    intro z
    have hz : (z 0).val < 128 := (z 0).isLt
    rw [hrd z]; exact hI _ (by omega)
  have hsx : (x.slice (Rect.unit (s := Tab R) ![0, 0] (Tab R).size inbx) hstx).view.set ⊆ x.view.set := View.set_slice_subset _ _
  have hsi : (mi.slice (Rect.unit (s := Vec1 n) off (Vec1 128).size inb) hst).view.set ⊆ mi.view.set := View.set_slice_subset _ _
  ihave Hx := (pointsTo_split_subset (ℓ := x.view.loc (thr d L)) hsx).1 $$ Hx
  icases Hx with ⟨Hx, Hxr⟩
  ihave Hi := (pointsTo_split_subset (ℓ := mi.view.loc (thr d L)) hsi).1 $$ Hi
  icases Hi with ⟨Hi, Hir⟩
  iapply (SparseCore.wp_indirectGatherLocal countersEmb 𝒱₀ (thr d L) none (hg := hg) (default : HIx 1) s.view.dmaCredit hN (show 0 < (Tab 128).numel by decide) hin) $$ [Hx Hs Hi Hsem]
  · isplitl [Hx]; · iexact Hx
    isplitl [Hs]; · iexact Hs
    isplitl [Hi]; · iexact Hi
    iexact Hsem
  iintro Hfl
  iapply (Transfers.wp_waitLocalO countersEmb 𝒱₀ (thr d L) none (default : HIx 1) rfl) $$ [Hfl HO]
  · isplitl [Hfl]; · iexact Hfl
    isplitl [HO]; · iexact HO
    iapply (Transfers.MayWaits.elim (SemLoc.dma sem)) $$ Hmw
  iintro ⟨⟨Hs, Hx, Hi⟩, Hsem, HO⟩
  ihave Hx := (pointsTo_split_subset (ℓ := x.view.loc (thr d L)) hsx).2 $$ [Hx Hxr]
  · isplitl [Hx] <;> iassumption
  ihave Hi := (pointsTo_split_subset (ℓ := mi.view.loc (thr d L)) hsi).2 $$ [Hi Hir]
  · isplitl [Hi] <;> iassumption
  iapply Hk $$ %_ [] Hs Hx [Hi] Hsem [HO]
  · ipureintro
    intro z y hy0 hy1
    refine (congrFun (View.read_write_univ (v := s.view) (Val := Elt F) _ _) z).trans ?_
    exact (payload_at hg _ _ hn hin (J := fun t => I (b + t)) hrd z y hy0 hy1).trans (read_all fx y)
  · iapply (HoldTo.intro' fi (fun j hj => hfi j hj (lt_of_lt_of_le hj hNn))) $$ Hi
  · iexists _; isplitr
    swap; · iexact HO
    ipureintro; exact wait_mem hW'

/-- A loop of fetches, each written out: 128 rows a trip. -/
theorem fetch_loop {R n : ℕ} {x : Memref sig .scVector .hbm (Tab R) .f32} {mi : Memref sig .scVector .vmem (Vec1 n) .i32}
    {s : Memref sig .scVector .vmem (Tab 128) .f32} {sem sem' : DmaSem sig} {q : PosShare TreeShare} {fx : Buf (Elt F) (x.view.loc (thr d L))} {I : ℕ → BitVec 32}
    {inbx : ∀ a, (![0, 0] : Fin 2 → ℕ) a + (Tab R).size a ≤ (Tab R).size a} {hstx : ∀ a, (Rect.unit (s := Tab R) ![0, 0] (Tab R).size inbx).stride a = 1}
    {o : SB} {B : Finset (Idx (o.view.loc (thr d L)))} {Done : ℕ → Prop} {G : (Tab 294912).Idx → Elt F .f32}
    {l : Scf.Loop 32} {ok : l.OK} {init z : BitVec 32}
    {body : Fin l.trips → BitVec 32 → Prog (TpuEff nD τ sig (Elt F) Λ₀ (thr d L).2) (BitVec 32)} {kk : BitVec 32 → Prog (TpuEff nD τ sig (Elt F) Λ₀ (thr d L).2) α}
    {off : Fin l.trips → Fin 1 → ℕ} {inb : ∀ t, ∀ a, off t a + (Vec1 128).size a ≤ (Vec1 n).size a} {hst : ∀ t, ∀ a, (Rect.unit (s := Vec1 n) (off t) (Vec1 128).size (inb t)).stride a = 1}
    {off' : Fin l.trips → Fin 2 → ℕ} {inb' : ∀ t, ∀ a, off' t a + (![128, 128] : Fin 2 → ℕ) a ≤ (Tab 294912).size a}
    {hst' : ∀ t, ∀ a, (Rect.unit (s := Tab 294912) (off' t) ![128, 128] (inb' t)).stride a = 1}
    (r : ℕ) (h : ∀ t, off t = ![128 * t.val]) (h' : ∀ t, off' t = ![r + 128 * t.val, 0]) (hT : 128 * l.trips = n) (hI : ∀ j < n, (I j).toNat < R)
    (hB : ∀ t, (o.slice (Rect.unit (s := Tab 294912) (off' t) ![128, 128] (inb' t)) (hst' t)).view.set ⊆ B)
    (hG : ∀ (j : (Tab 294912).Idx) (y : (Tab R).Idx), r ≤ (j 0).val → (j 0).val < r + n → (y 0).val = (I ((j 0).val - r)).toNat → (y 1).val = (j 1).val →
      x.view.read (Elt F) fx y = G j)
    {hg : (Tab R).Gathers 0 (Tab 128)} {hn : (Vec1 128).numel = (Tab 128).size hg.axis'}
    (hN : ∑ j, (s.slice ((Tab 128).rowRect hg.axis' j) ((Tab 128).stride_rowRect hg.axis' j)).view.dmaCredit = s.view.dmaCredit)
    {hp : (thr d L).2.kind = .scVector} {hsrc hsrc' : (x.slice (Rect.unit (s := Tab R) ![0, 0] (Tab R).size inbx) hstx).view.WordExact} {he : EltTy.f32.bits = 32}
    {hsp : Space.hbm = .hbm ∨ Space.hbm = .shared} {hr : (Tab R).StreamRows 0} {hdst : s.view.WordExact}
    {hs hs' : s.view.WordExact} {hd hd' : ∀ t, (o.slice (Rect.unit (s := Tab 294912) (off' t) ![128, 128] (inb' t)) (hst' t)).view.WordExact}
    {hty : ∀ t, DmaTarget.Typed (nD := nD) (τ := τ) (p := (thr d L).2) .vmem (.dma sem') (.here (o.slice (Rect.unit (s := Tab 294912) (off' t) ![128, 128] (inb' t)) (hst' t)))}
    (hb : ∀ t acc, body t acc = SparseCore.enqueueIndirectGather hp (x.slice (Rect.unit (s := Tab R) ![0, 0] (Tab R).size inbx) hstx) s hg
            (mi.slice (Rect.unit (s := Vec1 n) (off t) (Vec1 128).size (inb t)) (hst t)) hn sem hsrc he hsp hr >>= fun _ =>
          .op (.waitDma2 sem (x.slice (Rect.unit (s := Tab R) ![0, 0] (Tab R).size inbx) hstx) s hsrc' hdst) fun _ =>
          .op (.enqueueDma s (.here (o.slice (Rect.unit (s := Tab 294912) (off' t) ![128, 128] (inb' t)) (hst' t))) (.dma sem') hs (hd t) (hty t)) fun _ =>
          .op (.waitDma2 sem' s (o.slice (Rect.unit (s := Tab 294912) (off' t) ![128, 128] (inb' t)) (hst' t)) hs' (hd' t)) fun _ => .ret z) :
    iprop(Transfers.MayWaits (thr d L) (default : HIx 1) O ∗ (x.view.loc (thr d L) ↦[x.view.set]{q} fx) ∗ HoldTo (thr d L) mi n I ∗ Any d L s
        ∗ OutTo d L o B Done G ∗ semVal (thr d L, SemLoc.dma sem) 0 ∗ semVal (thr d L, SemLoc.dma sem') 0 ∗ Ow d L O W)
      ⊢ iprop((∀ acc, (x.view.loc (thr d L) ↦[x.view.set]{q} fx) -∗ HoldTo (thr d L) mi n I -∗ Any d L s
          -∗ OutTo d L o B (fun j => Done j ∨ (r ≤ j ∧ j < r + n)) G -∗ semVal (thr d L, SemLoc.dma sem) 0 -∗ semVal (thr d L, SemLoc.dma sem') 0 -∗ Ow d L O W
          -∗ wpT (kk acc) Q)
        -∗ wpT (Scf.Loop.for l ok init body >>= kk) Q) := by
  iintro ⟨#Hmw, Hx, Hi, Hs, Ho, Hsem, Hsem', HO⟩ Hkk
  have hmain := Scf.wp_for_bind frame (wpE (defs₀ (F := F)) 𝒱₀ (thr d L) none) Set.univ l.lb l.ub l.st ok init body
    (fun t _ => iprop(Transfers.MayWaits (thr d L) (default : HIx 1) O ∗ (x.view.loc (thr d L) ↦[x.view.set]{q} fx) ∗ HoldTo (thr d L) mi n I ∗ Any d L s
        ∗ OutTo d L o B (fun j => Done j ∨ (r ≤ j ∧ j < r + 128 * t)) G ∗ semVal (thr d L, SemLoc.dma sem) 0 ∗ semVal (thr d L, SemLoc.dma sem') 0 ∗ Ow d L O W))
    (fun t acc => by
      have htl : t.val < l.trips := t.isLt
      rw [hb]
      iintro ⟨#Hmw, Hx, Hi, Hs, Ho, Hsem, Hsem', HO⟩
      iapply (fetch O W (h t) le_rfl (show 128 * t.val + 128 ≤ n by omega) hI hN) $$ [Hx Hi Hs Hsem HO]
      · isplitr; · iexact Hmw
        isplitl [Hx]; · iexact Hx
        isplitl [Hi]; · iexact Hi
        isplitl [Hs]; · iexact Hs
        isplitl [Hsem]; · iexact Hsem
        iexact HO
      iintro %fs %hfs Hs Hx Hi Hsem HO
      iapply (copy_out O W (h' t) (hB t) (fun z j hj0 hj1 => ?hw)) $$ [Hs Ho Hsem' HO]
      case hw =>
        have hz : (z 0).val < 128 := (z 0).isLt
        have hlt : (I (128 * t.val + (z 0).val)).toNat < R := hI _ (by omega)
        refine (hfs z (fun a => match a with | 0 => ⟨_, hlt⟩ | 1 => z 1) rfl rfl).trans ?_
        refine hG j _ (by omega) (by omega) ?_ hj1.symm
        show (I (128 * t.val + (z 0).val)).toNat = _
        rw [show (j 0).val - r = 128 * t.val + (z 0).val by omega]
      · isplitr; · iexact Hmw
        isplitl [Hs]; · iexact Hs
        isplitl [Ho]; · iexact Ho
        isplitl [Hsem']; · iexact Hsem'
        iexact HO
      iintro Hs Ho Hsem' HO
      rw [wp_ret]; imodintro
      isplitr; · iexact Hmw
      isplitl [Hx]; · iexact Hx
      isplitl [Hi]; · iexact Hi
      isplitl [Hs]; · unfold Any; iexists fs; iexact Hs
      isplitl [Ho]
      · iapply (OutTo.mono (fun j hj => ?_)) $$ Ho
        rcases hj with hj | hj
        · exact .inl (.inl hj)
        · by_cases hlt : j < r + 128 * t.val
          · exact .inl (.inr ⟨hj.1, hlt⟩)
          · exact .inr ⟨by omega, by omega⟩
      isplitl [Hsem]; · iexact Hsem
      isplitl [Hsem']; · iexact Hsem'
      iexact HO) (kk := kk) (Q := Q)
  iapply hmain $$ [Hx Hi Hs Ho Hsem Hsem' HO]
  · isplitr; · iexact Hmw
    isplitl [Hx]; · iexact Hx
    isplitl [Hi]; · iexact Hi
    isplitl [Hs]; · iexact Hs
    isplitl [Ho]
    · iapply (OutTo.mono (fun j hj => ?_)) $$ Ho
      rcases hj with hj | hj
      · exact hj
      · omega
    isplitl [Hsem]; · iexact Hsem
    isplitl [Hsem']; · iexact Hsem'
    iexact HO
  iintro %acc ⟨-, Hx, Hi, Hs, Ho, Hsem, Hsem', HO⟩
  iapply Hkk $$ %acc Hx Hi Hs [Ho] Hsem Hsem' HO
  iapply (OutTo.mono (fun j hj => ?_)) $$ Ho
  rcases hj with hj | hj
  · exact .inl hj
  · exact .inr ⟨hj.1, lt_of_lt_of_eq hj.2 (congrArg (r + ·) hT.symm)⟩

/-- 128 rows read in from row `r'` of a table. -/
theorem copy_in {R : ℕ} {x : Memref sig .scVector .hbm (Tab R) .f32} {s : Memref sig .scVector .vmem (Tab 128) .f32} {sem : DmaSem sig}
    {q : PosShare TreeShare} {fx : Buf (Elt F) (x.view.loc (thr d L))}
    {off : Fin 2 → ℕ} {inb : ∀ a, off a + (![128, 128] : Fin 2 → ℕ) a ≤ (Tab R).size a} {hst : ∀ a, (Rect.unit (s := Tab R) off ![128, 128] inb).stride a = 1}
    {r : ℕ} (h : off = ![r, 0])
    {hs hs' : s.view.WordExact} {hd hd' : (x.slice (Rect.unit (s := Tab R) off ![128, 128] inb) hst).view.WordExact}
    {hty : DmaTarget.Typed (nD := nD) (τ := τ) (p := (thr d L).2) .hbm (.dma sem) (.here s)}
    {k : PUnit → Prog (TpuEff nD τ sig (Elt F) Λ₀ (thr d L).2) α} :
    iprop(Transfers.MayWaits (thr d L) (default : HIx 1) O ∗ (x.view.loc (thr d L) ↦[x.view.set]{q} fx) ∗ Any d L s ∗ semVal (thr d L, SemLoc.dma sem) 0 ∗ Ow d L O W)
      ⊢ iprop((∀ fs : Buf (Elt F) (s.view.loc (thr d L)), ⌜∀ (z : (Tab 128).Idx) (y : (Tab R).Idx), (y 0).val = r + (z 0).val → (y 1).val = (z 1).val →
              s.view.read (Elt F) fs z = x.view.read (Elt F) fx y⌝ -∗ (s.view.loc (thr d L) ↦[s.view.set]{fullShare} fs)
          -∗ (x.view.loc (thr d L) ↦[x.view.set]{q} fx) -∗ semVal (thr d L, SemLoc.dma sem) 0 -∗ Ow d L O W -∗ wpT (k ⟨⟩) Q)
        -∗ wpT (.op (.enqueueDma (x.slice (Rect.unit (s := Tab R) off ![128, 128] inb) hst) (.here s) (.dma sem) hd hs hty) fun _ =>
          .op (.waitDma2 sem (x.slice (Rect.unit (s := Tab R) off ![128, 128] inb) hst) s hd' hs') k) Q) := by
  unfold Any Ow
  iintro ⟨#Hmw, Hx, ⟨%f0, Hs⟩, Hsem, %W', %hW', HO⟩ Hk
  have hsx : (x.slice (Rect.unit (s := Tab R) off ![128, 128] inb) hst).view.set ⊆ x.view.set := View.set_slice_subset _ _
  ihave Hx := (pointsTo_split_subset (ℓ := x.view.loc (thr d L)) hsx).1 $$ Hx
  icases Hx with ⟨Hx, Hxr⟩
  iapply (Transfers.wp_dmaLocal countersEmb 𝒱₀ (thr d L) none (default : HIx 1) s.view.dmaCredit rfl
    (View.dmaCredit_pos _ (show 0 < (Tab 128).numel by decide)) (Finset.Subset.refl _)) $$ [Hx Hs Hsem]
  · isplitl [Hx]; · iexact Hx
    isplitl [Hs]; · iexact Hs
    iexact Hsem
  iintro Hfl
  iapply (Transfers.wp_waitLocalO countersEmb 𝒱₀ (thr d L) none (default : HIx 1) rfl) $$ [Hfl HO]
  · isplitl [Hfl]; · iexact Hfl
    isplitl [HO]; · iexact HO
    iapply (Transfers.MayWaits.elim (SemLoc.dma sem)) $$ Hmw
  iintro ⟨⟨Hs, Hx⟩, Hsem, HO⟩
  ihave Hx := (pointsTo_split_subset (ℓ := x.view.loc (thr d L)) hsx).2 $$ [Hx Hxr]
  · isplitl [Hx] <;> iassumption
  iapply Hk $$ %_ [] Hs Hx Hsem [HO]
  · ipureintro
    intro z y hy0 hy1
    refine (congrFun (View.read_write_univ (v := s.view) (Val := Elt F) _ _) z).trans ?_
    show x.view.read (Elt F) fx ((Rect.unit (s := Tab R) off ![128, 128] inb).emb z) = _
    congr 1
    have := emb_rows (inb := inb) h z
    funext a
    apply Fin.ext
    match a with
    | 0 => exact this.1.trans hy0.symm
    | 1 => exact this.2.trans hy1.symm
  · iexists _; isplitr
    swap; · iexact HO
    ipureintro; exact wait_mem hW'

/-- A loop of plain copies, 128 rows a trip: in from a table, out again. -/
theorem route_loop {R : ℕ} {x : Memref sig .scVector .hbm (Tab R) .f32}
    {s : Memref sig .scVector .vmem (Tab 128) .f32} {sem sem' : DmaSem sig} {q : PosShare TreeShare} {fx : Buf (Elt F) (x.view.loc (thr d L))}
    {o : SB} {B : Finset (Idx (o.view.loc (thr d L)))} {Done : ℕ → Prop} {G : (Tab 294912).Idx → Elt F .f32}
    {l : Scf.Loop 32} {ok : l.OK} {init z : BitVec 32}
    {body : Fin l.trips → BitVec 32 → Prog (TpuEff nD τ sig (Elt F) Λ₀ (thr d L).2) (BitVec 32)} {kk : BitVec 32 → Prog (TpuEff nD τ sig (Elt F) Λ₀ (thr d L).2) α}
    {off : Fin l.trips → Fin 2 → ℕ} {inb : ∀ t, ∀ a, off t a + (![128, 128] : Fin 2 → ℕ) a ≤ (Tab R).size a}
    {hst : ∀ t, ∀ a, (Rect.unit (s := Tab R) (off t) ![128, 128] (inb t)).stride a = 1}
    {off' : Fin l.trips → Fin 2 → ℕ} {inb' : ∀ t, ∀ a, off' t a + (![128, 128] : Fin 2 → ℕ) a ≤ (Tab 294912).size a}
    {hst' : ∀ t, ∀ a, (Rect.unit (s := Tab 294912) (off' t) ![128, 128] (inb' t)).stride a = 1}
    (r' r n : ℕ) (h : ∀ t, off t = ![r' + 128 * t.val, 0]) (h' : ∀ t, off' t = ![r + 128 * t.val, 0]) (hT : 128 * l.trips = n)
    (hB : ∀ t, (o.slice (Rect.unit (s := Tab 294912) (off' t) ![128, 128] (inb' t)) (hst' t)).view.set ⊆ B) (hR : r' + n ≤ R)
    (hG : ∀ (j : (Tab 294912).Idx) (y : (Tab R).Idx), r ≤ (j 0).val → (j 0).val < r + n → (y 0).val = r' + ((j 0).val - r) → (y 1).val = (j 1).val →
      x.view.read (Elt F) fx y = G j)
    {hs hs' hs₂ hs₃ : s.view.WordExact} {hd hd' : ∀ t, (o.slice (Rect.unit (s := Tab 294912) (off' t) ![128, 128] (inb' t)) (hst' t)).view.WordExact}
    {hx hx' : ∀ t, (x.slice (Rect.unit (s := Tab R) (off t) ![128, 128] (inb t)) (hst t)).view.WordExact}
    {hty : ∀ t, DmaTarget.Typed (nD := nD) (τ := τ) (p := (thr d L).2) .vmem (.dma sem') (.here (o.slice (Rect.unit (s := Tab 294912) (off' t) ![128, 128] (inb' t)) (hst' t)))}
    {hty' : DmaTarget.Typed (nD := nD) (τ := τ) (p := (thr d L).2) .hbm (.dma sem) (.here s)}
    (hb : ∀ t acc, body t acc =
          .op (.enqueueDma (x.slice (Rect.unit (s := Tab R) (off t) ![128, 128] (inb t)) (hst t)) (.here s) (.dma sem) (hx t) hs₂ hty') fun _ =>
          .op (.waitDma2 sem (x.slice (Rect.unit (s := Tab R) (off t) ![128, 128] (inb t)) (hst t)) s (hx' t) hs₃) fun _ =>
          .op (.enqueueDma s (.here (o.slice (Rect.unit (s := Tab 294912) (off' t) ![128, 128] (inb' t)) (hst' t))) (.dma sem') hs (hd t) (hty t)) fun _ =>
          .op (.waitDma2 sem' s (o.slice (Rect.unit (s := Tab 294912) (off' t) ![128, 128] (inb' t)) (hst' t)) hs' (hd' t)) fun _ => .ret z) :
    iprop(Transfers.MayWaits (thr d L) (default : HIx 1) O ∗ (x.view.loc (thr d L) ↦[x.view.set]{q} fx) ∗ Any d L s
        ∗ OutTo d L o B Done G ∗ semVal (thr d L, SemLoc.dma sem) 0 ∗ semVal (thr d L, SemLoc.dma sem') 0 ∗ Ow d L O W)
      ⊢ iprop((∀ acc, (x.view.loc (thr d L) ↦[x.view.set]{q} fx) -∗ Any d L s
          -∗ OutTo d L o B (fun j => Done j ∨ (r ≤ j ∧ j < r + n)) G -∗ semVal (thr d L, SemLoc.dma sem) 0 -∗ semVal (thr d L, SemLoc.dma sem') 0 -∗ Ow d L O W
          -∗ wpT (kk acc) Q)
        -∗ wpT (Scf.Loop.for l ok init body >>= kk) Q) := by
  iintro ⟨#Hmw, Hx, Hs, Ho, Hsem, Hsem', HO⟩ Hkk
  have hmain := Scf.wp_for_bind frame (wpE (defs₀ (F := F)) 𝒱₀ (thr d L) none) Set.univ l.lb l.ub l.st ok init body
    (fun t _ => iprop(Transfers.MayWaits (thr d L) (default : HIx 1) O ∗ (x.view.loc (thr d L) ↦[x.view.set]{q} fx) ∗ Any d L s
        ∗ OutTo d L o B (fun j => Done j ∨ (r ≤ j ∧ j < r + 128 * t)) G ∗ semVal (thr d L, SemLoc.dma sem) 0 ∗ semVal (thr d L, SemLoc.dma sem') 0 ∗ Ow d L O W))
    (fun t acc => by
      have htl : t.val < l.trips := t.isLt
      rw [hb]
      iintro ⟨#Hmw, Hx, Hs, Ho, Hsem, Hsem', HO⟩
      iapply (copy_in O W (h t)) $$ [Hx Hs Hsem HO]
      · isplitr; · iexact Hmw
        isplitl [Hx]; · iexact Hx
        isplitl [Hs]; · iexact Hs
        isplitl [Hsem]; · iexact Hsem
        iexact HO
      iintro %fs %hfs Hs Hx Hsem HO
      iapply (copy_out O W (h' t) (hB t) (fun z j hj0 hj1 => ?hw)) $$ [Hs Ho Hsem' HO]
      case hw =>
        have hz : (z 0).val < 128 := (z 0).isLt
        have hlt : r' + 128 * t.val + (z 0).val < R := by omega
        refine (hfs z (fun a => match a with | 0 => ⟨_, hlt⟩ | 1 => z 1) rfl rfl).trans ?_
        refine hG j _ (by omega) (by omega) ?_ hj1.symm
        show r' + 128 * t.val + (z 0).val = _
        omega
      · isplitr; · iexact Hmw
        isplitl [Hs]; · iexact Hs
        isplitl [Ho]; · iexact Ho
        isplitl [Hsem']; · iexact Hsem'
        iexact HO
      iintro Hs Ho Hsem' HO
      rw [wp_ret]; imodintro
      isplitr; · iexact Hmw
      isplitl [Hx]; · iexact Hx
      isplitl [Hs]; · unfold Any; iexists fs; iexact Hs
      isplitl [Ho]
      · iapply (OutTo.mono (fun j hj => ?_)) $$ Ho
        rcases hj with hj | hj
        · exact .inl (.inl hj)
        · by_cases hlt : j < r + 128 * t.val
          · exact .inl (.inr ⟨hj.1, hlt⟩)
          · exact .inr ⟨by omega, by omega⟩
      isplitl [Hsem]; · iexact Hsem
      isplitl [Hsem']; · iexact Hsem'
      iexact HO) (kk := kk) (Q := Q)
  iapply hmain $$ [Hx Hs Ho Hsem Hsem' HO]
  · isplitr; · iexact Hmw
    isplitl [Hx]; · iexact Hx
    isplitl [Hs]; · iexact Hs
    isplitl [Ho]
    · iapply (OutTo.mono (fun j hj => ?_)) $$ Ho
      rcases hj with hj | hj
      · exact hj
      · omega
    isplitl [Hsem]; · iexact Hsem
    isplitl [Hsem']; · iexact Hsem'
    iexact HO
  iintro %acc ⟨-, Hx, Hs, Ho, Hsem, Hsem', HO⟩
  iapply Hkk $$ %acc Hx Hs [Ho] Hsem Hsem' HO
  iapply (OutTo.mono (fun j hj => ?_)) $$ Ho
  rcases hj with hj | hj
  · exact .inl hj
  · exact .inr ⟨hj.1, lt_of_lt_of_eq hj.2 (congrArg (r + ·) hT.symm)⟩

/-- `n` words read in from place `r` of a list of `N`. -/
theorem copy_list {N n : ℕ} {x : Memref sig .scVector .hbm (Vec1 N) .i32} {s : Memref sig .scVector .vmem (Vec1 n) .i32} {sem : DmaSem sig}
    {q : PosShare TreeShare} {fx : Buf (Elt F) (x.view.loc (thr d L))} {I I' : ℕ → BitVec 32}
    {off : Fin 1 → ℕ} {inb : ∀ a, off a + (Vec1 n).size a ≤ (Vec1 N).size a} {hst : ∀ a, (Rect.unit (s := Vec1 N) off (Vec1 n).size inb).stride a = 1}
    {r : ℕ} (h : off = ![r]) (hn : 0 < (Vec1 n).numel) (hr : r + n ≤ N) (hI : ∀ j < n, cn (n := N) (w := 32) (x.view.read (Elt F) fx) (r + j) = I j)
    {hs hs' : s.view.WordExact} {hd hd' : (x.slice (Rect.unit (s := Vec1 N) off (Vec1 n).size inb) hst).view.WordExact}
    {hty : DmaTarget.Typed (nD := nD) (τ := τ) (p := (thr d L).2) .hbm (.dma sem) (.here s)}
    {k : PUnit → Prog (TpuEff nD τ sig (Elt F) Λ₀ (thr d L).2) α} :
    iprop(Transfers.MayWaits (thr d L) (default : HIx 1) O ∗ (x.view.loc (thr d L) ↦[x.view.set]{q} fx) ∗ HoldTo (thr d L) s 0 I' ∗ semVal (thr d L, SemLoc.dma sem) 0 ∗ Ow d L O W)
      ⊢ iprop(((x.view.loc (thr d L) ↦[x.view.set]{q} fx) -∗ HoldTo (thr d L) s n I -∗ semVal (thr d L, SemLoc.dma sem) 0 -∗ Ow d L O W -∗ wpT (k ⟨⟩) Q)
        -∗ wpT (.op (.enqueueDma (x.slice (Rect.unit (s := Vec1 N) off (Vec1 n).size inb) hst) (.here s) (.dma sem) hd hs hty) fun _ =>
          .op (.waitDma2 sem (x.slice (Rect.unit (s := Vec1 N) off (Vec1 n).size inb) hst) s hd' hs') k) Q) := by
  unfold Ow
  iintro ⟨#Hmw, Hx, Hs, Hsem, %W', %hW', HO⟩ Hk
  ihave Hs := (HoldTo.elim (d := d) (L := L)) $$ Hs
  icases Hs with ⟨%f0, -, Hs⟩
  have hsx : (x.slice (Rect.unit (s := Vec1 N) off (Vec1 n).size inb) hst).view.set ⊆ x.view.set := View.set_slice_subset _ _
  ihave Hx := (pointsTo_split_subset (ℓ := x.view.loc (thr d L)) hsx).1 $$ Hx
  icases Hx with ⟨Hx, Hxr⟩
  iapply (Transfers.wp_dmaLocal countersEmb 𝒱₀ (thr d L) none (default : HIx 1) s.view.dmaCredit rfl
    (View.dmaCredit_pos _ hn) (Finset.Subset.refl _)) $$ [Hx Hs Hsem]
  · isplitl [Hx]; · iexact Hx
    isplitl [Hs]; · iexact Hs
    iexact Hsem
  iintro Hfl
  iapply (Transfers.wp_waitLocalO countersEmb 𝒱₀ (thr d L) none (default : HIx 1) rfl) $$ [Hfl HO]
  · isplitl [Hfl]; · iexact Hfl
    isplitl [HO]; · iexact HO
    iapply (Transfers.MayWaits.elim (SemLoc.dma sem)) $$ Hmw
  iintro ⟨⟨Hs, Hx⟩, Hsem, HO⟩
  ihave Hx := (pointsTo_split_subset (ℓ := x.view.loc (thr d L)) hsx).2 $$ [Hx Hxr]
  · isplitl [Hx] <;> iassumption
  iapply Hk $$ Hx [Hs] Hsem [HO]
  · iapply (HoldTo.intro' (d := d) (L := L) _ ?_) $$ Hs
    intro j hj
    rw [cn_ix _ hj, ← hI j hj, cn_ix _ (show r + j < N by omega)]
    refine (congrFun (View.read_write_univ (v := s.view) (Val := Elt F) _ _) (ix j hj)).trans ?_
    show x.view.read (Elt F) fx ((Rect.unit (s := Vec1 N) off (Vec1 n).size inb).emb (ix j hj)) = _
    congr 1
    funext a
    apply Fin.ext
    subst h
    match a with
    | 0 => show r + 1 * j = r + j; omega
  · iexists _; isplitr
    swap; · iexact HO
    ipureintro; exact wait_mem hW'

/-- Rows inside a block of rows lie in any set that has the block. -/
theorem rows_subset {o : SB} {B : Finset (Idx (o.view.loc (thr d L)))} {r lo hi : ℕ} (hB : ∀ j : (Tab 294912).Idx, lo ≤ (j 0).val → (j 0).val < hi → o.view.emb j ∈ B)
    {off : Fin 2 → ℕ} {inb : ∀ a, off a + (![128, 128] : Fin 2 → ℕ) a ≤ (Tab 294912).size a} {hst : ∀ a, (Rect.unit (s := Tab 294912) off ![128, 128] inb).stride a = 1}
    (h : off = ![r, 0]) (hlo : lo ≤ r) (hhi : r + 128 ≤ hi) : (o.slice (Rect.unit (s := Tab 294912) off ![128, 128] inb) hst).view.set ⊆ B := by
  intro i hi'
  obtain ⟨z, -, rfl⟩ := Finset.mem_map.mp hi'
  have hz : (z 0).val < 128 := (z 0).isLt
  have e := (emb_rows (inb := inb) h z).1
  exact hB ((Rect.unit (s := Tab 294912) off ![128, 128] inb).emb z) (by rw [e]; omega) (by rw [e]; omega)

end Cert.Proof.Knn
-- ==== Proof.Batch.lean ====
/-
  One batch: the keys read in, the sort, and the rows fetched and written out.
-/
module

public import proofs.«01_k».proof.Proof.Parts
public import proofs.«01_k».proof.Proof.Moves

@[expose] public section

noncomputable section

namespace Cert.Proof.Knn

open Cert.KernelIdeal Cert.KernelIdeal.Gen Cert.Proof.Radix

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords) (K : ℕ → BitVec 32) (O : CellTallies nD τ sig (HIx 1)) (W : Waits sig (HIx 1))

local notation "𝕄" => MT nD τ sig (HIx 1) (Elt F) ℕ UU ℕ

/-- The two halves of the row buffer, as the transfers name them. -/
abbrev slot0 (m : RB) : Memref sig .scVector .vmem (Tab 128) .f32 :=
  (m.slice (Rect.unit (s := S2x128x128) ![0, 0, 0] S1x128x128.size inb_S2x128x128_S1x128x128_0_0_0) (fun _ => rfl)).squeeze S128x128 squeezes_S1x128x128_S128x128
abbrev slot1 (m : RB) : Memref sig .scVector .vmem (Tab 128) .f32 :=
  (m.slice (Rect.unit (s := S2x128x128) ![1, 0, 0] S1x128x128.size inb_S2x128x128_S1x128x128_1_0_0) (fun _ => rfl)).squeeze S128x128 squeezes_S1x128x128_S128x128

/-- The credit of a gather into the first half, row by row. -/
def Credit {R : ℕ} (s : Memref sig .scVector .vmem (Tab 128) .f32) (hg : (Tab R).Gathers 0 (Tab 128)) : Prop :=
  ∑ j, (s.slice ((Tab 128).rowRect hg.axis' j) ((Tab 128).stride_rowRect hg.axis' j)).view.dmaCredit = s.view.dmaCredit

/-- Rows `r` to `r + n` of the output are those a list names in a table. -/
def Rows {R : ℕ} (f : (Tab R).Idx → Elt F .f32) (I : ℕ → ℕ) (r n : ℕ) (G : (Tab 294912).Idx → Elt F .f32) : Prop :=
  ∀ (j : (Tab 294912).Idx) (y : (Tab R).Idx), r ≤ (j 0).val → (j 0).val < r + n → (y 0).val = I ((j 0).val - r) → (y 1).val = (j 1).val → f y = G j

/-- Where batch `t` of tile `L` starts: in the keys, in the output, in the routes. -/
abbrev keyAt (t : ℕ) : ℕ := 26624 * (L 1).val + 13312 * (L 0).val + 3328 * t
abbrev outAt (t : ℕ) : ℕ := 18432 * (L 1).val + 9216 * (L 0).val + 2304 * t
abbrev routeAt (t : ℕ) : ℕ := 2048 * (L 1).val + 1024 * (L 0).val + 256 * t

/-- A program, then the rest. -/
theorem wp_then {α β : Type} {e : Prog (TpuEff nD τ sig (Elt F) Λ₀ (thr d L).2) α} {k : α → Prog (TpuEff nD τ sig (Elt F) Λ₀ (thr d L).2) β} {P : sProp (MT nD τ sig (HIx 1) (Elt F) ℕ UU ℕ)}
    {Φ : α → sProp (MT nD τ sig (HIx 1) (Elt F) ℕ UU ℕ)} {Q : β → sProp (MT nD τ sig (HIx 1) (Elt F) ℕ UU ℕ)}
    (h : P ⊢ wp frame (wpE (defs₀ (F := F)) 𝒱₀ (thr d L) none) Set.univ e Φ) :
    P ⊢ iprop((∀ r, Φ r -∗ wp frame (wpE (defs₀ (F := F)) 𝒱₀ (thr d L) none) Set.univ (k r) Q) -∗ wp frame (wpE (defs₀ (F := F)) 𝒱₀ (thr d L) none) Set.univ (e >>= k) Q) := by
  rw [wp_bind]
  exact h.trans (wp_wand frame _ _)

/-- A loop by an invariant that does not read the carried word. -/
theorem loop_inv {α : Type} {Q : α → sProp (MT nD τ sig (HIx 1) (Elt F) ℕ UU ℕ)} {l : Scf.Loop 32} {ok : l.OK} {init : BitVec 32}
    {body : Fin l.trips → BitVec 32 → Prog (TpuEff nD τ sig (Elt F) Λ₀ (thr d L).2) (BitVec 32)} {kk : BitVec 32 → Prog (TpuEff nD τ sig (Elt F) Λ₀ (thr d L).2) α}
    (I : ℕ → sProp (MT nD τ sig (HIx 1) (Elt F) ℕ UU ℕ))
    (hbody : ∀ t acc, I t.val ⊢ wp frame (wpE (defs₀ (F := F)) 𝒱₀ (thr d L) none) Set.univ (body t acc) fun _ => I (t.val + 1)) :
    I 0 ⊢ iprop((∀ acc, I l.trips -∗ wp frame (wpE (defs₀ (F := F)) 𝒱₀ (thr d L) none) Set.univ (kk acc) Q)
      -∗ wp frame (wpE (defs₀ (F := F)) 𝒱₀ (thr d L) none) Set.univ (Scf.Loop.for l ok init body >>= kk) Q) :=
  Scf.wp_for_bind frame (wpE (defs₀ (F := F)) 𝒱₀ (thr d L) none) Set.univ l.lb l.ub l.st ok init body (fun t _ => I t) hbody

/-- The batch's number as the kernel computes it. -/
def v6At (t : ℕ) : BitVec 32 := BitVec.ofNat 32 (8 * (L 1).val + 4 * (L 0).val + t)

theorem v6_eq {n : ℕ} (t : Fin n) : Scalar.addi (Scalar.muli (Scalar.addi (Scalar.muli (BitVec.ofNat 32 (L 1).val) 2#32) (BitVec.ofNat 32 (L 0).val)) 4#32) (Scf.iv 0#32 1#32 t)
    = v6At L t.val := by
  unfold v6At
  show (BitVec.ofNat 32 (L 1).val * 2#32 + BitVec.ofNat 32 (L 0).val) * 4#32 + (0#32 + BitVec.ofNat 32 t.val * 1#32) = _
  apply BitVec.eq_of_toNat_eq
  simp only [BitVec.toNat_add, BitVec.toNat_mul, BitVec.toNat_ofNat]
  omega

variable {K} in
theorem Ip_lt {base n x : ℕ} (hn : n ≤ 2 ^ 32) (hx : x < n) : (Ip K base n 4 x).toNat = selOf n (skey (wd K base)) x ∧ selOf n (skey (wd K base)) x < n := by
  have h := (selOf_spec (skey_inj (w := wd K base) hn) hx).1
  refine ⟨?_, h⟩
  unfold Ip
  rw [sl_four, BitVec.toNat_ofNat, Nat.mod_eq_of_lt (lt_of_lt_of_le h hn)]

theorem v6_toNat (t : ℕ) (ht : t < 4) : (v6At L t).toNat = 8 * (L 1).val + 4 * (L 0).val + t ∧ 8 * (L 1).val + 4 * (L 0).val + t < 128 := by
  have h0 : (L 0).val < 2 := (L 0).isLt
  have h1 : (L 1).val < 16 := (L 1).isLt
  unfold v6At
  rw [BitVec.toNat_ofNat]
  omega

theorem rowsM_nat {v : BitVec 32} (hv : v.toNat < 128) {j : ℕ} (hj : j < 1024) :
    (rowsM K v j).toNat = 2048 * v.toNat + selOf 2048 (skey (wd K 0)) j ∧ selOf 2048 (skey (wd K 0)) j < 2048 := by
  have h := Ip_lt (K := K) (base := 0) (n := 2048) (x := j) (by decide) (by omega)
  refine ⟨?_, h.2⟩
  have h2 := h.2
  show (Ip K 0 2048 4 j + v * 2048#32).toNat = _
  rw [BitVec.toNat_add, BitVec.toNat_mul, h.1, BitVec.toNat_ofNat]
  omega

theorem rowsP_nat {v : BitVec 32} (hv : v.toNat < 128) {j : ℕ} (hj : j < 512) :
    (rowsP K v j).toNat = 1024 * v.toNat + selOf 1024 (skey (wd K 2048)) j ∧ selOf 1024 (skey (wd K 2048)) j < 1024 := by
  have h := Ip_lt (K := K) (base := 2048) (n := 1024) (x := j) (by decide) (by omega)
  refine ⟨?_, h.2⟩
  have h2 := h.2
  show (Ip K 2048 1024 4 j + v * 1024#32).toNat = _
  rw [BitVec.toNat_add, BitVec.toNat_mul, h.1, BitVec.toNat_ofNat]
  omega

theorem rowsA_nat {v : BitVec 32} (hv : v.toNat < 128) {j : ℕ} (hj : j < 512) :
    (rowsA K v j).toNat = 1024 * v.toNat + 256 * (j / 128) + selOf 256 (skey (wd K 3072)) (j % 128) ∧ selOf 256 (skey (wd K 3072)) (j % 128) < 256 := by
  have h := Ip_lt (K := K) (base := 3072) (n := 256) (x := j % 128) (by decide) (by omega)
  refine ⟨?_, h.2⟩
  have h2 := h.2
  show (Ip K 3072 256 4 (j % 128) + (v * 1024#32 + BitVec.ofNat 32 (256 * (j / 128)))).toNat = _
  rw [BitVec.toNat_add, BitVec.toNat_add, BitVec.toNat_mul, h.1, BitVec.toNat_ofNat, BitVec.toNat_ofNat]
  omega

set_option maxHeartbeats 4000000 in
theorem part2 (arg2 : Memref sig .scVector .hbm S425984 .i32) (harg2 : arg2.IsWhole) (arg3 : Memref sig .scVector .hbm S131072x128 .f32) (harg3 : arg3.IsWhole) (arg4 : Memref sig .scVector .hbm S262144x128 .f32) (harg4 : arg4.IsWhole) (arg5 : Memref sig .scVector .hbm S32768x128 .f32) (harg5 : arg5.IsWhole) (arg6 : Memref sig .scVector .hbm S131072x128 .f32) (harg6 : arg6.IsWhole) (arg7 : Memref sig .scVector .hbm S294912x128 .f32) (harg7 : arg7.IsWhole) (arg8 : Memref sig .scVector .vmem S3328 .i32) (harg8 : arg8.IsWhole) (arg9 : Memref sig .scVector .vmem S2048 .i32) (harg9 : arg9.IsWhole) (arg10 : Memref sig .scVector .vmem S2048 .i32) (harg10 : arg10.IsWhole) (arg11 : Memref sig .scVector .vmem S2048 .i32) (harg11 : arg11.IsWhole) (arg12 : Memref sig .scVector .vmem S2048 .i32) (harg12 : arg12.IsWhole) (arg13 : Memref sig .scVector .vmem S256 .i32) (harg13 : arg13.IsWhole) (arg14 : Memref sig .scVector .vmem S1024 .i32) (harg14 : arg14.IsWhole) (arg15 : Memref sig .scVector .vmem S512 .i32) (harg15 : arg15.IsWhole) (arg16 : Memref sig .scVector .vmem S512 .i32) (harg16 : arg16.IsWhole) (arg17 : Memref sig .scVector .vmem S2x128x128 .f32) (harg17 : arg17.IsWhole) (arg18 : DmaSems sig S_) (arg19 : DmaSems sig S_) (v130_r0 : DmaSems sig S_) (v141_r1 : DmaSems sig S_) (v141_r2 : DmaSems sig S_) (v141_r3 : DmaSems sig S_) (v136_r4 : DmaSems sig S_) (v136_r5 : DmaSems sig S_) (v1 : BitVec 32) (v2 : IVec S16 32) (c0_i32_0 : BitVec 32) (c1_i32 : BitVec 32) (k0_t1 : Fin k0_t1_loop.trips) (q2 : PosShare TreeShare) (fk : Buf (Elt F) (arg2.view.loc (thr d L)))
    (hK : ∀ j < 3328, cn (n := 425984) (w := 32) (arg2.view.read (Elt F) fk) (keyAt L k0_t1.val + j) = K j) (hv2 : ∀ l < 16, cn v2 l = BitVec.ofNat 32 l) :
    iprop(Transfers.MayWaits (thr d L) (default : HIx 1) O ∗ (arg2.view.loc (thr d L) ↦[arg2.view.set]{q2} fk) ∗ semVal (thr d L, SemLoc.dma v130_r0.sem) 0 ∗ Ow d L O W ∗ HoldTo (thr d L) arg8 0 (fun _ => 0) ∗ HoldTo (thr d L) arg9 0 (fun _ => 0) ∗ HoldTo (thr d L) arg10 0 (fun _ => 0) ∗ HoldTo (thr d L) arg11 0 (fun _ => 0) ∗ HoldTo (thr d L) arg12 0 (fun _ => 0) ∗ HoldTo (thr d L) arg13 0 (fun _ => 0) ∗ HoldTo (thr d L) arg14 0 (fun _ => 0) ∗ HoldTo (thr d L) arg15 0 (fun _ => 0) ∗ HoldTo (thr d L) arg16 0 (fun _ => 0))
      ⊢ (wp frame (wpE (defs₀ (F := F)) 𝒱₀ (thr d L) none) Set.univ (k0_part2 L arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 v1 v2 c0_i32_0 c1_i32 k0_t1)
        (fun r => iprop(⌜r = Scalar.addi (Scalar.muli v1 4#32) (Scf.iv c0_i32_0 c1_i32 k0_t1)⌝ ∗ (arg2.view.loc (thr d L) ↦[arg2.view.set]{q2} fk) ∗ semVal (thr d L, SemLoc.dma v130_r0.sem) 0 ∗ Ow d L O W ∗ HoldTo (thr d L) arg8 3328 K ∗ HoldTo (thr d L) arg9 2048 (Kp K 0 2048 1) ∗ HoldTo (thr d L) arg10 2048 (Ip K 0 2048 1) ∗ HoldTo (thr d L) arg11 0 (fun _ => 0) ∗ HoldTo (thr d L) arg12 0 (fun _ => 0) ∗ Hold (thr d L) arg13 (fun b => BitVec.ofNat 32 (below 2048 (Dp K 0 2048 1) b)) ∗ HoldTo (thr d L) arg14 0 (fun _ => 0) ∗ HoldTo (thr d L) arg15 0 (fun _ => 0) ∗ HoldTo (thr d L) arg16 0 (fun _ => 0))) : sProp 𝕄) := by
  unfold k0_part2
  iintro ⟨#Hmw, Hk, Hsem, HO, H8, H9, H10, H11, H12, H13, H14, H15, H16⟩
  have hb : keyAt L k0_t1.val + 3328 ≤ 425984 := by
    have h0 : (L 0).val < 2 := (L 0).isLt
    have h1 : (L 1).val < 16 := (L 1).isLt
    have h2 : k0_t1.val < 4 := lt_of_lt_of_eq k0_t1.isLt (by decide)
    show 26624 * (L 1).val + 13312 * (L 0).val + 3328 * k0_t1.val + 3328 ≤ _
    omega
  iapply (copy_list O W (n := 3328) (N := 425984) (I := K) (k0_off1_eq L k0_t1) (by decide) hb hK) $$ [Hk H8 Hsem HO]
  · isplitr; · iexact Hmw
    isplitl [Hk]; · iexact Hk
    isplitl [H8]; · iexact H8
    isplitl [Hsem]; · iexact Hsem
    iexact HO
  iintro Hk H8 Hsem HO
  iapply (zero_loop 𝒱₀ (thr d L) none Set.univ (ho := k0_off2_eq) (hT := rfl) (hb := ?hb)) $$ [H13]
  case hb => exact fun _ _ => rfl
  · iexact H13
  iintro %_ H13
  iapply (hist_loop 𝒱₀ (thr d L) none Set.univ (P := k0_chk1) (dec := k0_chk1.dec) (hP := k0_idx1_inb) 0 2048 0 (N := 3328) (by decide) (by decide) (K := K) (Dp K 0 2048 0) Dp_zero (hT := rfl) (ho := (fun t => (k0_off3_eq t).trans (congrArg (fun x => ![x]) (Nat.zero_add _).symm))) (hPi := fun _ h => idx_ok h) (hb := ?hb)) $$ [H8 H13]
  case hb => exact fun _ _ => rfl
  · isplitl [H8]; · iexact H8
    iexact H13
  iintro %_ H8 H13
  iapply (prefix_loop 𝒱₀ (thr d L) none Set.univ (n := 2048) (D := (Dp K 0 2048 0)) (ho := k0_off4_eq) (hT := rfl) (hi := rfl) (hb := ?hb)) $$ [H13]
  case hb => exact fun _ _ => rfl
  · iexact H13
  iintro %_ H13
  iapply (move_first 𝒱₀ (thr d L) none Set.univ (hlx := View.loads_vmem h_S256) (P := k0_chk2) (P' := k0_chk3) (dec := k0_chk2.dec) (dec' := k0_chk3.dec) (hP := k0_idx2_inb) (hPs := k0_idx5_inb) (hP₂ := k0_idx3_inb) (hP₁ := k0_idx4_inb) 0 2048 0 (N := 3328) (by decide) (by decide) (K := K) (Dp K 0 2048 0) Dp_zero (by decide) (by decide) (Kp K 0 2048 1) (Kp_first (by decide)) (V := fun t => addi v2 (broadcast S16 (Scalar.muli (Scf.iv 0#32 1#32 t) 16#32))) (hV := fun t l hl => lane_ids v2 hv2 t hl) (Ip K 0 2048 1) (Ip_first (by decide)) (hT := rfl) (ho := (fun t => (k0_off5_eq t).trans (congrArg (fun x => ![x]) (Nat.zero_add _).symm))) (hPi := fun _ h => ⟨idx_ok h, idx_ok h⟩) (hPi' := fun _ h => ⟨idx_ok h, idx_ok h⟩) (hb := ?hb)) $$ [H8 H13 H9 H10]
  case hb => exact fun _ _ => rfl
  · isplitl [H8]; · iexact H8
    isplitl [H13]; · iexact H13
    isplitl [H9]; · iexact H9
    iexact H10
  iintro %_ H8 H13 H9 H10
  iapply (zero_loop 𝒱₀ (thr d L) none Set.univ (ho := k0_off6_eq) (hT := rfl) (hb := ?hb)) $$ [H13]
  case hb => exact fun _ _ => rfl
  · iexact H13
  iintro %_ H13
  iapply (hist_loop 𝒱₀ (thr d L) none Set.univ (P := k0_chk4) (dec := k0_chk4.dec) (hP := k0_idx6_inb) 0 2048 1 (N := 2048) (by decide) (by decide) (K := (Kp K 0 2048 1)) (Dp K 0 2048 1) (fun j _ => by rw [Nat.zero_add]; rfl) (hT := rfl) (ho := (fun t => (k0_off7_eq t).trans (congrArg (fun x => ![x]) (Nat.zero_add _).symm))) (hPi := fun _ h => idx_ok h) (hb := ?hb)) $$ [H9 H13]
  case hb => exact fun _ _ => rfl
  · isplitl [H9]; · iexact H9
    iexact H13
  iintro %_ H9 H13
  iapply (prefix_loop 𝒱₀ (thr d L) none Set.univ (n := 2048) (D := (Dp K 0 2048 1)) (ho := k0_off8_eq) (hT := rfl) (hi := rfl) (hb := ?hb)) $$ [H13]
  case hb => exact fun _ _ => rfl
  · iexact H13
  iintro %_ H13
  rw [wp_pure]; imodintro
  isplitr; · ipureintro; rfl
  isplitl [Hk]; · iexact Hk
  isplitl [Hsem]; · iexact Hsem
  isplitl [HO]; · iexact HO
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 4000000 in
theorem part8 (arg2 : Memref sig .scVector .hbm S425984 .i32) (harg2 : arg2.IsWhole) (arg3 : Memref sig .scVector .hbm S131072x128 .f32) (harg3 : arg3.IsWhole) (arg4 : Memref sig .scVector .hbm S262144x128 .f32) (harg4 : arg4.IsWhole) (arg5 : Memref sig .scVector .hbm S32768x128 .f32) (harg5 : arg5.IsWhole) (arg6 : Memref sig .scVector .hbm S131072x128 .f32) (harg6 : arg6.IsWhole) (arg7 : Memref sig .scVector .hbm S294912x128 .f32) (harg7 : arg7.IsWhole) (arg8 : Memref sig .scVector .vmem S3328 .i32) (harg8 : arg8.IsWhole) (arg9 : Memref sig .scVector .vmem S2048 .i32) (harg9 : arg9.IsWhole) (arg10 : Memref sig .scVector .vmem S2048 .i32) (harg10 : arg10.IsWhole) (arg11 : Memref sig .scVector .vmem S2048 .i32) (harg11 : arg11.IsWhole) (arg12 : Memref sig .scVector .vmem S2048 .i32) (harg12 : arg12.IsWhole) (arg13 : Memref sig .scVector .vmem S256 .i32) (harg13 : arg13.IsWhole) (arg14 : Memref sig .scVector .vmem S1024 .i32) (harg14 : arg14.IsWhole) (arg15 : Memref sig .scVector .vmem S512 .i32) (harg15 : arg15.IsWhole) (arg16 : Memref sig .scVector .vmem S512 .i32) (harg16 : arg16.IsWhole) (arg17 : Memref sig .scVector .vmem S2x128x128 .f32) (harg17 : arg17.IsWhole) (arg18 : DmaSems sig S_) (arg19 : DmaSems sig S_) (v130_r0 : DmaSems sig S_) (v141_r1 : DmaSems sig S_) (v141_r2 : DmaSems sig S_) (v141_r3 : DmaSems sig S_) (v136_r4 : DmaSems sig S_) (v136_r5 : DmaSems sig S_) (k0_t1 : Fin k0_t1_loop.trips) (v6 : BitVec 32) (c0_i32_244 : BitVec 32) (q3 q4 : PosShare TreeShare) (fa : Buf (Elt F) (arg3.view.loc (thr d L))) (fm : Buf (Elt F) (arg4.view.loc (thr d L)))
    (B : Finset (Idx (arg7.view.loc (thr d L)))) (Done : ℕ → Prop) (G : (Tab 294912).Idx → Elt F .f32)
    (hB : ∀ j : (Tab 294912).Idx, outAt L k0_t1.val ≤ (j 0).val → (j 0).val < outAt L k0_t1.val + 2304 → arg7.view.emb j ∈ B)
    (hA : Rows (arg3.view.read (Elt F) fa) (fun j => (rowsA K v6 j).toNat) (outAt L k0_t1.val) 512 G)
    (hM : Rows (arg4.view.read (Elt F) fm) (fun j => (rowsM K v6 j).toNat) (outAt L k0_t1.val + 512) 1024 G)
    (hAi : ∀ j < 512, (rowsA K v6 j).toNat < 131072) (hMi : ∀ j < 1024, (rowsM K v6 j).toNat < 262144)
    (hNA : Credit (slot0 arg17) gathers_S131072x128_S128x128) (hNM : Credit (slot0 arg17) gathers_S262144x128_S128x128) (hc : c0_i32_244 = 0) :
    iprop(Transfers.MayWaits (thr d L) (default : HIx 1) O ∗ (arg3.view.loc (thr d L) ↦[arg3.view.set]{q3} fa) ∗ (arg4.view.loc (thr d L) ↦[arg4.view.set]{q4} fm) ∗ Any d L (slot0 arg17) ∗ OutTo d L arg7 B Done G ∗ semVal (thr d L, SemLoc.dma arg18.sem) 0 ∗ semVal (thr d L, SemLoc.dma v141_r1.sem) 0 ∗ semVal (thr d L, SemLoc.dma v141_r2.sem) 0 ∗ Ow d L O W ∗ HoldTo (thr d L) arg8 3328 K ∗ HoldTo (thr d L) arg9 256 (Kp K 3072 256 3) ∗ HoldTo (thr d L) arg10 256 (Ip K 3072 256 3) ∗ HoldTo (thr d L) arg11 256 (Kp K 3072 256 2) ∗ HoldTo (thr d L) arg12 256 (Ip K 3072 256 2) ∗ Hold (thr d L) arg13 (fun b => BitVec.ofNat 32 (below 256 (Dp K 3072 256 3) b)) ∗ HoldTo (thr d L) arg14 1024 (rowsM K v6) ∗ HoldTo (thr d L) arg15 512 (rowsP K v6) ∗ HoldTo (thr d L) arg16 0 (fun _ => 0))
      ⊢ (wp frame (wpE (defs₀ (F := F)) 𝒱₀ (thr d L) none) Set.univ (k0_part8 L arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 k0_t1 v6 c0_i32_244)
        (fun _ => iprop((arg3.view.loc (thr d L) ↦[arg3.view.set]{q3} fa) ∗ (arg4.view.loc (thr d L) ↦[arg4.view.set]{q4} fm) ∗ Any d L (slot0 arg17) ∗ OutTo d L arg7 B (fun j => (Done j ∨ (outAt L k0_t1.val ≤ j ∧ j < outAt L k0_t1.val + 512)) ∨ (outAt L k0_t1.val + 512 ≤ j ∧ j < outAt L k0_t1.val + 512 + 1024)) G ∗ semVal (thr d L, SemLoc.dma arg18.sem) 0 ∗ semVal (thr d L, SemLoc.dma v141_r1.sem) 0 ∗ semVal (thr d L, SemLoc.dma v141_r2.sem) 0 ∗ Ow d L O W ∗ HoldTo (thr d L) arg8 3328 K ∗ HoldTo (thr d L) arg9 256 (Kp K 3072 256 3) ∗ HoldTo (thr d L) arg10 256 (Ip K 3072 256 3) ∗ HoldTo (thr d L) arg11 256 (Kp K 3072 256 2) ∗ HoldTo (thr d L) arg12 256 (Ip K 3072 256 4) ∗ HoldTo (thr d L) arg13 0 (fun _ => 0) ∗ HoldTo (thr d L) arg14 1024 (rowsM K v6) ∗ HoldTo (thr d L) arg15 512 (rowsP K v6) ∗ HoldTo (thr d L) arg16 512 (rowsA K v6))) : sProp 𝕄) := by
  unfold k0_part8
  iintro ⟨#Hmw, Hx3, Hx4, Hs, Ho, Hg, Hs1, Hs2, HO, H8, H9, H10, H11, H12, H13, H14, H15, H16⟩
  iapply (move_last 𝒱₀ (thr d L) none Set.univ (hlx := View.loads_vmem h_S256) (P := k0_chk35) (P' := k0_chk36) (dec := k0_chk35.dec) (dec' := k0_chk36.dec) (hP := k0_idx55_inb) (hPs := k0_idx57_inb) (hP₁ := k0_idx56_inb) 256 3 (by decide) (K := Kp K 3072 256 3) (Dp K 3072 256 3) (fun _ _ => rfl) (by decide) (by decide) (I := Ip K 3072 256 3) (Ip K 3072 256 4) (Ip_step 3 (by decide)) (hT := rfl) (ho := k0_off53_eq) (hPi := fun _ h => ⟨idx_ok h, idx_ok h⟩) (hPi' := fun _ h => idx_ok h) (hb := ?hb)) $$ [H9 H10 H13 H12]
  case hb => exact fun _ _ => rfl
  · isplitl [H9]; · iexact H9
    isplitl [H10]; · iexact H10
    isplitl [H13]; · iexact H13
    iapply HoldTo.any; iexact H12
  iintro %_ H9 H10 H13 H12
  iapply (build_loop 𝒱₀ (thr d L) none Set.univ 256 8 0 (I := Ip K 3072 256 4) (rowsA K v6) (rowsA_eq K v6 0) rfl (by decide) k0_off54_eq (fun t => (k0_off55_eq t).trans (congrArg (fun x => ![x]) (Nat.zero_add _).symm)) (hb := ?hb)) $$ [H12 H16]
  case hb => exact fun _ _ => rfl
  · isplitl [H12]; · iexact H12
    iapply HoldTo.any; iexact H16
  iintro %_ H12 H16
  iapply (build_loop 𝒱₀ (thr d L) none Set.univ 256 8 128 (I := Ip K 3072 256 4) (rowsA K v6) (rowsA_eq K v6 1) rfl (by decide) k0_off56_eq (fun t => (k0_off57_eq t).trans (congrArg (fun x => ![x]) (Nat.add_comm _ _))) (hb := ?hb)) $$ [H12 H16]
  case hb => exact fun _ _ => rfl
  · isplitl [H12]; · iexact H12
    iexact H16
  iintro %_ H12 H16
  iapply (build_loop 𝒱₀ (thr d L) none Set.univ 256 8 256 (I := Ip K 3072 256 4) (rowsA K v6) (rowsA_eq K v6 2) rfl (by decide) k0_off58_eq (fun t => (k0_off59_eq t).trans (congrArg (fun x => ![x]) (Nat.add_comm _ _))) (hb := ?hb)) $$ [H12 H16]
  case hb => exact fun _ _ => rfl
  · isplitl [H12]; · iexact H12
    iexact H16
  iintro %_ H12 H16
  iapply (build_loop 𝒱₀ (thr d L) none Set.univ 256 8 384 (I := Ip K 3072 256 4) (rowsA K v6) (rowsA_eq K v6 3) rfl (by decide) k0_off60_eq (fun t => (k0_off61_eq t).trans (congrArg (fun x => ![x]) (Nat.add_comm _ _))) (hb := ?hb)) $$ [H12 H16]
  case hb => exact fun _ _ => rfl
  · isplitl [H12]; · iexact H12
    iexact H16
  iintro %_ H12 H16
  iapply (fetch_loop O W (n := 512) (o := arg7) (G := G) (q := q3) (fx := fa) (I := rowsA K v6) (outAt L k0_t1.val) k0_off62_eq (fun t => (k0_off63_eq L k0_t1 t).trans (congrArg (fun x => ![x, 0]) rfl)) rfl hAi
      (fun t => rows_subset hB (k0_off63_eq L k0_t1 t) (by show outAt L k0_t1.val ≤ outAt L k0_t1.val + 128 * t.val; omega)
        (by have h : t.val < 4 := lt_of_lt_of_eq t.isLt (by decide)
            show outAt L k0_t1.val + 128 * t.val + 128 ≤ outAt L k0_t1.val + 2304; omega)) hA hNA (hb := ?hb)) $$ [Hx3 H16 Hs Ho Hg Hs1 HO]
  case hb => exact fun _ _ => rfl
  · isplitr; · iexact Hmw
    isplitl [Hx3]; · iexact Hx3
    isplitl [H16]; · iexact H16
    isplitl [Hs]; · iexact Hs
    isplitl [Ho]; · iexact Ho
    isplitl [Hg]; · iexact Hg
    isplitl [Hs1]; · iexact Hs1
    iexact HO
  iintro %_ Hx3 H16 Hs Ho Hg Hs1 HO
  iapply (fetch_loop O W (n := 1024) (o := arg7) (G := G) (q := q4) (fx := fm) (I := rowsM K v6) (outAt L k0_t1.val + 512) k0_off64_eq (fun t => (k0_off65_eq L k0_t1 t).trans (congrArg (fun x => ![x, 0]) (Nat.add_right_comm _ _ _))) rfl hMi
      (fun t => rows_subset hB (k0_off65_eq L k0_t1 t) (by show outAt L k0_t1.val ≤ outAt L k0_t1.val + 128 * t.val + 512; omega)
        (by have h : t.val < 8 := lt_of_lt_of_eq t.isLt (by decide)
            show outAt L k0_t1.val + 128 * t.val + 512 + 128 ≤ outAt L k0_t1.val + 2304; omega)) hM hNM (hb := ?hb)) $$ [Hx4 H14 Hs Ho Hg Hs2 HO]
  case hb => exact fun _ _ => rfl
  · isplitr; · iexact Hmw
    isplitl [Hx4]; · iexact Hx4
    isplitl [H14]; · iexact H14
    isplitl [Hs]; · iexact Hs
    isplitl [Ho]; · iexact Ho
    isplitl [Hg]; · iexact Hg
    isplitl [Hs2]; · iexact Hs2
    iexact HO
  iintro %_ Hx4 H14 Hs Ho Hg Hs2 HO
  rw [wp_pure]; imodintro
  isplitl [Hx3]; · iexact Hx3
  isplitl [Hx4]; · iexact Hx4
  isplitl [Hs]; · iexact Hs
  isplitl [Ho]; · iexact Ho
  isplitl [Hg]; · iexact Hg
  isplitl [Hs1]; · iexact Hs1
  isplitl [Hs2]; · iexact Hs2
  isplitl [HO]; · iexact HO
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The lane numbers. -/
theorem lane_iota : ∀ l < 16, cn (n := 16) (w := 32) (iota .scVector S16 32 [0] iota_S16_d0_w32_scVector) l = BitVec.ofNat 32 l := fun l hl => by
  rw [cn_ix _ hl]
  unfold iota
  simp [ix]

set_option maxHeartbeats 8000000 in
/-- One tile's four batches. -/
theorem tile_run (arg2 : Memref sig .scVector .hbm S425984 .i32) (harg2 : arg2.IsWhole) (arg3 : Memref sig .scVector .hbm S131072x128 .f32) (harg3 : arg3.IsWhole) (arg4 : Memref sig .scVector .hbm S262144x128 .f32) (harg4 : arg4.IsWhole) (arg5 : Memref sig .scVector .hbm S32768x128 .f32) (harg5 : arg5.IsWhole) (arg6 : Memref sig .scVector .hbm S131072x128 .f32) (harg6 : arg6.IsWhole) (arg7 : Memref sig .scVector .hbm S294912x128 .f32) (harg7 : arg7.IsWhole) (arg8 : Memref sig .scVector .vmem S3328 .i32) (harg8 : arg8.IsWhole) (arg9 : Memref sig .scVector .vmem S2048 .i32) (harg9 : arg9.IsWhole) (arg10 : Memref sig .scVector .vmem S2048 .i32) (harg10 : arg10.IsWhole) (arg11 : Memref sig .scVector .vmem S2048 .i32) (harg11 : arg11.IsWhole) (arg12 : Memref sig .scVector .vmem S2048 .i32) (harg12 : arg12.IsWhole) (arg13 : Memref sig .scVector .vmem S256 .i32) (harg13 : arg13.IsWhole) (arg14 : Memref sig .scVector .vmem S1024 .i32) (harg14 : arg14.IsWhole) (arg15 : Memref sig .scVector .vmem S512 .i32) (harg15 : arg15.IsWhole) (arg16 : Memref sig .scVector .vmem S512 .i32) (harg16 : arg16.IsWhole) (arg17 : Memref sig .scVector .vmem S2x128x128 .f32) (harg17 : arg17.IsWhole) (arg18 : DmaSems sig S_) (arg19 : DmaSems sig S_) (v130_r0 : DmaSems sig S_) (v141_r1 : DmaSems sig S_) (v141_r2 : DmaSems sig S_) (v141_r3 : DmaSems sig S_) (v136_r4 : DmaSems sig S_) (v136_r5 : DmaSems sig S_) (q2 q3 q4 q5 q6 : PosShare TreeShare) (fk : Buf (Elt F) (arg2.view.loc (thr d L)))
    (fa : Buf (Elt F) (arg3.view.loc (thr d L))) (fm : Buf (Elt F) (arg4.view.loc (thr d L))) (fr : Buf (Elt F) (arg5.view.loc (thr d L))) (fp : Buf (Elt F) (arg6.view.loc (thr d L)))
    (B : Finset (Idx (arg7.view.loc (thr d L)))) (G : (Tab 294912).Idx → Elt F .f32)
    (hB : ∀ j : (Tab 294912).Idx, outAt L 0 ≤ (j 0).val → (j 0).val < outAt L 0 + 9216 → arg7.view.emb j ∈ B)
    (hA : ∀ t < 4, Rows (arg3.view.read (Elt F) fa) (fun j => (rowsA (fun j => cn (n := 425984) (w := 32) (arg2.view.read (Elt F) fk) (keyAt L t + j)) (v6At L t) j).toNat) (outAt L t) 512 G)
    (hM : ∀ t < 4, Rows (arg4.view.read (Elt F) fm) (fun j => (rowsM (fun j => cn (n := 425984) (w := 32) (arg2.view.read (Elt F) fk) (keyAt L t + j)) (v6At L t) j).toNat) (outAt L t + 512) 1024 G)
    (hP : ∀ t < 4, Rows (arg6.view.read (Elt F) fp) (fun j => (rowsP (fun j => cn (n := 425984) (w := 32) (arg2.view.read (Elt F) fk) (keyAt L t + j)) (v6At L t) j).toNat) (outAt L t + 1792) 512 G)
    (hR : ∀ t < 4, Rows (arg5.view.read (Elt F) fr) (fun j => routeAt L t + j) (outAt L t + 1536) 256 G)
    (hNA : Credit (slot0 arg17) gathers_S131072x128_S128x128) (hNM : Credit (slot0 arg17) gathers_S262144x128_S128x128) :
    iprop(Transfers.MayWaits (thr d L) (default : HIx 1) O ∗ (arg2.view.loc (thr d L) ↦[arg2.view.set]{q2} fk) ∗ (arg3.view.loc (thr d L) ↦[arg3.view.set]{q3} fa) ∗ (arg4.view.loc (thr d L) ↦[arg4.view.set]{q4} fm) ∗ (arg5.view.loc (thr d L) ↦[arg5.view.set]{q5} fr) ∗ (arg6.view.loc (thr d L) ↦[arg6.view.set]{q6} fp) ∗ Any d L (slot0 arg17) ∗ Any d L (slot1 arg17) ∗ OutTo d L arg7 B (fun j => outAt L 0 ≤ j ∧ j < outAt L 0 + 2304 * 0) G ∗ semVal (thr d L, SemLoc.dma arg18.sem) 0 ∗ semVal (thr d L, SemLoc.dma v130_r0.sem) 0 ∗ semVal (thr d L, SemLoc.dma v141_r1.sem) 0 ∗ semVal (thr d L, SemLoc.dma v141_r2.sem) 0 ∗ semVal (thr d L, SemLoc.dma v141_r3.sem) 0 ∗ semVal (thr d L, SemLoc.dma v136_r4.sem) 0 ∗ semVal (thr d L, SemLoc.dma v136_r5.sem) 0 ∗ Ow d L O W ∗ HoldTo (thr d L) arg8 0 (fun _ => 0) ∗ HoldTo (thr d L) arg9 0 (fun _ => 0) ∗ HoldTo (thr d L) arg10 0 (fun _ => 0) ∗ HoldTo (thr d L) arg11 0 (fun _ => 0) ∗ HoldTo (thr d L) arg12 0 (fun _ => 0) ∗ HoldTo (thr d L) arg13 0 (fun _ => 0) ∗ HoldTo (thr d L) arg14 0 (fun _ => 0) ∗ HoldTo (thr d L) arg15 0 (fun _ => 0) ∗ HoldTo (thr d L) arg16 0 (fun _ => 0))
      ⊢ (wp frame (wpE (defs₀ (F := F)) 𝒱₀ (thr d L) none) Set.univ (cc0_k L arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5)
        (fun _ => iprop((arg2.view.loc (thr d L) ↦[arg2.view.set]{q2} fk) ∗ (arg3.view.loc (thr d L) ↦[arg3.view.set]{q3} fa) ∗ (arg4.view.loc (thr d L) ↦[arg4.view.set]{q4} fm) ∗ (arg5.view.loc (thr d L) ↦[arg5.view.set]{q5} fr) ∗ (arg6.view.loc (thr d L) ↦[arg6.view.set]{q6} fp) ∗ Any d L (slot0 arg17) ∗ Any d L (slot1 arg17) ∗ OutTo d L arg7 B (fun j => outAt L 0 ≤ j ∧ j < outAt L 0 + 2304 * 4) G ∗ semVal (thr d L, SemLoc.dma arg18.sem) 0 ∗ semVal (thr d L, SemLoc.dma v130_r0.sem) 0 ∗ semVal (thr d L, SemLoc.dma v141_r1.sem) 0 ∗ semVal (thr d L, SemLoc.dma v141_r2.sem) 0 ∗ semVal (thr d L, SemLoc.dma v141_r3.sem) 0 ∗ semVal (thr d L, SemLoc.dma v136_r4.sem) 0 ∗ semVal (thr d L, SemLoc.dma v136_r5.sem) 0 ∗ Ow d L O W ∗ HoldTo (thr d L) arg8 0 (fun _ => 0) ∗ HoldTo (thr d L) arg9 0 (fun _ => 0) ∗ HoldTo (thr d L) arg10 0 (fun _ => 0) ∗ HoldTo (thr d L) arg11 0 (fun _ => 0) ∗ HoldTo (thr d L) arg12 0 (fun _ => 0) ∗ HoldTo (thr d L) arg13 0 (fun _ => 0) ∗ HoldTo (thr d L) arg14 0 (fun _ => 0) ∗ HoldTo (thr d L) arg15 0 (fun _ => 0) ∗ HoldTo (thr d L) arg16 0 (fun _ => 0))) : sProp 𝕄) := by
  unfold cc0_k
  iintro ⟨#Hmw, Hk, Hx3, Hx4, Hx5, Hx6, Hs, Hr, Ho, Hg, Hs0, Hs1, Hs2, Hs3, Hs4, Hs5, HO, H8, H9, H10, H11, H12, H13, H14, H15, H16⟩
  iapply (loop_inv d L (fun t => iprop(Transfers.MayWaits (thr d L) (default : HIx 1) O ∗ (arg2.view.loc (thr d L) ↦[arg2.view.set]{q2} fk) ∗ (arg3.view.loc (thr d L) ↦[arg3.view.set]{q3} fa) ∗ (arg4.view.loc (thr d L) ↦[arg4.view.set]{q4} fm) ∗ (arg5.view.loc (thr d L) ↦[arg5.view.set]{q5} fr) ∗ (arg6.view.loc (thr d L) ↦[arg6.view.set]{q6} fp) ∗ Any d L (slot0 arg17) ∗ Any d L (slot1 arg17) ∗ OutTo d L arg7 B (fun j => outAt L 0 ≤ j ∧ j < outAt L 0 + 2304 * t) G ∗ semVal (thr d L, SemLoc.dma arg18.sem) 0 ∗ semVal (thr d L, SemLoc.dma v130_r0.sem) 0 ∗ semVal (thr d L, SemLoc.dma v141_r1.sem) 0 ∗ semVal (thr d L, SemLoc.dma v141_r2.sem) 0 ∗ semVal (thr d L, SemLoc.dma v141_r3.sem) 0 ∗ semVal (thr d L, SemLoc.dma v136_r4.sem) 0 ∗ semVal (thr d L, SemLoc.dma v136_r5.sem) 0 ∗ Ow d L O W ∗ HoldTo (thr d L) arg8 0 (fun _ => 0) ∗ HoldTo (thr d L) arg9 0 (fun _ => 0) ∗ HoldTo (thr d L) arg10 0 (fun _ => 0) ∗ HoldTo (thr d L) arg11 0 (fun _ => 0) ∗ HoldTo (thr d L) arg12 0 (fun _ => 0) ∗ HoldTo (thr d L) arg13 0 (fun _ => 0) ∗ HoldTo (thr d L) arg14 0 (fun _ => 0) ∗ HoldTo (thr d L) arg15 0 (fun _ => 0) ∗ HoldTo (thr d L) arg16 0 (fun _ => 0))) ?hbody) $$ [Hk Hx3 Hx4 Hx5 Hx6 Hs Hr Ho Hg Hs0 Hs1 Hs2 Hs3 Hs4 Hs5 HO H8 H9 H10 H11 H12 H13 H14 H15 H16]
  case hbody =>
    intro k0_t1 acc
    have ht : k0_t1.val < 4 := lt_of_lt_of_eq k0_t1.isLt (by decide)
    have hv := v6_toNat L k0_t1.val ht
    have hvl : (v6At L k0_t1.val).toNat < 128 := hv.1 ▸ hv.2
    iintro ⟨#Hmw, Hk, Hx3, Hx4, Hx5, Hx6, Hs, Hr, Ho, Hg, Hs0, Hs1, Hs2, Hs3, Hs4, Hs5, HO, H8, H9, H10, H11, H12, H13, H14, H15, H16⟩
    iapply (wp_then d L (part2 d L (fun j => cn (n := 425984) (w := 32) (arg2.view.read (Elt F) fk) (keyAt L k0_t1.val + j)) O W arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 (Scalar.addi (Scalar.muli (BitVec.ofNat 32 (L 1).val) 2#32) (BitVec.ofNat 32 (L 0).val)) (iota .scVector S16 32 [0] iota_S16_d0_w32_scVector) 0#32 1#32 k0_t1 q2 fk (fun j _ => rfl) lane_iota)) $$ [Hk Hs0 HO H8 H9 H10 H11 H12 H13 H14 H15 H16]
    · isplitr; · iexact Hmw
      isplitl [Hk]; · iexact Hk
      isplitl [Hs0]; · iexact Hs0
      isplitl [HO]; · iexact HO
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %v6 ⟨%hr, Hk, Hs0, HO, H8, H9, H10, H11, H12, H13, H14, H15, H16⟩
    obtain rfl : v6 = v6At L k0_t1.val := hr.trans (v6_eq L k0_t1)
    iapply (wp_then d L (part3 d L (fun j => cn (n := 425984) (w := 32) (arg2.view.read (Elt F) fk) (keyAt L k0_t1.val + j)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5  )) $$ [H8 H9 H10 H11 H12 H13 H14 H15 H16]
    · isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %r ⟨%hr, H8, H9, H10, H11, H12, H13, H14, H15, H16⟩
    obtain ⟨r0, r1⟩ := r
    iapply (wp_then d L (part4 d L (fun j => cn (n := 425984) (w := 32) (arg2.view.read (Elt F) fk) (keyAt L k0_t1.val + j)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 (iota .scVector S16 32 [0] iota_S16_d0_w32_scVector) (v6At L k0_t1.val) _ _ _ (lane_iota))) $$ [H8 H9 H10 H11 H12 H13 H14 H15 H16]
    · isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %r ⟨%hr, H8, H9, H10, H11, H12, H13, H14, H15, H16⟩
    obtain ⟨r0, r1⟩ := r
    iapply (wp_then d L (part5 d L (fun j => cn (n := 425984) (w := 32) (arg2.view.read (Elt F) fk) (keyAt L k0_t1.val + j)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 _ _ _ (v6At L k0_t1.val) hr)) $$ [H8 H9 H10 H11 H12 H13 H14 H15 H16]
    · isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %r ⟨%hr, H8, H9, H10, H11, H12, H13, H14, H15, H16⟩
    obtain ⟨r0, r1⟩ := r
    iapply (wp_then d L (part6 d L (fun j => cn (n := 425984) (w := 32) (arg2.view.read (Elt F) fk) (keyAt L k0_t1.val + j)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 (iota .scVector S16 32 [0] iota_S16_d0_w32_scVector) (v6At L k0_t1.val) _ _ (lane_iota))) $$ [H8 H9 H10 H11 H12 H13 H14 H15 H16]
    · isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %r ⟨%hr, H8, H9, H10, H11, H12, H13, H14, H15, H16⟩
    obtain ⟨r0, r1⟩ := r
    iapply (wp_then d L (part7 d L (fun j => cn (n := 425984) (w := 32) (arg2.view.read (Elt F) fk) (keyAt L k0_t1.val + j)) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 _ _ (v6At L k0_t1.val) hr)) $$ [H8 H9 H10 H11 H12 H13 H14 H15 H16]
    · isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %r ⟨%hr, H8, H9, H10, H11, H12, H13, H14, H15, H16⟩
    have ho : outAt L k0_t1.val = outAt L 0 + 2304 * k0_t1.val := by unfold outAt; omega
    have hB' : ∀ j : (Tab 294912).Idx, outAt L k0_t1.val ≤ (j 0).val → (j 0).val < outAt L k0_t1.val + 2304 → arg7.view.emb j ∈ B := fun j h h' => hB j (by omega) (by omega)
    iapply (wp_then d L (part8 d L (fun j => cn (n := 425984) (w := 32) (arg2.view.read (Elt F) fk) (keyAt L k0_t1.val + j)) O W arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 v130_r0 v141_r1 v141_r2 v141_r3 v136_r4 v136_r5 k0_t1 (v6At L k0_t1.val) _ q3 q4 fa fm B _ G hB' (hA _ ht) (hM _ ht)
      (fun j hj => by have h := rowsA_nat (fun j => cn (n := 425984) (w := 32) (arg2.view.read (Elt F) fk) (keyAt L k0_t1.val + j)) hvl hj; rw [h.1]; have := h.2; omega) (fun j hj => by have h := rowsM_nat (fun j => cn (n := 425984) (w := 32) (arg2.view.read (Elt F) fk) (keyAt L k0_t1.val + j)) hvl hj; rw [h.1]; have := h.2; omega) hNA hNM hr)) $$ [Hx3 Hx4 Hs Ho Hg Hs1 Hs2 HO H8 H9 H10 H11 H12 H13 H14 H15 H16]
    · isplitr; · iexact Hmw
      isplitl [Hx3]; · iexact Hx3
      isplitl [Hx4]; · iexact Hx4
      isplitl [Hs]; · iexact Hs
      isplitl [Ho]; · iexact Ho
      isplitl [Hg]; · iexact Hg
      isplitl [Hs1]; · iexact Hs1
      isplitl [Hs2]; · iexact Hs2
      isplitl [HO]; · iexact HO
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %r ⟨Hx3, Hx4, Hs, Ho, Hg, Hs1, Hs2, HO, H8, H9, H10, H11, H12, H13, H14, H15, H16⟩
    obtain ⟨r0, r1, r2, r3⟩ := r
    have hPi : ∀ j < 512, (rowsP (fun j => cn (n := 425984) (w := 32) (arg2.view.read (Elt F) fk) (keyAt L k0_t1.val + j)) (v6At L k0_t1.val) j).toNat < 131072 := fun j hj => by have h := rowsP_nat (fun j => cn (n := 425984) (w := 32) (arg2.view.read (Elt F) fk) (keyAt L k0_t1.val + j)) hvl hj; rw [h.1]; have := h.2; omega
    iapply (fetch_loop O W (n := 512) (o := arg7) (G := G) (q := q6) (fx := fp) (I := rowsP (fun j => cn (n := 425984) (w := 32) (arg2.view.read (Elt F) fk) (keyAt L k0_t1.val + j)) (v6At L k0_t1.val)) (outAt L k0_t1.val + 1792) k0_off66_eq (fun t => (k0_off67_eq L k0_t1 t).trans (congrArg (fun x => ![x, 0]) (Nat.add_right_comm _ _ _))) rfl hPi
        (fun t => rows_subset hB' (k0_off67_eq L k0_t1 t) (by show outAt L k0_t1.val ≤ outAt L k0_t1.val + 128 * t.val + 1792; omega)
          (by have h : t.val < 4 := lt_of_lt_of_eq t.isLt (by decide)
              show outAt L k0_t1.val + 128 * t.val + 1792 + 128 ≤ outAt L k0_t1.val + 2304; omega)) (hP _ ht) hNA (hb := ?hb)) $$ [Hx6 H15 Hs Ho Hg Hs3 HO]
    case hb => exact fun _ _ => rfl
    · isplitr; · iexact Hmw
      isplitl [Hx6]; · iexact Hx6
      isplitl [H15]; · iexact H15
      isplitl [Hs]; · iexact Hs
      isplitl [Ho]; · iexact Ho
      isplitl [Hg]; · iexact Hg
      isplitl [Hs3]; · iexact Hs3
      iexact HO
    iintro %_ Hx6 H15 Hs Ho Hg Hs3 HO
    iapply (route_loop O W (o := arg7) (G := G) (q := q5) (fx := fr) (s := slot1 arg17) (routeAt L k0_t1.val) (outAt L k0_t1.val + 1536) 256 (k0_off68_eq L k0_t1)
        (fun t => (k0_off69_eq L k0_t1 t).trans (congrArg (fun x => ![x, 0]) (Nat.add_right_comm _ _ _))) rfl
        (fun t => rows_subset hB' (k0_off69_eq L k0_t1 t) (by show outAt L k0_t1.val ≤ outAt L k0_t1.val + 128 * t.val + 1536; omega)
          (by have h : t.val < 2 := lt_of_lt_of_eq t.isLt (by decide)
              show outAt L k0_t1.val + 128 * t.val + 1536 + 128 ≤ outAt L k0_t1.val + 2304; omega))
        (by have h0 : (L 0).val < 2 := (L 0).isLt
            have h1 : (L 1).val < 16 := (L 1).isLt
            show 2048 * (L 1).val + 1024 * (L 0).val + 256 * k0_t1.val + 256 ≤ 32768
            omega) (hR _ ht) (hb := ?hb)) $$ [Hx5 Hr Ho Hs4 Hs5 HO]
    case hb => exact fun _ _ => rfl
    · isplitr; · iexact Hmw
      isplitl [Hx5]; · iexact Hx5
      isplitl [Hr]; · iexact Hr
      isplitl [Ho]; · iexact Ho
      isplitl [Hs4]; · iexact Hs4
      isplitl [Hs5]; · iexact Hs5
      iexact HO
    iintro %_ Hx5 Hr Ho Hs4 Hs5 HO
    rw [wp_pure]; imodintro
    isplitr; · iexact Hmw
    isplitl [Hk]; · iexact Hk
    isplitl [Hx3]; · iexact Hx3
    isplitl [Hx4]; · iexact Hx4
    isplitl [Hx5]; · iexact Hx5
    isplitl [Hx6]; · iexact Hx6
    isplitl [Hs]; · iexact Hs
    isplitl [Hr]; · iexact Hr
    isplitl [Ho]
    · iapply (OutTo.mono (fun j hj => ?_)) $$ Ho
      by_cases h1 : j < outAt L 0 + 2304 * k0_t1.val
      · exact .inl (.inl (.inl (.inl ⟨hj.1, h1⟩)))
      have h2 := hj.1
      have h3 := hj.2
      by_cases h4 : j < outAt L k0_t1.val + 512
      · exact .inl (.inl (.inl (.inr ⟨by omega, h4⟩)))
      by_cases h5 : j < outAt L k0_t1.val + 512 + 1024
      · exact .inl (.inl (.inr ⟨by omega, h5⟩))
      by_cases h6 : j < outAt L k0_t1.val + 1536 + 256
      · exact .inr ⟨by omega, h6⟩
      · exact .inl (.inr ⟨by omega, by omega⟩)
    isplitl [Hg]; · iexact Hg
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [HO]; · iexact HO
    isplitl [H8]; · iapply HoldTo.any; iexact H8
    isplitl [H9]; · iapply HoldTo.any; iexact H9
    isplitl [H10]; · iapply HoldTo.any; iexact H10
    isplitl [H11]; · iapply HoldTo.any; iexact H11
    isplitl [H12]; · iapply HoldTo.any; iexact H12
    isplitl [H13]; · iapply HoldTo.any; iexact H13
    isplitl [H14]; · iapply HoldTo.any; iexact H14
    isplitl [H15]; · iapply HoldTo.any; iexact H15
    iapply HoldTo.any; iexact H16
  · isplitr; · iexact Hmw
    isplitl [Hk]; · iexact Hk
    isplitl [Hx3]; · iexact Hx3
    isplitl [Hx4]; · iexact Hx4
    isplitl [Hx5]; · iexact Hx5
    isplitl [Hx6]; · iexact Hx6
    isplitl [Hs]; · iexact Hs
    isplitl [Hr]; · iexact Hr
    isplitl [Ho]; · iexact Ho
    isplitl [Hg]; · iexact Hg
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [HO]; · iexact HO
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %acc ⟨-, Hk, Hx3, Hx4, Hx5, Hx6, Hs, Hr, Ho, Hg, Hs0, Hs1, Hs2, Hs3, Hs4, Hs5, HO, H8, H9, H10, H11, H12, H13, H14, H15, H16⟩
  rw [wp_pure]; imodintro
  isplitl [Hk]; · iexact Hk
  isplitl [Hx3]; · iexact Hx3
  isplitl [Hx4]; · iexact Hx4
  isplitl [Hx5]; · iexact Hx5
  isplitl [Hx6]; · iexact Hx6
  isplitl [Hs]; · iexact Hs
  isplitl [Hr]; · iexact Hr
  isplitl [Ho]; · iexact Ho
  isplitl [Hg]; · iexact Hg
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [HO]; · iexact HO
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.Proof.Knn
-- ==== Proof.Spec.lean ====
/-
  What the kernel writes, as one function of the arrays it reads, and that each tile's rows are this function's.
-/
module

public import proofs.«01_k».proof.Proof.Batch

@[expose] public section

noncomputable section

namespace Cert.Proof.Knn

open Cert.KernelIdeal Cert.KernelIdeal.Gen Cert.Proof.Radix

open Idealize.ShloMosaic

variable {F : FTy → Type} [FloatOps F]

/-- The index of column `c` of row `r` (modulo the number of rows). -/
def at2 {R : ℕ} (hR : 0 < R) (r : ℕ) (c : Fin 128) : (Tab R).Idx := fun a => match a with | 0 => ⟨r % R, Nat.mod_lt _ hR⟩ | 1 => c

theorem at2_eq {R : ℕ} (hR : 0 < R) (r : ℕ) (c : Fin 128) (y : (Tab R).Idx) (h0 : (y 0).val = r) (h1 : (y 1).val = c.val) : at2 hR r c = y := by
  funext a
  match a with
  | 0 => exact Fin.ext (by show r % R = (y 0).val; have h : (y 0).val < R := (y 0).isLt; rw [h0] at h ⊢; exact Nat.mod_eq_of_lt h)
  | 1 => exact Fin.ext h1.symm

/-- Batch `b`'s keys. -/
def keysOf (fk : (Vec1 425984).Idx → BitVec 32) (b : ℕ) : ℕ → BitVec 32 := fun j => cn fk (3328 * b + j)

/-- Row `r` of batch `b`'s result: which row of which table it is. -/
def Gout (fk : (Vec1 425984).Idx → BitVec 32) (fa : (Tab 131072).Idx → Elt F .f32) (fm : (Tab 262144).Idx → Elt F .f32)
    (fr : (Tab 32768).Idx → Elt F .f32) (fp : (Tab 131072).Idx → Elt F .f32) (b r : ℕ) (c : Fin 128) : Elt F .f32 :=
  if r < 512 then fa (at2 (by decide) (1024 * b + 256 * (r / 128) + selOf 256 (skey (wd (keysOf fk b) 3072)) (r % 128)) c)
  else if r < 1536 then fm (at2 (by decide) (2048 * b + selOf 2048 (skey (wd (keysOf fk b) 0)) (r - 512)) c)
  else if r < 1792 then fr (at2 (by decide) (256 * b + (r - 1536)) c)
  else fp (at2 (by decide) (1024 * b + selOf 1024 (skey (wd (keysOf fk b) 2048)) (r - 1792)) c)

/-- The whole result. -/
def Gall (fk : (Vec1 425984).Idx → BitVec 32) (fa : (Tab 131072).Idx → Elt F .f32) (fm : (Tab 262144).Idx → Elt F .f32)
    (fr : (Tab 32768).Idx → Elt F .f32) (fp : (Tab 131072).Idx → Elt F .f32) : (Tab 294912).Idx → Elt F .f32 :=
  fun j => Gout fk fa fm fr fp ((j 0).val / 2304) ((j 0).val % 2304) (j 1)

variable (L : grid0.Coords) (fk : (Vec1 425984).Idx → BitVec 32) (fa : (Tab 131072).Idx → Elt F .f32) (fm : (Tab 262144).Idx → Elt F .f32)
  (fr : (Tab 32768).Idx → Elt F .f32) (fp : (Tab 131072).Idx → Elt F .f32)

theorem keys_at (t : ℕ) : (fun j => cn (n := 425984) (w := 32) fk (keyAt L t + j)) = keysOf fk (8 * (L 1).val + 4 * (L 0).val + t) := by
  funext j; unfold keysOf; exact congrArg _ (by unfold keyAt; omega)

/-- Where row `r` of tile `L`'s batch `t` is in the output. -/
theorem Gall_at (t : ℕ) (j : (Tab 294912).Idx) (r : ℕ) (hr : r < 2304) (h : (j 0).val = outAt L t + r) :
    Gall fk fa fm fr fp j = Gout fk fa fm fr fp (8 * (L 1).val + 4 * (L 0).val + t) r (j 1) := by
  unfold Gall
  have h1 : (j 0).val / 2304 = 8 * (L 1).val + 4 * (L 0).val + t := by unfold outAt at h; omega
  have h2 : (j 0).val % 2304 = r := by unfold outAt at h; omega
  rw [h1, h2]

theorem rows_A (t : ℕ) (ht : t < 4) :
    Rows fa (fun j => (rowsA (fun j => cn (n := 425984) (w := 32) fk (keyAt L t + j)) (v6At L t) j).toNat) (outAt L t) 512 (Gall fk fa fm fr fp) := by
  intro j y h1 h2 h3 h4
  have hv := v6_toNat L t ht
  have hn := rowsA_nat (keysOf fk (8 * (L 1).val + 4 * (L 0).val + t)) (v := v6At L t) (by omega) (j := (j 0).val - outAt L t) (by omega)
  rw [Gall_at L fk fa fm fr fp t j ((j 0).val - outAt L t) (by omega) (by omega)]
  unfold Gout
  rw [if_pos (by omega)]
  exact congrArg fa (at2_eq _ _ _ y (by rw [h3, keys_at]; exact hn.1.trans (by rw [hv.1])) h4).symm

theorem rows_M (t : ℕ) (ht : t < 4) :
    Rows fm (fun j => (rowsM (fun j => cn (n := 425984) (w := 32) fk (keyAt L t + j)) (v6At L t) j).toNat) (outAt L t + 512) 1024 (Gall fk fa fm fr fp) := by
  intro j y h1 h2 h3 h4
  have hv := v6_toNat L t ht
  have hn := rowsM_nat (keysOf fk (8 * (L 1).val + 4 * (L 0).val + t)) (v := v6At L t) (by omega) (j := (j 0).val - (outAt L t + 512)) (by omega)
  rw [Gall_at L fk fa fm fr fp t j ((j 0).val - outAt L t) (by omega) (by omega)]
  unfold Gout
  rw [if_neg (by omega), if_pos (by omega), Nat.sub_sub]
  exact congrArg fm (at2_eq _ _ _ y (by rw [h3, keys_at]; exact hn.1.trans (by rw [hv.1])) h4).symm

theorem rows_P (t : ℕ) (ht : t < 4) :
    Rows fp (fun j => (rowsP (fun j => cn (n := 425984) (w := 32) fk (keyAt L t + j)) (v6At L t) j).toNat) (outAt L t + 1792) 512 (Gall fk fa fm fr fp) := by
  intro j y h1 h2 h3 h4
  have hv := v6_toNat L t ht
  have hn := rowsP_nat (keysOf fk (8 * (L 1).val + 4 * (L 0).val + t)) (v := v6At L t) (by omega) (j := (j 0).val - (outAt L t + 1792)) (by omega)
  rw [Gall_at L fk fa fm fr fp t j ((j 0).val - outAt L t) (by omega) (by omega)]
  unfold Gout
  rw [if_neg (by omega), if_neg (by omega), if_neg (by omega), Nat.sub_sub]
  exact congrArg fp (at2_eq _ _ _ y (by rw [h3, keys_at]; exact hn.1.trans (by rw [hv.1])) h4).symm

theorem rows_R (t : ℕ) : Rows fr (fun j => routeAt L t + j) (outAt L t + 1536) 256 (Gall fk fa fm fr fp) := by
  intro j y h1 h2 h3 h4
  rw [Gall_at L fk fa fm fr fp t j ((j 0).val - outAt L t) (by omega) (by omega)]
  unfold Gout
  rw [if_neg (by omega), if_neg (by omega), if_pos (by omega)]
  exact congrArg fr (at2_eq _ _ _ y (by
    rw [h3]; show routeAt L t + ((j 0).val - (outAt L t + 1536)) = _
    have e : (j 0).val - outAt L t - 1536 = (j 0).val - (outAt L t + 1536) := Nat.sub_sub _ _ _
    unfold routeAt; omega) h4).symm

end Cert.Proof.Knn
-- ==== Proof.Own.lean ====
/-
  One tile: the arrays it reads and writes, its buffers and its semaphores.
-/
module

public import proofs.«01_k».proof.Proof.Spec
public import Idealize.ShloMosaic.Lib.ShareLeaves

@[expose] public section

noncomputable section

namespace Cert.Proof.Knn

open Cert.KernelIdeal Cert.KernelIdeal.Gen Cert.Proof.Radix

open Idealize.ShloMosaic
open Idealize.ShloMosaic.SparseCore (S V T)
open Idealize.ShloMosaic.SparseCore.Cfg (HIx mem_ownCells ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.ShareLeaves (leaf pointsTo_leaves)

variable {F : FTy → Type} [FloatOps F] (m : (ℓ : Loc nD τ sig) → Buf (Elt F) ℓ)

local notation "𝕄" => MT nD τ sig (HIx 1) (Elt F) ℕ UU ℕ

/-! ## The arrays -/

abbrev kLoc (d : Dev nD) : Loc nD τ sig := (SparseCore.T d).loc main_arg0
abbrev aLoc (d : Dev nD) : Loc nD τ sig := (SparseCore.T d).loc main_arg1
abbrev mLoc (d : Dev nD) : Loc nD τ sig := (SparseCore.T d).loc main_arg2
abbrev rLoc (d : Dev nD) : Loc nD τ sig := (SparseCore.T d).loc main_arg3
abbrev pLoc (d : Dev nD) : Loc nD τ sig := (SparseCore.T d).loc main_arg4
abbrev oLoc (d : Dev nD) : Loc nD τ sig := (SparseCore.T d).loc main_v0

/-- The result on device `d`, of the launch contents of the inputs. -/
def res (d : Dev nD) : Buf (Elt F) (oLoc d) := Gall (m (kLoc d)) (m (aLoc d)) (m (mLoc d)) (m (rLoc d)) (m (pLoc d))

/-- The rows of tile `(c, i)`. -/
def oSet (c : Fin 2) (i : Fin 16) : Finset (Tab 294912).Idx :=
  Finset.univ.filter fun j => 18432 * i.val + 9216 * c.val ≤ (j 0).val ∧ (j 0).val < 18432 * i.val + 9216 * c.val + 9216

/-- The tile's share of each input. -/
abbrev sh (c : Fin 2) (i : Fin 16) : PosShare TreeShare := leaf 4 (leaf 1 fullShare c) i

/-- The five inputs at a share. -/
def ins (d : Dev nD) (q : PosShare TreeShare) : sProp 𝕄 :=
  iprop((kLoc d ↦{q} m (kLoc d)) ∗ (aLoc d ↦{q} m (aLoc d)) ∗ (mLoc d ↦{q} m (mLoc d)) ∗ (rLoc d ↦{q} m (rLoc d)) ∗ (pLoc d ↦{q} m (pLoc d)))

abbrev oRow (d : Dev nD) (c : Fin 2) (i : Fin 16) (f : Buf (Elt F) (oLoc d)) : sProp 𝕄 := oLoc d ↦[oSet c i]{fullShare} f

variable (d : Dev nD) (L : grid0.Coords)

abbrev cL (L : grid0.Coords) : Fin 2 := Fin.cast (rfl : grid0.bound 0 = 2) (L 0)
abbrev jL (L : grid0.Coords) : Fin 16 := Fin.cast (rfl : grid0.bound 1 = 16) (L 1)

/-! ## The tile's semaphores and buffers -/

abbrev cell (s : DmaSems sig S_) : GSem nD τ sig := (thr d L, .dma s.sem)

theorem cell_ne {s s' : DmaSems sig S_} (h : (SemLoc.dma s.sem : SemLoc sig) ≠ SemLoc.dma s'.sem) : cell d L s ≠ cell d L s' :=
  fun e => h (congrArg Prod.snd e)
theorem cell_mem {s : DmaSems sig S_} (h : (SemLoc.dma s.sem : SemLoc sig).isScoped .scVector = true) : cell d L s ∈ ownCells (thr d L) :=
  (mem_ownCells (g := cell d L s)).mpr ⟨rfl, h⟩

abbrev bref (b : Ref sig .scVector) : DevRef τ sig := (Proc.scVector (cV L) (jV L)).devRef b
theorem bref_ne {b b' : Ref sig .scVector} (h : b ≠ b') : bref L b ≠ bref L b' := fun e => h (Proc.devRef_injective _ e)

theorem ownSems0_V :
    (ownSems0 (thr d L) : sProp 𝕄)
      = iprop(semVal (cell d L cc0_scratch10) 0 ∗ semVal (cell d L cc0_scoped0) 0 ∗ semVal (cell d L cc0_scoped1) 0 ∗ semVal (cell d L cc0_scoped2) 0 ∗ semVal (cell d L cc0_scoped3) 0 ∗ semVal (cell d L cc0_scoped4) 0 ∗ semVal (cell d L cc0_scoped5) 0 ∗ bigSep ((((((((ownCells (thr d L)).erase (cell d L cc0_scratch10)).erase (cell d L cc0_scoped0)).erase (cell d L cc0_scoped1)).erase (cell d L cc0_scoped2)).erase (cell d L cc0_scoped3)).erase (cell d L cc0_scoped4)).erase (cell d L cc0_scoped5)) fun g => semVal g 0) := by
  unfold SparseCore.Cfg.ownSems0
  rw [SparseCore.bigSep_erase' (cell_mem d L (s := cc0_scratch10) (by decide)),
    SparseCore.bigSep_erase' (Finset.mem_erase.mpr ⟨cell_ne d L (s := cc0_scoped0) (s' := cc0_scratch10) (by decide), cell_mem d L (s := cc0_scoped0) (by decide)⟩),
    SparseCore.bigSep_erase' (Finset.mem_erase.mpr ⟨cell_ne d L (s := cc0_scoped1) (s' := cc0_scoped0) (by decide), Finset.mem_erase.mpr ⟨cell_ne d L (s := cc0_scoped1) (s' := cc0_scratch10) (by decide), cell_mem d L (s := cc0_scoped1) (by decide)⟩⟩),
    SparseCore.bigSep_erase' (Finset.mem_erase.mpr ⟨cell_ne d L (s := cc0_scoped2) (s' := cc0_scoped1) (by decide), Finset.mem_erase.mpr ⟨cell_ne d L (s := cc0_scoped2) (s' := cc0_scoped0) (by decide), Finset.mem_erase.mpr ⟨cell_ne d L (s := cc0_scoped2) (s' := cc0_scratch10) (by decide), cell_mem d L (s := cc0_scoped2) (by decide)⟩⟩⟩),
    SparseCore.bigSep_erase' (Finset.mem_erase.mpr ⟨cell_ne d L (s := cc0_scoped3) (s' := cc0_scoped2) (by decide), Finset.mem_erase.mpr ⟨cell_ne d L (s := cc0_scoped3) (s' := cc0_scoped1) (by decide), Finset.mem_erase.mpr ⟨cell_ne d L (s := cc0_scoped3) (s' := cc0_scoped0) (by decide), Finset.mem_erase.mpr ⟨cell_ne d L (s := cc0_scoped3) (s' := cc0_scratch10) (by decide), cell_mem d L (s := cc0_scoped3) (by decide)⟩⟩⟩⟩),
    SparseCore.bigSep_erase' (Finset.mem_erase.mpr ⟨cell_ne d L (s := cc0_scoped4) (s' := cc0_scoped3) (by decide), Finset.mem_erase.mpr ⟨cell_ne d L (s := cc0_scoped4) (s' := cc0_scoped2) (by decide), Finset.mem_erase.mpr ⟨cell_ne d L (s := cc0_scoped4) (s' := cc0_scoped1) (by decide), Finset.mem_erase.mpr ⟨cell_ne d L (s := cc0_scoped4) (s' := cc0_scoped0) (by decide), Finset.mem_erase.mpr ⟨cell_ne d L (s := cc0_scoped4) (s' := cc0_scratch10) (by decide), cell_mem d L (s := cc0_scoped4) (by decide)⟩⟩⟩⟩⟩),
    SparseCore.bigSep_erase' (Finset.mem_erase.mpr ⟨cell_ne d L (s := cc0_scoped5) (s' := cc0_scoped4) (by decide), Finset.mem_erase.mpr ⟨cell_ne d L (s := cc0_scoped5) (s' := cc0_scoped3) (by decide), Finset.mem_erase.mpr ⟨cell_ne d L (s := cc0_scoped5) (s' := cc0_scoped2) (by decide), Finset.mem_erase.mpr ⟨cell_ne d L (s := cc0_scoped5) (s' := cc0_scoped1) (by decide), Finset.mem_erase.mpr ⟨cell_ne d L (s := cc0_scoped5) (s' := cc0_scoped0) (by decide), Finset.mem_erase.mpr ⟨cell_ne d L (s := cc0_scoped5) (s' := cc0_scratch10) (by decide), cell_mem d L (s := cc0_scoped5) (by decide)⟩⟩⟩⟩⟩⟩)]

theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f) ∗ (∃ f, (thr d L).loc cc0_scratch8 ↦{fullShare} f) ∗ (∃ f, (thr d L).loc cc0_scratch9 ↦{fullShare} f) ∗ bigSep (((((((((((ownRefs (τ := τ) (.scVector (cV L) (jV L))).erase (bref L cc0_scratch0)).erase (bref L cc0_scratch1)).erase (bref L cc0_scratch2)).erase (bref L cc0_scratch3)).erase (bref L cc0_scratch4)).erase (bref L cc0_scratch5)).erase (bref L cc0_scratch6)).erase (bref L cc0_scratch7)).erase (bref L cc0_scratch8)).erase (bref L cc0_scratch9))
          fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bref L cc0_scratch0) rfl)).trans ?_
  rw [SparseCore.bigSep_erase' (Finset.mem_erase.mpr ⟨bref_ne L (b := cc0_scratch1) (b' := cc0_scratch0) (by decide), SparseCore.Cfg.mem_ownRefs_of_owner (p := Proc.scVector (cV L) (jV L)) (b := bref L cc0_scratch1) rfl⟩),
    SparseCore.bigSep_erase' (Finset.mem_erase.mpr ⟨bref_ne L (b := cc0_scratch2) (b' := cc0_scratch1) (by decide), Finset.mem_erase.mpr ⟨bref_ne L (b := cc0_scratch2) (b' := cc0_scratch0) (by decide), SparseCore.Cfg.mem_ownRefs_of_owner (p := Proc.scVector (cV L) (jV L)) (b := bref L cc0_scratch2) rfl⟩⟩),
    SparseCore.bigSep_erase' (Finset.mem_erase.mpr ⟨bref_ne L (b := cc0_scratch3) (b' := cc0_scratch2) (by decide), Finset.mem_erase.mpr ⟨bref_ne L (b := cc0_scratch3) (b' := cc0_scratch1) (by decide), Finset.mem_erase.mpr ⟨bref_ne L (b := cc0_scratch3) (b' := cc0_scratch0) (by decide), SparseCore.Cfg.mem_ownRefs_of_owner (p := Proc.scVector (cV L) (jV L)) (b := bref L cc0_scratch3) rfl⟩⟩⟩),
    SparseCore.bigSep_erase' (Finset.mem_erase.mpr ⟨bref_ne L (b := cc0_scratch4) (b' := cc0_scratch3) (by decide), Finset.mem_erase.mpr ⟨bref_ne L (b := cc0_scratch4) (b' := cc0_scratch2) (by decide), Finset.mem_erase.mpr ⟨bref_ne L (b := cc0_scratch4) (b' := cc0_scratch1) (by decide), Finset.mem_erase.mpr ⟨bref_ne L (b := cc0_scratch4) (b' := cc0_scratch0) (by decide), SparseCore.Cfg.mem_ownRefs_of_owner (p := Proc.scVector (cV L) (jV L)) (b := bref L cc0_scratch4) rfl⟩⟩⟩⟩),
    SparseCore.bigSep_erase' (Finset.mem_erase.mpr ⟨bref_ne L (b := cc0_scratch5) (b' := cc0_scratch4) (by decide), Finset.mem_erase.mpr ⟨bref_ne L (b := cc0_scratch5) (b' := cc0_scratch3) (by decide), Finset.mem_erase.mpr ⟨bref_ne L (b := cc0_scratch5) (b' := cc0_scratch2) (by decide), Finset.mem_erase.mpr ⟨bref_ne L (b := cc0_scratch5) (b' := cc0_scratch1) (by decide), Finset.mem_erase.mpr ⟨bref_ne L (b := cc0_scratch5) (b' := cc0_scratch0) (by decide), SparseCore.Cfg.mem_ownRefs_of_owner (p := Proc.scVector (cV L) (jV L)) (b := bref L cc0_scratch5) rfl⟩⟩⟩⟩⟩),
    SparseCore.bigSep_erase' (Finset.mem_erase.mpr ⟨bref_ne L (b := cc0_scratch6) (b' := cc0_scratch5) (by decide), Finset.mem_erase.mpr ⟨bref_ne L (b := cc0_scratch6) (b' := cc0_scratch4) (by decide), Finset.mem_erase.mpr ⟨bref_ne L (b := cc0_scratch6) (b' := cc0_scratch3) (by decide), Finset.mem_erase.mpr ⟨bref_ne L (b := cc0_scratch6) (b' := cc0_scratch2) (by decide), Finset.mem_erase.mpr ⟨bref_ne L (b := cc0_scratch6) (b' := cc0_scratch1) (by decide), Finset.mem_erase.mpr ⟨bref_ne L (b := cc0_scratch6) (b' := cc0_scratch0) (by decide), SparseCore.Cfg.mem_ownRefs_of_owner (p := Proc.scVector (cV L) (jV L)) (b := bref L cc0_scratch6) rfl⟩⟩⟩⟩⟩⟩),
    SparseCore.bigSep_erase' (Finset.mem_erase.mpr ⟨bref_ne L (b := cc0_scratch7) (b' := cc0_scratch6) (by decide), Finset.mem_erase.mpr ⟨bref_ne L (b := cc0_scratch7) (b' := cc0_scratch5) (by decide), Finset.mem_erase.mpr ⟨bref_ne L (b := cc0_scratch7) (b' := cc0_scratch4) (by decide), Finset.mem_erase.mpr ⟨bref_ne L (b := cc0_scratch7) (b' := cc0_scratch3) (by decide), Finset.mem_erase.mpr ⟨bref_ne L (b := cc0_scratch7) (b' := cc0_scratch2) (by decide), Finset.mem_erase.mpr ⟨bref_ne L (b := cc0_scratch7) (b' := cc0_scratch1) (by decide), Finset.mem_erase.mpr ⟨bref_ne L (b := cc0_scratch7) (b' := cc0_scratch0) (by decide), SparseCore.Cfg.mem_ownRefs_of_owner (p := Proc.scVector (cV L) (jV L)) (b := bref L cc0_scratch7) rfl⟩⟩⟩⟩⟩⟩⟩),
    SparseCore.bigSep_erase' (Finset.mem_erase.mpr ⟨bref_ne L (b := cc0_scratch8) (b' := cc0_scratch7) (by decide), Finset.mem_erase.mpr ⟨bref_ne L (b := cc0_scratch8) (b' := cc0_scratch6) (by decide), Finset.mem_erase.mpr ⟨bref_ne L (b := cc0_scratch8) (b' := cc0_scratch5) (by decide), Finset.mem_erase.mpr ⟨bref_ne L (b := cc0_scratch8) (b' := cc0_scratch4) (by decide), Finset.mem_erase.mpr ⟨bref_ne L (b := cc0_scratch8) (b' := cc0_scratch3) (by decide), Finset.mem_erase.mpr ⟨bref_ne L (b := cc0_scratch8) (b' := cc0_scratch2) (by decide), Finset.mem_erase.mpr ⟨bref_ne L (b := cc0_scratch8) (b' := cc0_scratch1) (by decide), Finset.mem_erase.mpr ⟨bref_ne L (b := cc0_scratch8) (b' := cc0_scratch0) (by decide), SparseCore.Cfg.mem_ownRefs_of_owner (p := Proc.scVector (cV L) (jV L)) (b := bref L cc0_scratch8) rfl⟩⟩⟩⟩⟩⟩⟩⟩),
    SparseCore.bigSep_erase' (Finset.mem_erase.mpr ⟨bref_ne L (b := cc0_scratch9) (b' := cc0_scratch8) (by decide), Finset.mem_erase.mpr ⟨bref_ne L (b := cc0_scratch9) (b' := cc0_scratch7) (by decide), Finset.mem_erase.mpr ⟨bref_ne L (b := cc0_scratch9) (b' := cc0_scratch6) (by decide), Finset.mem_erase.mpr ⟨bref_ne L (b := cc0_scratch9) (b' := cc0_scratch5) (by decide), Finset.mem_erase.mpr ⟨bref_ne L (b := cc0_scratch9) (b' := cc0_scratch4) (by decide), Finset.mem_erase.mpr ⟨bref_ne L (b := cc0_scratch9) (b' := cc0_scratch3) (by decide), Finset.mem_erase.mpr ⟨bref_ne L (b := cc0_scratch9) (b' := cc0_scratch2) (by decide), Finset.mem_erase.mpr ⟨bref_ne L (b := cc0_scratch9) (b' := cc0_scratch1) (by decide), Finset.mem_erase.mpr ⟨bref_ne L (b := cc0_scratch9) (b' := cc0_scratch0) (by decide), SparseCore.Cfg.mem_ownRefs_of_owner (p := Proc.scVector (cV L) (jV L)) (b := bref L cc0_scratch9) rfl⟩⟩⟩⟩⟩⟩⟩⟩⟩)]

/-! ## The two halves of the row buffer -/

local notation "gV" => (Memref.whole Cert.KernelIdeal.cc0_scratch9 : Memref Cert.KernelIdeal.sig Kind.scVector Space.vmem Cert.KernelIdeal.S2x128x128 EltTy.f32)

theorem slots_disjoint : (slot1 gV).view.set ⊆ Finset.univ \ (slot0 gV).view.set := by
  intro y hy
  refine Finset.mem_sdiff.mpr ⟨Finset.mem_univ _, fun h0 => ?_⟩
  have e0 : (slot0 gV).view.set = (Rect.unit (s := S2x128x128) ![0, 0, 0] S1x128x128.size inb_S2x128x128_S1x128x128_0_0_0).set := (View.set_reshape _ _).trans (View.set_slice_whole _ _)
  have e1 : (slot1 gV).view.set = (Rect.unit (s := S2x128x128) ![1, 0, 0] S1x128x128.size inb_S2x128x128_S1x128x128_1_0_0).set := (View.set_reshape _ _).trans (View.set_slice_whole _ _)
  rw [e0] at h0; rw [e1] at hy
  have h0 := Rect.mem_set_unit.mp h0 0
  have h1 := Rect.mem_set_unit.mp hy 0
  have a0 : (y 0).val < 0 + 1 := h0.2
  have a1 : 1 ≤ (y 0).val := h1.1
  omega

/-- The row buffer whole is its two halves and what is left of it. -/
theorem slots_split (f : Buf (Elt F) ((thr d L).loc cc0_scratch9)) :
    ((thr d L).loc cc0_scratch9 ↦{fullShare} f : sProp 𝕄)
      ⊢ iprop(Any d L (slot0 gV) ∗ Any d L (slot1 gV) ∗ ((thr d L).loc cc0_scratch9 ↦[(Finset.univ \ (slot0 gV).view.set) \ (slot1 gV).view.set]{fullShare} f)) := by
  iintro H
  ihave H := (pointsTo_split_subset (ℓ := (thr d L).loc cc0_scratch9) (q := fullShare) (f := f) (S := Finset.univ) (Finset.subset_univ (slot0 gV).view.set)).1 $$ H
  icases H with ⟨H0, H⟩
  ihave H := (pointsTo_split_subset (ℓ := (thr d L).loc cc0_scratch9) (q := fullShare) (f := f) slots_disjoint).1 $$ H
  icases H with ⟨H1, H⟩
  isplitl [H0]; · unfold Any; iexists f; iexact H0
  isplitl [H1]; · unfold Any; iexists f; iexact H1
  iexact H

theorem slots_join (f : Buf (Elt F) ((thr d L).loc cc0_scratch9)) :
    iprop(Any d L (slot0 gV) ∗ Any d L (slot1 gV) ∗ ((thr d L).loc cc0_scratch9 ↦[(Finset.univ \ (slot0 gV).view.set) \ (slot1 gV).view.set]{fullShare} f))
      ⊢ (iprop(∃ f, (thr d L).loc cc0_scratch9 ↦{fullShare} f) : sProp 𝕄) := by
  unfold Any
  iintro ⟨⟨%f0, H0⟩, ⟨%f1, H1⟩, H⟩
  ihave H := (pointsTo_join_subset (ℓ := (thr d L).loc cc0_scratch9) (q := fullShare) (g := f1) (f := f) slots_disjoint) $$ [H1 H]
  · isplitl [H1] <;> iassumption
  ihave H := (pointsTo_join_subset (ℓ := (thr d L).loc cc0_scratch9) (q := fullShare) (g := f0) (S := Finset.univ) (Finset.subset_univ (slot0 gV).view.set)) $$ [H0 H]
  · isplitl [H0] <;> iassumption
  iexists _; iexact H

theorem credit_A : Credit (slot0 gV) gathers_S131072x128_S128x128 := by unfold Credit; decide
theorem credit_M : Credit (slot0 gV) gathers_S262144x128_S128x128 := by unfold Credit; decide

/-! ## The other buffers, whole -/

theorem hold_of {n : ℕ} (m : Memref sig .scVector .vmem (Vec1 n) .i32) (h : m.view.set = Finset.univ) (f : Buf (Elt F) (m.view.loc (thr d L))) :
    (m.view.loc (thr d L) ↦{fullShare} f : sProp 𝕄) ⊢ HoldTo (thr d L) m 0 (fun _ => 0) := by
  have e := HoldTo.intro' (d := d) (L := L) (m := m) (G := fun _ => 0) f (fun j (hj : j < 0) => absurd hj (Nat.not_lt_zero j))
  rw [h] at e; exact e

theorem of_hold {n : ℕ} (m : Memref sig .scVector .vmem (Vec1 n) .i32) (h : m.view.set = Finset.univ) :
    (HoldTo (thr d L) m 0 (fun _ => 0) : sProp 𝕄) ⊢ iprop(∃ f : Buf (Elt F) (m.view.loc (thr d L)), m.view.loc (thr d L) ↦{fullShare} f) := by
  refine HoldTo.elim.trans ?_
  rw [h]
  iintro ⟨%f, -, H⟩
  iexists f; iexact H

theorem out_of (o : SB) (B : Finset (Idx (o.view.loc (thr d L)))) (G : (Tab 294912).Idx → Elt F .f32) (f : Buf (Elt F) (o.view.loc (thr d L))) :
    (o.view.loc (thr d L) ↦[B]{fullShare} f : sProp 𝕄) ⊢ OutTo d L o B (fun j => outAt L 0 ≤ j ∧ j < outAt L 0 + 2304 * 0) G := by
  unfold OutTo
  iintro H
  iexists f; isplitr
  · ipureintro; intro j hj; exact absurd hj.2 (by have := hj.1; omega)
  · iexact H

theorem of_out (G : (Tab 294912).Idx → Elt F .f32) :
    (OutTo d L (Memref.whole main_v0_scv) (oSet (cL L) (jL L)) (fun j => outAt L 0 ≤ j ∧ j < outAt L 0 + 2304 * 4) G : sProp 𝕄) ⊢ oRow d (cL L) (jL L) G := by
  unfold OutTo
  iintro ⟨%g, %hg, H⟩
  iapply (Entails.of_eq (pointsTo_congr (ℓ := oLoc d) (I := oSet (cL L) (jL L)) (q := fullShare) (f := g) (g := G) (fun j hj => by
    have h := (Finset.mem_filter.mp hj).2
    have h1 : 18432 * (L 1).val + 9216 * (L 0).val ≤ (j 0).val := h.1
    have h2 : (j 0).val < 18432 * (L 1).val + 9216 * (L 0).val + 9216 := h.2
    exact hg j ⟨by unfold outAt; omega, by unfold outAt; omega⟩)))
  iexact H

end Cert.Proof.Knn
-- ==== Proof.Tile.lean ====
/-
  One tile: the kernel's body run on its buffers and semaphores.
-/
module

public import proofs.«01_k».proof.Proof.Own

@[expose] public section

noncomputable section

namespace Cert.Proof.Knn

open Cert.KernelIdeal Cert.KernelIdeal.Gen Cert.Proof.Radix

open Idealize.ShloMosaic
open Idealize.ShloMosaic.SparseCore (S V T)
open Idealize.ShloMosaic.SparseCore.Cfg (HIx mem_ownCells ownCells ownRefs ownSems0 ownBufs)
open Idealize.SL Idealize.SL.RA Idealize.SL.BI
open scoped Idealize.SL.BI
open Idealize.SL.BI.BIBase Idealize.SL.BI.Laws Idealize.SL.ProofMode Idealize.SL.Sem
open Idealize.ShloMosaic.ShareLeaves (leaf pointsTo_leaves)

variable {F : FTy → Type} [FloatOps F] (m : (ℓ : Loc nD τ sig) → Buf (Elt F) ℓ)

local notation "𝕄" => MT nD τ sig (HIx 1) (Elt F) ℕ UU ℕ

variable (d : Dev nD) (L : grid0.Coords)

theorem ow_intro (O : CellTallies nD τ sig (HIx 1)) (W : Waits sig (HIx 1)) : (owes (thr d L) O W : sProp 𝕄) ⊢ Ow d L O W := by
  unfold Ow
  iintro H
  iexists W; isplitr
  · ipureintro; exact fun p hp => .inl hp
  · iexact H

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ (ins m d (sh (cL L) (jL L)) ∗ oRow d (cL L) (jL L) (m (oLoc d)))
        ∗ scopedBufs (thr d L) ∗ scopedSems0 (thr d L) ∗ owes (thr d L) O W)
      ⊢ wp frame (wpE (defs₀ (F := F)) 𝒱₀ (thr d L) none) Set.univ (cc0_k L (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scoped0 cc0_scoped1 cc0_scoped2 cc0_scoped3 cc0_scoped4 cc0_scoped5)
          fun _ => iprop((ins m d (sh (cL L) (jL L)) ∗ oRow d (cL L) (jL L) (res m d))
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold ins
  iintro ⟨#Hlv, -, ⟨⟨Hk, Ha, Hm, Hr, Hp⟩, Ho⟩, ⟨⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, Hbufs⟩, ⟨Hg, Hs0, Hs1, Hs2, Hs3, Hs4, Hs5, Hsems⟩, HO⟩
  ihave Hmw := (show levAts (K (F := F)).L (K (F := F)).lev ⊢ Transfers.MayWaits (thr d L) (default : HIx 1) O from
    (K (F := F)).mayWaits_none (thr := thr d L) hO) $$ Hlv
  ihave H17 := (slots_split d L f17) $$ H17
  icases H17 with ⟨Hsl0, Hsl1, Hrest⟩
  iapply wp_wand $$ [Hmw Hk Ha Hm Hr Hp Ho H8 H9 H10 H11 H12 H13 H14 H15 H16 Hsl0 Hsl1 Hg Hs0 Hs1 Hs2 Hs3 Hs4 Hs5 HO]
  · iapply (tile_run d L O W (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scoped0 cc0_scoped1 cc0_scoped2 cc0_scoped3 cc0_scoped4 cc0_scoped5 (sh (cL L) (jL L)) (sh (cL L) (jL L)) (sh (cL L) (jL L)) (sh (cL L) (jL L)) (sh (cL L) (jL L))
      (m (kLoc d)) (m (aLoc d)) (m (mLoc d)) (m (rLoc d)) (m (pLoc d)) (oSet (cL L) (jL L)) (res m d)
      (fun j h1 h2 => Finset.mem_filter.mpr ⟨Finset.mem_univ _, by
        have h1 : 18432 * (L 1).val + 9216 * (L 0).val + 2304 * 0 ≤ (j 0).val := h1
        have h2 : (j 0).val < 18432 * (L 1).val + 9216 * (L 0).val + 2304 * 0 + 9216 := h2
        exact ⟨h1, h2⟩⟩)
      (fun t ht => rows_A L (m (kLoc d)) (m (aLoc d)) (m (mLoc d)) (m (rLoc d)) (m (pLoc d)) t ht)
      (fun t ht => rows_M L (m (kLoc d)) (m (aLoc d)) (m (mLoc d)) (m (rLoc d)) (m (pLoc d)) t ht)
      (fun t ht => rows_P L (m (kLoc d)) (m (aLoc d)) (m (mLoc d)) (m (rLoc d)) (m (pLoc d)) t ht)
      (fun t _ => rows_R L (m (kLoc d)) (m (aLoc d)) (m (mLoc d)) (m (rLoc d)) (m (pLoc d)) t)
      credit_A credit_M)
    simp only [Memref.view_whole, View.set_whole]
    isplitl [Hmw]; · iexact Hmw
    isplitl [Hk]; · iexact Hk
    isplitl [Ha]; · iexact Ha
    isplitl [Hm]; · iexact Hm
    isplitl [Hr]; · iexact Hr
    isplitl [Hp]; · iexact Hp
    isplitl [Hsl0]; · iexact Hsl0
    isplitl [Hsl1]; · iexact Hsl1
    isplitl [Ho]; · iapply (out_of d L (Memref.whole main_v0_scv) (oSet (cL L) (jL L)) (res m d) (m (oLoc d))); iexact Ho
    isplitl [Hg]; · iexact Hg
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [HO]; · iapply (ow_intro d L O W); iexact HO
    isplitl [H8]; · iapply (hold_of d L (Memref.whole cc0_scratch0) (View.set_whole _) f8); iexact H8
    isplitl [H9]; · iapply (hold_of d L (Memref.whole cc0_scratch1) (View.set_whole _) f9); iexact H9
    isplitl [H10]; · iapply (hold_of d L (Memref.whole cc0_scratch2) (View.set_whole _) f10); iexact H10
    isplitl [H11]; · iapply (hold_of d L (Memref.whole cc0_scratch3) (View.set_whole _) f11); iexact H11
    isplitl [H12]; · iapply (hold_of d L (Memref.whole cc0_scratch4) (View.set_whole _) f12); iexact H12
    isplitl [H13]; · iapply (hold_of d L (Memref.whole cc0_scratch5) (View.set_whole _) f13); iexact H13
    isplitl [H14]; · iapply (hold_of d L (Memref.whole cc0_scratch6) (View.set_whole _) f14); iexact H14
    isplitl [H15]; · iapply (hold_of d L (Memref.whole cc0_scratch7) (View.set_whole _) f15); iexact H15
    iapply (hold_of d L (Memref.whole cc0_scratch8) (View.set_whole _) f16); iexact H16
  simp only [Memref.view_whole, View.set_whole]
  iintro %_ ⟨Hk, Ha, Hm, Hr, Hp, Hsl0, Hsl1, Ho, Hg, Hs0, Hs1, Hs2, Hs3, Hs4, Hs5, HO, H8, H9, H10, H11, H12, H13, H14, H15, H16⟩
  isplitl [Hk Ha Hm Hr Hp Ho]
  · isplitl [Hk Ha Hm Hr Hp]
    · isplitl [Hk]; · iexact Hk
      isplitl [Ha]; · iexact Ha
      isplitl [Hm]; · iexact Hm
      isplitl [Hr]; · iexact Hr
      iexact Hp
    · iapply (of_out d L (res m d)); iexact Ho
  isplitl [H8 H9 H10 H11 H12 H13 H14 H15 H16 Hsl0 Hsl1 Hrest Hbufs]
  · isplitl [H8]; · iapply (of_hold d L (Memref.whole cc0_scratch0) (View.set_whole _)); iexact H8
    isplitl [H9]; · iapply (of_hold d L (Memref.whole cc0_scratch1) (View.set_whole _)); iexact H9
    isplitl [H10]; · iapply (of_hold d L (Memref.whole cc0_scratch2) (View.set_whole _)); iexact H10
    isplitl [H11]; · iapply (of_hold d L (Memref.whole cc0_scratch3) (View.set_whole _)); iexact H11
    isplitl [H12]; · iapply (of_hold d L (Memref.whole cc0_scratch4) (View.set_whole _)); iexact H12
    isplitl [H13]; · iapply (of_hold d L (Memref.whole cc0_scratch5) (View.set_whole _)); iexact H13
    isplitl [H14]; · iapply (of_hold d L (Memref.whole cc0_scratch6) (View.set_whole _)); iexact H14
    isplitl [H15]; · iapply (of_hold d L (Memref.whole cc0_scratch7) (View.set_whole _)); iexact H15
    isplitl [H16]; · iapply (of_hold d L (Memref.whole cc0_scratch8) (View.set_whole _)); iexact H16
    isplitl [Hsl0 Hsl1 Hrest]
    · iapply (slots_join d L f17)
      isplitl [Hsl0]; · iexact Hsl0
      isplitl [Hsl1]; · iexact Hsl1
      iexact Hrest
    iexact Hbufs
  isplitl [Hg Hs0 Hs1 Hs2 Hs3 Hs4 Hs5 Hsems]
  · isplitl [Hg]; · iexact Hg
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  unfold Ow; iexact HO

end Cert.Proof.Knn
-- ==== Proof.Launch.lean ====
/-
  The launch: what the two SparseCores and their tiles are handed and hand back, and the whole program's run.
-/
module

public import proofs.«01_k».proof.Proof.Tile

@[expose] public section

noncomputable section

namespace Cert.Proof.Knn

open Cert.KernelIdeal Cert.KernelIdeal.Gen Cert.Proof.Radix

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F] (m : (ℓ : Loc nD τ sig) → Buf (Elt F) ℓ) (ρ : Dev nD → PrngReg)

local notation "𝕄" => MT nD τ sig (HIx 1) (Elt F) ℕ UU ℕ

/-! ## What the handshakes carry -/

abbrev c2 (c : Fin ((K (F := F)).nCore 0)) : Fin 2 := Fin.cast nCore_zero c
abbrev i16 (i : Fin ((K (F := F)).nSub 0)) : Fin 16 := Fin.cast nSub_zero i

/-- A SparseCore's rows of the output. -/
def oCore (c : Fin 2) : Finset (Tab 294912).Idx := Finset.univ.biUnion fun i : Fin 16 => oSet c i

abbrev oCorePts (d : Dev nD) (c : Fin 2) (f : Buf (Elt F) (oLoc d)) : sProp 𝕄 := oLoc d ↦[oCore c]{fullShare} f

instance ins_storable (d : Dev nD) (q : PosShare TreeShare) : BI.Storable (upEmb : UEmb _ 𝕄) (ins m d q) := by unfold ins; infer_instance

/-- Each SparseCore takes half of every input and its own rows of the output, each tile a sixteenth of that; the rows come
    back at the result. -/
def P : (K (F := F)).Pay (nD := nD) (Val := Elt F) (Name := ℕ) (U := UU) where
  st := fun q d c => match q with | 0 => iprop(ins m d (leaf 1 fullShare (c2 c)) ∗ oCorePts d (c2 c) (m (oLoc d)))
  dn := fun q d c => match q with | 0 => iprop(ins m d (leaf 1 fullShare (c2 c)) ∗ oCorePts d (c2 c) (res m d))
  go := fun q d c i => match q with | 0 => iprop(ins m d (sh (c2 c) (i16 i)) ∗ oRow d (c2 c) (i16 i) (m (oLoc d)))
  td := fun q d c i => match q with | 0 => iprop(ins m d (sh (c2 c) (i16 i)) ∗ oRow d (c2 c) (i16 i) (res m d))
  x := fun _ _ => iprop(emp)

instance P_storable : (P (F := F) m).IsStorable where
  st q d c := match q with | 0 => (inferInstance : BI.Storable (upEmb : UEmb _ 𝕄) iprop(ins m d (leaf 1 fullShare (c2 c)) ∗ oCorePts d (c2 c) (m (oLoc d))))
  dn q d c := match q with | 0 => (inferInstance : BI.Storable (upEmb : UEmb _ 𝕄) iprop(ins m d (leaf 1 fullShare (c2 c)) ∗ oCorePts d (c2 c) (res m d)))
  go q d c i := match q with | 0 => (inferInstance : BI.Storable (upEmb : UEmb _ 𝕄) iprop(ins m d (sh (c2 c) (i16 i)) ∗ oRow d (c2 c) (i16 i) (m (oLoc d))))
  td q d c i := match q with | 0 => (inferInstance : BI.Storable (upEmb : UEmb _ 𝕄) iprop(ins m d (sh (c2 c) (i16 i)) ∗ oRow d (c2 c) (i16 i) (res m d)))

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s) (Memref.whole main_arg0_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scoped0 cc0_scoped1 cc0_scoped2 cc0_scoped3 cc0_scoped4 cc0_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

/-! ## The rows split and join; the shares of the inputs -/

theorem oSet_disjoint (c : Fin 2) : ∀ i ∈ (Finset.univ : Finset (Fin 16)), ∀ j ∈ (Finset.univ : Finset (Fin 16)), i ≠ j → Disjoint (oSet c i) (oSet c j) := by
  intro i _ j _ h
  refine Finset.disjoint_left.mpr fun y h1 h2 => h (Fin.ext ?_)
  have h1 := (Finset.mem_filter.mp h1).2
  have h2 := (Finset.mem_filter.mp h2).2
  have hc := c.isLt
  omega

theorem oCore_disjoint : ∀ i ∈ (Finset.univ : Finset (Fin 2)), ∀ j ∈ (Finset.univ : Finset (Fin 2)), i ≠ j → Disjoint (oCore i) (oCore j) := by
  intro c _ c' _ h
  refine Finset.disjoint_left.mpr fun y h1 h2 => h (Fin.ext ?_)
  obtain ⟨i, -, h1⟩ := Finset.mem_biUnion.mp h1
  obtain ⟨j, -, h2⟩ := Finset.mem_biUnion.mp h2
  have h1 := (Finset.mem_filter.mp h1).2
  have h2 := (Finset.mem_filter.mp h2).2
  have hc := c.isLt; have hc' := c'.isLt
  omega

theorem oCore_cover : (Finset.univ : Finset (Fin 2)).biUnion oCore = Finset.univ := by
  refine Finset.eq_univ_iff_forall.mpr fun y => ?_
  have hy : (y 0).val < 294912 := (y 0).isLt
  refine Finset.mem_biUnion.mpr ⟨⟨(y 0).val / 9216 % 2, by omega⟩, Finset.mem_univ _, ?_⟩
  refine Finset.mem_biUnion.mpr ⟨⟨(y 0).val / 18432, by omega⟩, Finset.mem_univ _, ?_⟩
  refine Finset.mem_filter.mpr ⟨Finset.mem_univ _, ?_⟩
  dsimp only
  omega

theorem oPts_cores (d : Dev nD) (f : Buf (Elt F) (oLoc d)) :
    (oLoc d ↦{fullShare} f : sProp 𝕄) = bigSep Finset.univ fun c : Fin 2 => oCorePts d c f := by
  unfold oCorePts
  rw [← pointsTo_biUnion Finset.univ (ℓ := oLoc d) oCore oCore_disjoint, oCore_cover]; try rfl

theorem oCore_rows (d : Dev nD) (c : Fin 2) (f : Buf (Elt F) (oLoc d)) :
    (oCorePts d c f : sProp 𝕄) = bigSep Finset.univ fun i : Fin 16 => oRow d c i f := by
  unfold oCorePts oRow oCore
  exact pointsTo_biUnion Finset.univ (ℓ := oLoc d) (fun i => oSet c i) (oSet_disjoint c)

theorem ins_leaves (d : Dev nD) (n : ℕ) (q : PosShare TreeShare) :
    (ins m d q : sProp 𝕄) = bigSep Finset.univ fun i : Fin (2 ^ n) => ins m d (leaf n q i) := by
  unfold ins
  rw [bigSep_sep', bigSep_sep', bigSep_sep', bigSep_sep', ← pointsTo_leaves, ← pointsTo_leaves, ← pointsTo_leaves, ← pointsTo_leaves, ← pointsTo_leaves]

theorem bigSep_tasks (Φ : Fin 16 → sProp 𝕄) :
    (bigSep Finset.univ fun i : Fin ((K (F := F)).nSub 0) => Φ (i16 (F := F) i)) = bigSep Finset.univ Φ :=
  bigSep_congr fun _ _ => congrArg Φ (Fin.ext rfl)

/-- A SparseCore's part is its tiles' parts. -/
theorem core_tiles (d : Dev nD) (c : Fin 2) (f : Buf (Elt F) (oLoc d)) :
    (iprop(ins m d (leaf 1 fullShare c) ∗ oCorePts d c f) : sProp 𝕄) = bigSep Finset.univ fun i : Fin 16 => iprop(ins m d (sh c i) ∗ oRow d c i f) := by
  rw [bigSep_sep', oCore_rows, ins_leaves m d 4 (leaf 1 fullShare c)]; try rfl

theorem vecSplit : (K (F := F)).VecSplit' (P m) 0 := by
  intro d c
  show iprop(ins m d (leaf 1 fullShare (c2 c)) ∗ oCorePts d (c2 c) (m (oLoc d))) ⊢ |={Set.univ}=> iprop(
      (bigSep Finset.univ fun i : Fin ((K (F := F)).nSub 0) => iprop(ins m d (sh (c2 c) (i16 i)) ∗ oRow d (c2 c) (i16 i) (m (oLoc d))))
      ∗ ((bigSep Finset.univ fun i : Fin ((K (F := F)).nSub 0) => iprop(ins m d (sh (c2 c) (i16 i)) ∗ oRow d (c2 c) (i16 i) (res m d)))
          -∗ iprop(ins m d (leaf 1 fullShare (c2 c)) ∗ oCorePts d (c2 c) (res m d))))
  rw [bigSep_tasks (F := F) (fun i => iprop(ins m d (sh (c2 c) i) ∗ oRow d (c2 c) i (m (oLoc d)))),
    bigSep_tasks (F := F) (fun i => iprop(ins m d (sh (c2 c) i) ∗ oRow d (c2 c) i (res m d))), ← core_tiles, ← core_tiles]
  iintro H; imodintro
  isplitl [H]; · iexact H
  iintro H; iexact H

/-! ## The launch's own resources -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program -/

theorem unscopedBufs_eq (d : Dev nD) (W : (b : Ref sig .tc) → Buf (Elt F) ((d.tc : Thread nD τ).loc b)) :
    (unscopedBufs d W : sProp 𝕄) = iprop((kLoc d ↦{fullShare} W main_arg0) ∗ (aLoc d ↦{fullShare} W main_arg1) ∗ (mLoc d ↦{fullShare} W main_arg2)
      ∗ (rLoc d ↦{fullShare} W main_arg3) ∗ (pLoc d ↦{fullShare} W main_arg4) ∗ oLoc d ↦{fullShare} W main_v0) := by
  unfold unscopedBufs
  rw [show (Finset.univ.filter fun b : Ref sig .tc => ¬ b.isScoped) = {main_arg0, main_arg1, main_arg2, main_arg3, main_arg4, main_v0} by decide,
    SparseCore.bigSep_insert' (by decide), SparseCore.bigSep_insert' (by decide), SparseCore.bigSep_insert' (by decide),
    SparseCore.bigSep_insert' (by decide), SparseCore.bigSep_insert' (by decide), bigSep_singleton]

/-- The inputs and the output whole are the two SparseCores' parts. -/
theorem whole_cores (d : Dev nD) (f : Buf (Elt F) (oLoc d)) :
    (iprop(ins m d fullShare ∗ oLoc d ↦{fullShare} f) : sProp 𝕄) = bigSep Finset.univ fun c : Fin 2 => iprop(ins m d (leaf 1 fullShare c) ∗ oCorePts d c f) := by
  rw [bigSep_sep', oPts_cores, ins_leaves m d 1 fullShare]; try rfl

theorem st0_eq (d : Dev nD) : (bigSep Finset.univ fun c : Fin ((K (F := F)).nCore 0) => (P m).st 0 d c) = iprop(ins m d fullShare ∗ oLoc d ↦{fullShare} m (oLoc d)) :=
  (bigSep_congr fun _ _ => rfl).trans (whole_cores m d (m (oLoc d))).symm
theorem dn0_eq (d : Dev nD) : (bigSep Finset.univ fun c : Fin ((K (F := F)).nCore 0) => (P m).dn 0 d c) = iprop(ins m d fullShare ∗ oLoc d ↦{fullShare} res m d) :=
  (bigSep_congr fun _ _ => rfl).trans (whole_cores m d (res m d)).symm

abbrev FIN (d : Dev nD) : sProp 𝕄 := iprop(ins m d fullShare ∗ oLoc d ↦{fullShare} res m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hk, Ha, Hm, Hr, Hp, Ho⟩, Hts, -⟩, -⟩
  iapply ((K (F := F)).wp_run (D (F := F)) 𝒱 (EH := EH) (P := P m) κ d 0) $$ [Hst Hk Ha Hm Hr Hp Ho Hb Hts]
  isplitr; · iexact Hctx
  isplitl [Hst]; · iexact Hst
  isplitl [Hk Ha Hm Hr Hp Ho]
  · rw [st0_eq]; unfold ins
    isplitl [Hk Ha Hm Hr Hp]
    · isplitl [Hk]; · iexact Hk
      isplitl [Ha]; · iexact Ha
      isplitl [Hm]; · iexact Hm
      isplitl [Hr]; · iexact Hr
      iexact Hp
    · iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop :=
  s'.mem.mem (oLoc d) = res m d ∧ s'.mem.mem (kLoc d) = m (kLoc d) ∧ s'.mem.mem (aLoc d) = m (aLoc d) ∧ s'.mem.mem (mLoc d) = m (mLoc d)
    ∧ s'.mem.mem (rLoc d) = m (rLoc d) ∧ s'.mem.mem (pLoc d) = m (pLoc d)

/-- An array held whole is in the memory. -/
theorem agree (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  unfold FIN ins
  iintro ⟨⟨⟨Hk, Ha, Hm, Hr, Hp⟩, Ho⟩, HSI⟩
  ihave H := (agree s' (kLoc d) _) $$ [HSI Hk]
  · isplitl [HSI] <;> iassumption
  icases H with ⟨%h1, HSI⟩
  ihave H := (agree s' (aLoc d) _) $$ [HSI Ha]
  · isplitl [HSI] <;> iassumption
  icases H with ⟨%h2, HSI⟩
  ihave H := (agree s' (mLoc d) _) $$ [HSI Hm]
  · isplitl [HSI] <;> iassumption
  icases H with ⟨%h3, HSI⟩
  ihave H := (agree s' (rLoc d) _) $$ [HSI Hr]
  · isplitl [HSI] <;> iassumption
  icases H with ⟨%h4, HSI⟩
  ihave H := (agree s' (pLoc d) _) $$ [HSI Hp]
  · isplitl [HSI] <;> iassumption
  icases H with ⟨%h5, HSI⟩
  ihave H := (agree s' (oLoc d) _) $$ [HSI Ho]
  · isplitl [HSI] <;> iassumption
  icases H with ⟨%h6, HSI⟩
  ipureintro; exact ⟨h6, h1, h2, h3, h4, h5⟩

/-- What the program leaves: the result, the arguments as they were, every semaphore at zero. -/
def QC : PUnit × MemSt nD τ sig (Elt F) → Prop := fun r =>
  (∀ d : Dev nD, r.2.mem (oLoc d) = res m d ∧ r.2.mem (kLoc d) = m (kLoc d) ∧ r.2.mem (aLoc d) = m (aLoc d) ∧ r.2.mem (mLoc d) = m (mLoc d)
    ∧ r.2.mem (rLoc d) = m (rLoc d) ∧ r.2.mem (pLoc d) = m (pLoc d)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Knn
-- ==== Proof.Order.lean ====
module

public import proofs.«01_k».proof.Proof.Rank
public import Idealize.ShloMosaic.Lib.SortPrefix
public import Idealize.ShloMosaic.Lib.ValueIdxCore

@[expose] public section

/-! # The reference's argsort and its batched row gather, read at an index

  A stable ascending sort by an unsigned key orders the positions by the pair of key and position: position `k` of the
  sorted order is `selOf n (skey w) k`, the position of rank `k`. A gather of whole rows with a batching axis reads, in
  batch `b`, the row its start index names. -/

noncomputable section

namespace Cert.Proof.Knn

open Idealize.ShloMosaic Cert.Proof.Radix

/-- On an ascending list the stable sort sees two comparisons alike when they agree on a later element against an
    earlier one: an element is inserted before elements that stand after it. -/
theorem stableSort_ascending {n : Nat} (R R' : Fin n → Fin n → Bool) (h : ∀ a b : Fin n, a < b → R b a = R' b a) :
    ∀ l : List (Fin n), l.Pairwise (· < ·) → stableSort R l = stableSort R' l
  | [], _ => rfl
  | a :: l, hl => by
    have hp := List.pairwise_cons.1 hl
    have ih := stableSort_ascending R R' h l hp.2
    show insertBefore R a (stableSort R l) = insertBefore R' a (stableSort R' l)
    rw [ih]
    exact insertBefore_congr R R' a _ fun b hb => h a b (hp.1 b ((perm_stableSort R' l).mem_iff.1 hb))

/-- The strict order of the positions by key, ties by position. -/
def before {n : Nat} (w : Nat → Nat) (a b : Fin n) : Bool := decide (skey w a.val < skey w b.val)

theorem before_total {n : Nat} (hn : n ≤ 2 ^ 32) (w : Nat → Nat) : StrictTotalBefore (before (n := n) w) where
  irrefl a := by simp [before]
  trans a b c h1 h2 := by simp only [before, decide_eq_true_eq] at h1 h2 ⊢; omega
  total a b h := by
    have hne : skey w a.val ≠ skey w b.val := fun e => h (Fin.ext (skey_inj (w := w) hn a.val a.isLt b.val b.isLt e))
    simp only [before, decide_eq_true_eq]; omega

/-- **The argsort's order**: a stable sort of the positions by an unsigned key puts at place `k` the position of rank
    `k` of the key with ties by position. -/
theorem sortedFrom_sel {n : Nat} (hn : n ≤ 2 ^ 32) (w : Nat → Nat) (R : Fin n → Fin n → Bool)
    (hR : ∀ a b : Fin n, R a b = decide (w a.val < w b.val)) (k : Fin n) :
    (sortedFrom R k).val = selOf n (skey w) k.val := by
  have hκ := skey_inj (w := w) hn
  have e : sortedFrom R k = sortedFrom (before w) k := by
    have hs : sortPositions n R = sortPositions n (before w) := stableSort_ascending R (before w) (fun a b hab => by
      rw [hR]
      unfold before skey
      have ha := a.isLt; have hb := b.isLt; have hlt : a.val < b.val := hab
      exact decide_eq_decide.2 (by omega)) (List.finRange n) (List.pairwise_lt_finRange n)
    refine Fin.ext ?_
    show ((sortPositions n R)[k.val]'_).val = ((sortPositions n (before w))[k.val]'_).val
    simp only [hs]
  let σ : Fin n → Fin n := fun i => ⟨selOf n (skey w) i.val, (selOf_spec hκ i.isLt).1⟩
  have h := StrictTotalBefore.sortedFrom_eq_of_prefix (before_total hn w) (Nat.le_refl n) σ
    (fun i j hij => by
      have e1 := (selOf_spec hκ i.isLt).2
      have e2 := (selOf_spec hκ j.isLt).2
      have : selOf n (skey w) i.val = selOf n (skey w) j.val := congrArg Fin.val hij
      rw [this, e2] at e1
      exact Fin.ext e1.symm)
    (fun i j hij => by
      have e1 := selOf_spec hκ i.isLt
      have e2 := selOf_spec hκ j.isLt
      have hlt := (rk_lt_iff (n := n) (κ := skey w) e2.1 e1.1).1 (by rw [e1.2, e2.2]; exact hij)
      simp only [before, σ, decide_eq_false_iff_not]
      omega)
    (fun i p hp => absurd (Fin.ext (selOf_rk hκ p.isLt)) (hp ⟨rk n (skey w) p.val, rk_lt p.isLt⟩)) k
  rw [e]
  exact congrArg Fin.val h

/-! ## The row gather -/

section Gather
variable {α : Type}

/-- The dimension numbers of the row gather: operand `[B, N, C]`, start indices `[B, R, 1]`, result `[B, R, C]`, the
    batch a batching axis, whole rows. -/
abbrev rowDims (B N R C : Nat)
    (wf : GatherDims.WF ⟨3, ![B, N, C]⟩ ⟨3, ![B, R, 1]⟩ ⟨3, ![B, R, C]⟩ [2] [1] [0] [1] [0] 2 ![1, 1, C]) :
    GatherDims ⟨3, ![B, N, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

/-- The row gather at `y` is the operand at any `z` of `y`'s batch and column whose row is the start index of `y`'s
    batch and row. -/
theorem gather_rows {B N R C w : Nat}
    (wf : GatherDims.WF ⟨3, ![B, N, C]⟩ ⟨3, ![B, R, 1]⟩ ⟨3, ![B, R, C]⟩ [2] [1] [0] [1] [0] 2 ![1, 1, C])
    (x : (⟨3, ![B, N, C]⟩ : Shape).Idx → α) (idx : IVec ⟨3, ![B, R, 1]⟩ w) (y : (⟨3, ![B, R, C]⟩ : Shape).Idx)
    (i : (⟨3, ![B, R, 1]⟩ : Shape).Idx) (hi0 : (i 0).val = (y 0).val) (hi1 : (i 1).val = (y 1).val)
    (z : (⟨3, ![B, N, C]⟩ : Shape).Idx) (hz0 : (z 0).val = (y 0).val) (hz2 : (z 2).val = (y 2).val)
    (hz1 : (idx i).toInt = ((z 1).val : Int)) : Host.gather (rowDims B N R C wf) x idx y = x z := by
  unfold Host.gather
  congr 1
  funext a
  refine Fin.ext ?_
  show (rowDims B N R C wf).start y idx a + (rowDims B N R C wf).batchCoord y a + (rowDims B N R C wf).offCoord y a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    exact hz0.symm
  · rw [GatherDims.batchCoord_eq_zero _ _ _ (fun h => absurd (congrArg Fin.val (List.mem_singleton.mp h)) (by decide : ¬ (1 : Nat) = 0)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims B N R C wf).startIndexMap from List.mem_singleton.mpr rfl)]
    have hsi : (rowDims B N R C wf).siIdx y ⟨List.idxOf (1 : Fin 3) (rowDims B N R C wf).startIndexMap,
        List.idxOf_lt_length_iff.2 (List.mem_singleton.mpr rfl)⟩ = i := by
      funext b; refine Fin.ext ?_
      match b with
      | ⟨0, _⟩ => exact hi0.symm
      | ⟨1, _⟩ => exact hi1.symm
      | ⟨2, _⟩ =>
        have h2 : (i 2).val < 1 := (i 2).isLt
        show 0 = (i 2).val
        omega
    have hlt : (z 1).val < N := (z 1).isLt
    show min (idx _).toInt.toNat (N - 1) = (z 1).val
    rw [hsi, hz1]
    omega
  · rw [GatherDims.batchCoord_eq_zero _ _ _ (fun h => absurd (congrArg Fin.val (List.mem_singleton.mp h)) (by decide : ¬ (2 : Nat) = 0))]
    unfold GatherDims.start
    rw [dif_neg (fun h => absurd (congrArg Fin.val (List.mem_singleton.mp h)) (by decide : ¬ (2 : Nat) = 1))]
    simp only [Nat.zero_add]
    unfold GatherDims.offCoord
    rw [dif_pos ((GatherDims.mem_sKept _ _).mpr
      ⟨fun h => absurd (congrArg Fin.val (List.mem_singleton.mp h)) (by decide : ¬ (2 : Nat) = 1),
       fun h => absurd (congrArg Fin.val (List.mem_singleton.mp h)) (by decide : ¬ (2 : Nat) = 0)⟩)]
    exact hz2.symm

end Gather

end Cert.Proof.Knn

end
-- ==== Proof.Value.lean ====
/-
  The reference's result is the kernel's: every row of it, read at an index.
-/
module

public import proofs.«01_k».proof.Proof.Spec
public import proofs.«01_k».proof.Proof.Order
public import proofs.«01_k».proof.Proof.Gen.ReferenceIdeal.Run
public import Idealize.ShloMosaic.Lib.Pipeline.Value

@[expose] public section

noncomputable section

namespace Cert.Proof.Knn

open Cert.ReferenceIdeal Cert.ReferenceIdeal.Gen Cert.Proof.Radix

open Idealize.ShloMosaic

/-- The index `(p, q)` of a rank-2 array. -/
def two {a b : ℕ} (p : ℕ) (hp : p < a) (q : ℕ) (hq : q < b) : (⟨2, ![a, b]⟩ : Shape).Idx := fun x => match x with | 0 => ⟨p, hp⟩ | 1 => ⟨q, hq⟩

/-- The index `(p, q, r)` of a rank-3 array. -/
def three {a b c : ℕ} (p : ℕ) (hp : p < a) (q : ℕ) (hq : q < b) (r : ℕ) (hr : r < c) : (⟨3, ![a, b, c]⟩ : Shape).Idx :=
  fun x => match x with | 0 => ⟨p, hp⟩ | 1 => ⟨q, hq⟩ | 2 => ⟨r, hr⟩

theorem along_at {s : Shape} (j : s.Idx) (d : Fin s.rank) (k : Fin (s.size d)) : j.along d k d = k := by
  unfold Shape.Idx.along
  exact Function.update_self (β := fun a => Fin (s.size a)) d k j

/-- The keys as one row per batch. -/
theorem keys_cast (fk : (Vec1 425984).Idx → BitVec 32) (h : (Vec1 425984).ShapeCasts ⟨2, ![128, 3328]⟩) (y : (⟨2, ![128, 3328]⟩ : Shape).Idx) :
    shapeCast ⟨2, ![128, 3328]⟩ fk h y = keysOf fk (y 0).val (y 1).val := by
  have h0 : (y 0).val < 128 := (y 0).isLt
  have h1 : (y 1).val < 3328 := (y 1).isLt
  have hlt : 3328 * (y 0).val + (y 1).val < 425984 := by omega
  unfold keysOf cn
  rw [dif_pos hlt]
  refine shapeCast_apply _ _ _ _ ?_
  rw [Shape.rowMajor_val_one, Shape.rowMajor_val_two]
  show 3328 * (y 0).val + (y 1).val = (y 0).val * 3328 + (y 1).val
  omega

/-- A table of `128·N` rows as `N` rows per batch. -/
theorem table_cast {α : Type} {N T : ℕ} (hT : T = 128 * N) (hR : 0 < T) (x : (Tab T).Idx → α) (h : (Tab T).ShapeCasts ⟨3, ![128, N, 128]⟩)
    (z : (⟨3, ![128, N, 128]⟩ : Shape).Idx) :
    shapeCast ⟨3, ![128, N, 128]⟩ x h z = x (at2 hR (N * (z 0).val + (z 1).val) (z 2)) := by
  have h0 : (z 0).val < 128 := (z 0).isLt
  have h1 : (z 1).val < N := (z 1).isLt
  have h3 : N * (z 0).val ≤ N * 127 := Nat.mul_le_mul_left N (by omega)
  refine shapeCast_apply _ _ _ _ ?_
  rw [Shape.rowMajor_val_two, Shape.rowMajor_val_three]
  show (N * (z 0).val + (z 1).val) % T * 128 + (z 2).val = ((z 0).val * N + (z 1).val) * 128 + (z 2).val
  rw [Nat.mod_eq_of_lt (by omega), Nat.mul_comm N]

/-- **The argsort of a batch's keys**: position `k` of the sorted order is the position of rank `k`. -/
theorem argsort_at {n off : ℕ} (hn : n ≤ 2 ^ 31) (fk : (Vec1 425984).Idx → BitVec 32) (K : (⟨2, ![128, 3328]⟩ : Shape).Idx → BitVec 32)
    (hK : ∀ y, K y = keysOf fk (y 0).val (y 1).val) (hs : (⟨2, ![128, 3328]⟩ : Shape).Slices ![0, off] ⟨2, ![128, n]⟩)
    (y : (⟨2, ![128, n]⟩ : Shape).Idx) :
    (Host.sort2 ⟨2, ![128, n]⟩ 1 comparator_i32_i32_d1 (extractStridedSlice ⟨2, ![128, n]⟩ ![0, off] K hs) (iotaInDim ⟨2, ![128, n]⟩ 32 1)).2 y
      = BitVec.ofNat 32 (selOf n (skey (wd (keysOf fk (y 0).val) off)) (y 1).val) := by
  let X : Fin n → BitVec 32 := fun k => extractStridedSlice ⟨2, ![128, n]⟩ ![0, off] K hs (y.along (1 : Fin 2) k)
  have hX (k : Fin n) : (X k).toNat = wd (keysOf fk (y 0).val) off k.val := by
    refine congrArg BitVec.toNat ((hK _).trans ?_)
    have e0 : (0 + (y.along (1 : Fin 2) k 0).val) = (y 0).val := by
      rw [Nat.zero_add]; exact congrArg Fin.val (Function.update_of_ne (by decide : (0 : Fin 2) ≠ 1) _ y)
    have e1 : (y.along (1 : Fin 2) k 1).val = k.val := congrArg Fin.val (Function.update_self (1 : Fin 2) _ y)
    show keysOf fk (0 + (y.along (1 : Fin 2) k 0).val) (off + (y.along (1 : Fin 2) k 1).val) = _
    rw [e0, e1]
  let R : Fin n → Fin n → Bool := fun k k' => IntOp.cmpi .ult (X k) (X k') == 1#1
  have hR (a b : Fin n) : R a b = decide (wd (keysOf fk (y 0).val) off a.val < wd (keysOf fk (y 0).val) off b.val) := by
    rw [← hX, ← hX]
    show (BitVec.ofBool ((X a).ult (X b)) == 1#1) = _
    rw [BitVec.ult]
    by_cases h : (X a).toNat < (X b).toNat <;> simp [h]
  have h := sortedFrom_sel (n := n) (by omega) (wd (keysOf fk (y 0).val) off) R hR (y 1)
  rw [← h]
  refine congrArg (BitVec.ofNat 32) ?_
  exact congrArg Fin.val (along_at y (1 : Fin 2) (sortedFrom R (y 1)))

/-- **The start indices**: an index below `2^31` is not negative, so wrapping leaves it. -/
theorem start_at {R : ℕ} (ix : IVec ⟨2, ![128, R]⟩ 32) (h : (⟨2, ![128, R]⟩ : Shape).BroadcastsInDim ⟨3, ![128, R, 1]⟩ ![0, 1])
    (h' : S_.BroadcastsInDim ⟨3, ![128, R, 1]⟩ ![]) (N : BitVec 32) (i : (⟨3, ![128, R, 1]⟩ : Shape).Idx) (y : (⟨2, ![128, R]⟩ : Shape).Idx)
    (h0 : (y 0).val = (i 0).val) (h1 : (y 1).val = (i 1).val) (v : ℕ) (hv : v < 2 ^ 31) (hy : ix y = BitVec.ofNat 32 v) :
    (select (cmpi .slt (broadcastInDim ⟨3, ![128, R, 1]⟩ ![0, 1] h ix) (broadcastInDim ⟨3, ![128, R, 1]⟩ ![] h' (constantI S_ 32 0#32)))
      (addi (broadcastInDim ⟨3, ![128, R, 1]⟩ ![0, 1] h ix) (broadcastInDim ⟨3, ![128, R, 1]⟩ ![] h' (constantI S_ 32 N)))
      (broadcastInDim ⟨3, ![128, R, 1]⟩ ![0, 1] h ix) i).toInt = (v : Int) := by
  have e : broadcastInDim ⟨3, ![128, R, 1]⟩ ![0, 1] h ix i = BitVec.ofNat 32 v := by
    refine (broadcastInDim_apply _ _ _ _ y fun a => ?_).trans hy
    match a with
    | 0 => exact h0
    | 1 =>
      show (y 1).val = if R = 1 then 0 else (i 1).val
      have hlt : (i 1).val < R := (i 1).isLt
      split <;> omega
  have ev : (BitVec.ofNat 32 v).toInt = (v : Int) := by
    rw [BitVec.toInt_eq_toNat_of_lt (by rw [BitVec.toNat_ofNat]; omega), BitVec.toNat_ofNat, Nat.mod_eq_of_lt (by omega)]
  show (if IntOp.cmpi .slt (broadcastInDim ⟨3, ![128, R, 1]⟩ ![0, 1] h ix i) 0#32 = 1 then _ else broadcastInDim ⟨3, ![128, R, 1]⟩ ![0, 1] h ix i).toInt = _
  rw [e]
  rw [if_neg, ev]
  show ¬ BitVec.ofBool ((BitVec.ofNat 32 v).slt 0#32) = 1#1
  rw [BitVec.slt, ev, decide_eq_false (by show ¬ (v : Int) < 0; omega)]
  decide

/-- **Rows gathered in the sorted order**: batch `y 0`'s row `y 1` is the row the start index names. -/
theorem gathered {α : Type} {N R T : ℕ} (hT : T = 128 * N) (hR : 0 < T)
    (wf : GatherDims.WF ⟨3, ![128, N, 128]⟩ ⟨3, ![128, R, 1]⟩ ⟨3, ![128, R, 128]⟩ [2] [1] [0] [1] [0] 2 ![1, 1, 128])
    (x : (Tab T).Idx → α) (hx : (Tab T).ShapeCasts ⟨3, ![128, N, 128]⟩)
    (ix : IVec ⟨2, ![128, R]⟩ 32) (h : (⟨2, ![128, R]⟩ : Shape).BroadcastsInDim ⟨3, ![128, R, 1]⟩ ![0, 1])
    (h' : S_.BroadcastsInDim ⟨3, ![128, R, 1]⟩ ![]) (W : BitVec 32) (y : (⟨3, ![128, R, 128]⟩ : Shape).Idx)
    (v : ℕ) (hv : v < N) (hN : N ≤ 2 ^ 31) (hy : ix (two (y 0).val (y 0).isLt (y 1).val (y 1).isLt) = BitVec.ofNat 32 v) :
    Host.gather (rowDims 128 N R 128 wf) (shapeCast ⟨3, ![128, N, 128]⟩ x hx)
      (select (cmpi .slt (broadcastInDim ⟨3, ![128, R, 1]⟩ ![0, 1] h ix) (broadcastInDim ⟨3, ![128, R, 1]⟩ ![] h' (constantI S_ 32 0#32)))
        (addi (broadcastInDim ⟨3, ![128, R, 1]⟩ ![0, 1] h ix) (broadcastInDim ⟨3, ![128, R, 1]⟩ ![] h' (constantI S_ 32 W)))
        (broadcastInDim ⟨3, ![128, R, 1]⟩ ![0, 1] h ix)) y
      = x (at2 hR (N * (y 0).val + v) (y 2)) := by
  refine (gather_rows wf _ _ y (three (y 0).val (y 0).isLt (y 1).val (y 1).isLt 0 (by decide)) rfl rfl
    (three (y 0).val (y 0).isLt v hv (y 2).val (y 2).isLt) rfl rfl ?_).trans (table_cast hT hR x hx _)
  exact start_at ix h h' W _ _ rfl rfl v (by omega) hy

/-- The seven pieces of the stack. -/
abbrev pieces {α : Type} (a0 a1 a2 a3 : S128x128x128.Idx → α) (mm : S128x1024x128.Idx → α) (rr : S128x256x128.Idx → α)
    (pp : S128x512x128.Idx → α) : List ((s : Shape) × (s.Idx → α)) :=
  [⟨S128x128x128, a0⟩, ⟨S128x128x128, a1⟩, ⟨S128x128x128, a2⟩, ⟨S128x128x128, a3⟩, ⟨S128x1024x128, mm⟩, ⟨S128x256x128, rr⟩, ⟨S128x512x128, pp⟩]

/-- **The pieces stacked**: when every piece is `G` at its rows, so is the stack. -/
theorem stacked {α : Type} (G : ℕ → ℕ → Fin 128 → α) (a0 a1 a2 a3 : S128x128x128.Idx → α) (mm : S128x1024x128.Idx → α)
    (rr : S128x256x128.Idx → α) (pp : S128x512x128.Idx → α)
    (h : Shape.Concatenates ((pieces a0 a1 a2 a3 mm rr pp).map (·.1)) S128x2304x128 1)
    (h0 : ∀ y, a0 y = G (y 0).val (0 + (y 1).val) (y 2)) (h1 : ∀ y, a1 y = G (y 0).val (128 + (y 1).val) (y 2))
    (h2 : ∀ y, a2 y = G (y 0).val (256 + (y 1).val) (y 2)) (h3 : ∀ y, a3 y = G (y 0).val (384 + (y 1).val) (y 2))
    (h4 : ∀ y, mm y = G (y 0).val (512 + (y 1).val) (y 2)) (h5 : ∀ y, rr y = G (y 0).val (1536 + (y 1).val) (y 2))
    (h6 : ∀ y, pp y = G (y 0).val (1792 + (y 1).val) (y 2)) (j : S128x2304x128.Idx) :
    concatenate S128x2304x128 1 (pieces a0 a1 a2 a3 mm rr pp) h j = G (j 0).val (j 1).val (j 2) := by
  have key {e pre : ℕ} (k : ℕ) (hk : k < 7) (x : (⟨3, ![128, e, 128]⟩ : Shape).Idx → α)
      (hx : ∀ y : (⟨3, ![128, e, 128]⟩ : Shape).Idx, x y = G (y 0).val (pre + (y 1).val) (y 2))
      (hlo : pre ≤ (j 1).val) (hhi : (j 1).val < pre + e)
      (hxk : (pieces a0 a1 a2 a3 mm rr pp)[k]'hk = ⟨⟨3, ![128, e, 128]⟩, x⟩)
      (hpre : ((((pieces a0 a1 a2 a3 mm rr pp).take k).map (·.1)).map fun s => if h : s.rank = 3 then s.size ((1 : Fin 3).cast h.symm) else 0).sum = pre) :
      concatenate S128x2304x128 1 (pieces a0 a1 a2 a3 mm rr pp) h j = G (j 0).val (j 1).val (j 2) := by
    have e1 : pre + ((j 1).val - pre) = (j 1).val := by omega
    rw [concatenate_apply_piece 1 _ h j k hk ⟨3, ![128, e, 128]⟩ x hxk rfl pre hpre
      (three (j 0).val (j 0).isLt ((j 1).val - pre) (by omega) (j 2).val (j 2).isLt)
      (fun b hb => match b with | 0 => rfl | 1 => absurd rfl hb | 2 => rfl) e1, hx]
    show G (j 0).val (pre + ((j 1).val - pre)) (j 2) = _
    rw [e1]
  have hj : (j 1).val < 2304 := (j 1).isLt
  by_cases c0 : (j 1).val < 128
  · exact key 0 (by decide) a0 h0 (by omega) (by omega) rfl rfl
  by_cases c1 : (j 1).val < 256
  · exact key 1 (by decide) a1 h1 (by omega) (by omega) rfl rfl
  by_cases c2 : (j 1).val < 384
  · exact key 2 (by decide) a2 h2 (by omega) (by omega) rfl rfl
  by_cases c3 : (j 1).val < 512
  · exact key 3 (by decide) a3 h3 (by omega) (by omega) rfl rfl
  by_cases c4 : (j 1).val < 1536
  · exact key 4 (by decide) mm h4 (by omega) (by omega) rfl rfl
  by_cases c5 : (j 1).val < 1792
  · exact key 5 (by decide) rr h5 (by omega) (by omega) rfl rfl
  exact key 6 (by decide) pp h6 (by omega) (by omega) rfl rfl

variable {F : FTy → Type} [FloatOps F]

/-- The first `R` of the sorted positions, at `(b, k)`. -/
theorem first_at {n R off : ℕ} (hn : n ≤ 2 ^ 31) (fk : (Vec1 425984).Idx → BitVec 32) (hc : (Vec1 425984).ShapeCasts ⟨2, ![128, 3328]⟩)
    (hs : (⟨2, ![128, 3328]⟩ : Shape).Slices ![0, off] ⟨2, ![128, n]⟩) (hs' : (⟨2, ![128, n]⟩ : Shape).Slices ![0, 0] ⟨2, ![128, R]⟩)
    (hRn : R ≤ n) (b : ℕ) (hb : b < 128) (k : ℕ) (hk : k < R) :
    extractStridedSlice ⟨2, ![128, R]⟩ ![0, 0] ((Host.sort2 ⟨2, ![128, n]⟩ 1 comparator_i32_i32_d1
        (extractStridedSlice ⟨2, ![128, n]⟩ ![0, off] (id (shapeCast ⟨2, ![128, 3328]⟩ fk hc)) hs) (iotaInDim ⟨2, ![128, n]⟩ 32 1)).2) hs' (two b hb k hk)
      = BitVec.ofNat 32 (selOf n (skey (wd (keysOf fk b) off)) k) := by
  refine (argsort_at (n := n) (off := off) hn fk (id (shapeCast ⟨2, ![128, 3328]⟩ fk hc)) (keys_cast fk hc) hs _).trans ?_
  show BitVec.ofNat 32 (selOf n (skey (wd (keysOf fk (0 + b)) off)) (0 + k)) = _
  rw [Nat.zero_add, Nat.zero_add]

section Rows

variable (fk : (Vec1 425984).Idx → BitVec 32) (fa : (Tab 131072).Idx → Elt F .f32) (fm : (Tab 262144).Idx → Elt F .f32)
  (fr : (Tab 32768).Idx → Elt F .f32) (fp : (Tab 131072).Idx → Elt F .f32) (b : ℕ) (c : Fin 128)

/-- The agents' rows of head `hd`. -/
theorem out_agents (hd : ℕ) (hh : hd < 4) (r : ℕ) (hr : r < 128) (hR : 0 < 131072) :
    fa (at2 hR (1024 * b + (selOf 256 (skey (wd (keysOf fk b) 3072)) r + 256 * hd)) c) = Gout fk fa fm fr fp b (128 * hd + r) c := by
  unfold Gout
  rw [if_pos (by omega), show (128 * hd + r) / 128 = hd by omega, show (128 * hd + r) % 128 = r by omega]
  exact congrArg (fun q => fa (at2 hR q c)) (by omega)

theorem out_map (r : ℕ) (hr : r < 1024) (hR : 0 < 262144) :
    fm (at2 hR (2048 * b + selOf 2048 (skey (wd (keysOf fk b) 0)) r) c) = Gout fk fa fm fr fp b (512 + r) c := by
  unfold Gout
  rw [if_neg (by omega), if_pos (by omega), Nat.add_sub_cancel_left]

theorem out_route (r : ℕ) (hr : r < 256) (hR : 0 < 32768) :
    fr (at2 hR (256 * b + r) c) = Gout fk fa fm fr fp b (1536 + r) c := by
  unfold Gout
  rw [if_neg (by omega), if_neg (by omega), if_pos (by omega), Nat.add_sub_cancel_left]

theorem out_poly (r : ℕ) (hR : 0 < 131072) :
    fp (at2 hR (1024 * b + selOf 1024 (skey (wd (keysOf fk b) 2048)) r) c) = Gout fk fa fm fr fp b (1792 + r) c := by
  unfold Gout
  rw [if_neg (by omega), if_neg (by omega), if_neg (by omega), Nat.add_sub_cancel_left]

end Rows

/-- The sum of a position and a head's offset, as the program adds them. -/
theorem add_head {R : ℕ} (x : IVec ⟨2, ![128, R]⟩ 32) (h : S_.BroadcastsInDim ⟨2, ![128, R]⟩ ![]) (y : (⟨2, ![128, R]⟩ : Shape).Idx) (v k : ℕ)
    (hy : x y = BitVec.ofNat 32 v) :
    addi x (broadcastInDim ⟨2, ![128, R]⟩ ![] h (constantI S_ 32 (BitVec.ofNat 32 k))) y = BitVec.ofNat 32 (v + k) := by
  show x y + BitVec.ofNat 32 k = _
  rw [hy, BitVec.ofNat_add]

/-- The reference's operations on the arguments, as its run composes them. -/
theorem composed_eq (fk : (Vec1 425984).Idx → BitVec 32) (fa : (Tab 131072).Idx → Elt F .f32) (fm : (Tab 262144).Idx → Elt F .f32)
    (fr : (Tab 32768).Idx → Elt F .f32) (fp : (Tab 131072).Idx → Elt F .f32) (a0 a1 a2 a3 : S128x128x128.Idx → Elt F .f32)
    (mm : S128x1024x128.Idx → Elt F .f32) (rr : S128x256x128.Idx → Elt F .f32) (pp : S128x512x128.Idx → Elt F .f32)
    (h : Shape.Concatenates ((pieces a0 a1 a2 a3 mm rr pp).map (·.1)) S128x2304x128 1) (h' : S128x2304x128.ShapeCasts (Tab 294912))
    (h0 : ∀ y, a0 y = Gout fk fa fm fr fp (y 0).val (0 + (y 1).val) (y 2)) (h1 : ∀ y, a1 y = Gout fk fa fm fr fp (y 0).val (128 + (y 1).val) (y 2))
    (h2 : ∀ y, a2 y = Gout fk fa fm fr fp (y 0).val (256 + (y 1).val) (y 2)) (h3 : ∀ y, a3 y = Gout fk fa fm fr fp (y 0).val (384 + (y 1).val) (y 2))
    (h4 : ∀ y, mm y = Gout fk fa fm fr fp (y 0).val (512 + (y 1).val) (y 2)) (h5 : ∀ y, rr y = Gout fk fa fm fr fp (y 0).val (1536 + (y 1).val) (y 2))
    (h6 : ∀ y, pp y = Gout fk fa fm fr fp (y 0).val (1792 + (y 1).val) (y 2)) :
    shapeCast (Tab 294912) (concatenate S128x2304x128 1 (pieces a0 a1 a2 a3 mm rr pp) h) h' = Gall fk fa fm fr fp := by
  funext j
  have hj0 : (j 0).val < 294912 := (j 0).isLt
  have hj1 : (j 1).val < 128 := (j 1).isLt
  refine (shapeCast_apply _ _ j (three ((j 0).val / 2304) (by omega) ((j 0).val % 2304) (by omega) (j 1).val hj1) ?_).trans ?_
  · rw [Shape.rowMajor_val_two, Shape.rowMajor_val_three]
    show ((j 0).val / 2304 * 2304 + (j 0).val % 2304) * 128 + (j 1).val = (j 0).val * 128 + (j 1).val
    omega
  exact stacked (Gout fk fa fm fr fp) a0 a1 a2 a3 mm rr pp h h0 h1 h2 h3 h4 h5 h6 _

/-- The agents' piece of head `hd`. -/
theorem piece_agents (fk : (Vec1 425984).Idx → BitVec 32) (fa : (Tab 131072).Idx → Elt F .f32) (fm : (Tab 262144).Idx → Elt F .f32)
    (fr : (Tab 32768).Idx → Elt F .f32) (fp : (Tab 131072).Idx → Elt F .f32) (hd : ℕ) (hh : hd < 4) (y : S128x128x128.Idx) :
    Host.gather gather_S128x1024x128_S128x128x1_S128x128x128_2_1_0_0_1_2_11128 (shapeCast _ fa shapeCasts_S131072x128_S128x1024x128) (select (cmpi .slt (broadcastInDim S128x128x1 ![0, 1] bcast_S128x128_S128x128x1_0_1 (addi (extractStridedSlice S128x128 ![0, 0] ((Host.sort2 S128x256 1 comparator_i32_i32_d1 (extractStridedSlice S128x256 ![0, 3072] (id (shapeCast _ fk shapeCasts_S425984_S128x3328)) slices_S128x3328_S128x256_0_3072) (iotaInDim S128x256 32 1)).2) slices_S128x256_S128x128_0_0) (broadcastInDim S128x128 ![] bcast_S_S128x128 (constantI S_ 32 (BitVec.ofNat 32 (256 * hd)))))) (broadcastInDim S128x128x1 ![] bcast_S_S128x128x1 (constantI S_ 32 0#32))) (addi (broadcastInDim S128x128x1 ![0, 1] bcast_S128x128_S128x128x1_0_1 (addi (extractStridedSlice S128x128 ![0, 0] ((Host.sort2 S128x256 1 comparator_i32_i32_d1 (extractStridedSlice S128x256 ![0, 3072] (id (shapeCast _ fk shapeCasts_S425984_S128x3328)) slices_S128x3328_S128x256_0_3072) (iotaInDim S128x256 32 1)).2) slices_S128x256_S128x128_0_0) (broadcastInDim S128x128 ![] bcast_S_S128x128 (constantI S_ 32 (BitVec.ofNat 32 (256 * hd)))))) (broadcastInDim S128x128x1 ![] bcast_S_S128x128x1 (constantI S_ 32 1024#32))) (broadcastInDim S128x128x1 ![0, 1] bcast_S128x128_S128x128x1_0_1 (addi (extractStridedSlice S128x128 ![0, 0] ((Host.sort2 S128x256 1 comparator_i32_i32_d1 (extractStridedSlice S128x256 ![0, 3072] (id (shapeCast _ fk shapeCasts_S425984_S128x3328)) slices_S128x3328_S128x256_0_3072) (iotaInDim S128x256 32 1)).2) slices_S128x256_S128x128_0_0) (broadcastInDim S128x128 ![] bcast_S_S128x128 (constantI S_ 32 (BitVec.ofNat 32 (256 * hd))))))) y
      = Gout fk fa fm fr fp (y 0).val (128 * hd + (y 1).val) (y 2) := by
  have hy0 : (y 0).val < 128 := (y 0).isLt
  have hy1 : (y 1).val < 128 := (y 1).isLt
  have hsel := (selOf_spec (skey_inj (n := 256) (w := wd (keysOf fk (y 0).val) 3072) (by decide)) (k := (y 1).val) (by omega)).1
  refine (gathered (N := 1024) (R := 128) rfl (by decide) gather_S128x1024x128_S128x128x1_S128x128x128_2_1_0_0_1_2_11128_wf fa _ _ _ _ _ y
    (selOf 256 (skey (wd (keysOf fk (y 0).val) 3072)) (y 1).val + 256 * hd) (by omega) (by decide) ?_).trans
    (out_agents fk fa fm fr fp (y 0).val (y 2) hd hh (y 1).val hy1 (by decide))
  exact add_head _ _ _ _ _ (first_at (n := 256) (R := 128) (off := 3072) (by decide) fk _ _ _ (by decide) (y 0).val hy0 (y 1).val hy1)

/-- The map piece. -/
theorem piece_map (fk : (Vec1 425984).Idx → BitVec 32) (fa : (Tab 131072).Idx → Elt F .f32) (fm : (Tab 262144).Idx → Elt F .f32)
    (fr : (Tab 32768).Idx → Elt F .f32) (fp : (Tab 131072).Idx → Elt F .f32) (y : S128x1024x128.Idx) (ix : IVec S128x1024 32)
    (hix : ix = extractStridedSlice S128x1024 ![0, 0] ((Host.sort2 S128x2048 1 comparator_i32_i32_d1 (extractStridedSlice S128x2048 ![0, 0] (id (shapeCast _ fk shapeCasts_S425984_S128x3328)) slices_S128x3328_S128x2048_0_0) (iotaInDim S128x2048 32 1)).2) slices_S128x2048_S128x1024_0_0) :
    Host.gather gather_S128x2048x128_S128x1024x1_S128x1024x128_2_1_0_0_1_2_11128 (shapeCast _ fm shapeCasts_S262144x128_S128x2048x128) (select (cmpi .slt (broadcastInDim S128x1024x1 ![0, 1] bcast_S128x1024_S128x1024x1_0_1 ix) (broadcastInDim S128x1024x1 ![] bcast_S_S128x1024x1 (constantI S_ 32 0#32))) (addi (broadcastInDim S128x1024x1 ![0, 1] bcast_S128x1024_S128x1024x1_0_1 ix) (broadcastInDim S128x1024x1 ![] bcast_S_S128x1024x1 (constantI S_ 32 2048#32))) (broadcastInDim S128x1024x1 ![0, 1] bcast_S128x1024_S128x1024x1_0_1 ix)) y
      = Gout fk fa fm fr fp (y 0).val (512 + (y 1).val) (y 2) := by
  have hy0 : (y 0).val < 128 := (y 0).isLt
  have hy1 : (y 1).val < 1024 := (y 1).isLt
  have hsel := (selOf_spec (skey_inj (n := 2048) (w := wd (keysOf fk (y 0).val) 0) (by decide)) (k := (y 1).val) (by omega)).1
  refine (gathered (N := 2048) (R := 1024) rfl (by decide) gather_S128x2048x128_S128x1024x1_S128x1024x128_2_1_0_0_1_2_11128_wf fm _ _ _ _ _ y
    (selOf 2048 (skey (wd (keysOf fk (y 0).val) 0)) (y 1).val) hsel (by decide) ?_).trans
    (out_map fk fa fm fr fp (y 0).val (y 2) (y 1).val hy1 (by decide))
  rw [hix]
  exact first_at (n := 2048) (R := 1024) (off := 0) (by decide) fk _ _ _ (by decide) (y 0).val hy0 (y 1).val hy1

/-- The poly piece. -/
theorem piece_poly (fk : (Vec1 425984).Idx → BitVec 32) (fa : (Tab 131072).Idx → Elt F .f32) (fm : (Tab 262144).Idx → Elt F .f32)
    (fr : (Tab 32768).Idx → Elt F .f32) (fp : (Tab 131072).Idx → Elt F .f32) (y : S128x512x128.Idx) (ix : IVec S128x512 32)
    (hix : ix = extractStridedSlice S128x512 ![0, 0] ((Host.sort2 S128x1024 1 comparator_i32_i32_d1 (extractStridedSlice S128x1024 ![0, 2048] (id (shapeCast _ fk shapeCasts_S425984_S128x3328)) slices_S128x3328_S128x1024_0_2048) (iotaInDim S128x1024 32 1)).2) slices_S128x1024_S128x512_0_0) :
    Host.gather gather_S128x1024x128_S128x512x1_S128x512x128_2_1_0_0_1_2_11128 (shapeCast _ fp shapeCasts_S131072x128_S128x1024x128) (select (cmpi .slt (broadcastInDim S128x512x1 ![0, 1] bcast_S128x512_S128x512x1_0_1 ix) (broadcastInDim S128x512x1 ![] bcast_S_S128x512x1 (constantI S_ 32 0#32))) (addi (broadcastInDim S128x512x1 ![0, 1] bcast_S128x512_S128x512x1_0_1 ix) (broadcastInDim S128x512x1 ![] bcast_S_S128x512x1 (constantI S_ 32 1024#32))) (broadcastInDim S128x512x1 ![0, 1] bcast_S128x512_S128x512x1_0_1 ix)) y
      = Gout fk fa fm fr fp (y 0).val (1792 + (y 1).val) (y 2) := by
  have hy0 : (y 0).val < 128 := (y 0).isLt
  have hy1 : (y 1).val < 512 := (y 1).isLt
  have hsel := (selOf_spec (skey_inj (n := 1024) (w := wd (keysOf fk (y 0).val) 2048) (by decide)) (k := (y 1).val) (by omega)).1
  refine (gathered (N := 1024) (R := 512) rfl (by decide) gather_S128x1024x128_S128x512x1_S128x512x128_2_1_0_0_1_2_11128_wf fp _ _ _ _ _ y
    (selOf 1024 (skey (wd (keysOf fk (y 0).val) 2048)) (y 1).val) hsel (by decide) ?_).trans
    (out_poly fk fa fm fr fp (y 0).val (y 2) (y 1).val (by decide))
  rw [hix]
  exact first_at (n := 1024) (R := 512) (off := 2048) (by decide) fk _ _ _ (by decide) (y 0).val hy0 (y 1).val hy1

/-- **The reference's result**: the same function of its arguments as the kernel's. -/
theorem reference_eq (m : (ℓ : Loc Cert.ReferenceIdeal.nD Cert.ReferenceIdeal.τ Cert.ReferenceIdeal.sig) → Buf (Elt F) ℓ) (c : Dev Cert.ReferenceIdeal.nD) :
    Cert.ReferenceIdeal.Value.res_main_v36 m c
      = Gall (F := F) (m ((c.tc : Thread Cert.ReferenceIdeal.nD Cert.ReferenceIdeal.τ).loc main_arg0))
          (m ((c.tc : Thread Cert.ReferenceIdeal.nD Cert.ReferenceIdeal.τ).loc main_arg1))
          (m ((c.tc : Thread Cert.ReferenceIdeal.nD Cert.ReferenceIdeal.τ).loc main_arg2))
          (m ((c.tc : Thread Cert.ReferenceIdeal.nD Cert.ReferenceIdeal.τ).loc main_arg3))
          (m ((c.tc : Thread Cert.ReferenceIdeal.nD Cert.ReferenceIdeal.τ).loc main_arg4)) := by
  unfold Cert.ReferenceIdeal.Value.res_main_v36
  generalize m ((c.tc : Thread Cert.ReferenceIdeal.nD Cert.ReferenceIdeal.τ).loc main_arg0) = fk
  generalize m ((c.tc : Thread Cert.ReferenceIdeal.nD Cert.ReferenceIdeal.τ).loc main_arg1) = fa
  generalize m ((c.tc : Thread Cert.ReferenceIdeal.nD Cert.ReferenceIdeal.τ).loc main_arg2) = fm
  generalize m ((c.tc : Thread Cert.ReferenceIdeal.nD Cert.ReferenceIdeal.τ).loc main_arg3) = fr
  generalize m ((c.tc : Thread Cert.ReferenceIdeal.nD Cert.ReferenceIdeal.τ).loc main_arg4) = fp
  refine composed_eq (F := F) fk fa fm fr fp _ _ _ _ _ _ _ _ _ ?_ ?_ ?_ ?_ ?_ ?_ ?_
  · exact fun y => piece_agents (F := F) fk fa fm fr fp 0 (by decide) y
  · exact fun y => piece_agents (F := F) fk fa fm fr fp 1 (by decide) y
  · exact fun y => piece_agents (F := F) fk fa fm fr fp 2 (by decide) y
  · exact fun y => piece_agents (F := F) fk fa fm fr fp 3 (by decide) y
  · exact fun y => piece_map (F := F) fk fa fm fr fp y _ rfl
  · exact fun y => (table_cast (N := 256) rfl (by decide) fr _ y).trans (out_route (F := F) fk fa fm fr fp (y 0).val (y 2) (y 1).val (y 1).isLt (by decide))
  · exact fun y => piece_poly (F := F) fk fa fm fr fp y _ rfl

end Cert.Proof.Knn

end
-- ==== Proof.Bits.lean ====
/-
  The keys of the three kinds as one function of the positions: the bits of the distances.
-/
module

public import proofs.«01_k».proof.Proof.Value

@[expose] public section

noncomputable section

namespace Cert.Proof.Knn

open Idealize.ShloMosaic

variable {F : FTy → Type} [BitOps F]

/-- The bits of `√(p² + q²)`. -/
def bitsOf (p q : F .f32) : BitVec 32 := BitOps.toBits (FloatOps.sqrt (FloatOps.addf (FloatOps.mulf p p) (FloatOps.mulf q q)))

/-- The bits of the distance of position `q` of batch `p`. -/
def bitsAt {B n : ℕ} (x : (⟨3, ![B, n, 2]⟩ : Shape).Idx → F .f32) (p : ℕ) (hp : p < B) (q : ℕ) (hq : q < n) : BitVec 32 :=
  bitsOf (x (three p hp q hq 0 (by decide))) (x (three p hp q hq 1 (by decide)))

/-- The keys of the agents `a`, the map `b` and the polylines `c`, one row per batch: the map's first, then the
    polylines', then the agents'. -/
def allBits (a : (⟨3, ![128, 256, 2]⟩ : Shape).Idx → F .f32) (b : (⟨3, ![128, 2048, 2]⟩ : Shape).Idx → F .f32)
    (c : (⟨3, ![128, 1024, 2]⟩ : Shape).Idx → F .f32) (j : (⟨2, ![128, 3328]⟩ : Shape).Idx) : BitVec 32 :=
  if h : (j 1).val < 2048 then bitsAt b (j 0).val (j 0).isLt (j 1).val h
  else if h' : (j 1).val < 3072 then bitsAt c (j 0).val (j 0).isLt ((j 1).val - 2048) (by omega)
  else bitsAt a (j 0).val (j 0).isLt ((j 1).val - 3072) (by have h1 : (j 1).val < 3328 := (j 1).isLt; omega)

/-- Two arrays with the bits of the distances in each kind's columns are equal. -/
theorem allBits_eq (a : (⟨3, ![128, 256, 2]⟩ : Shape).Idx → F .f32) (b : (⟨3, ![128, 2048, 2]⟩ : Shape).Idx → F .f32)
    (c : (⟨3, ![128, 1024, 2]⟩ : Shape).Idx → F .f32) (v : BitVec 32) (j : (⟨2, ![128, 3328]⟩ : Shape).Idx)
    (hb : ∀ q (h : q < 2048), (j 1).val = q → v = bitsAt b (j 0).val (j 0).isLt q h)
    (hc : ∀ q (h : q < 1024), (j 1).val = 2048 + q → v = bitsAt c (j 0).val (j 0).isLt q h)
    (ha : ∀ q (h : q < 256), (j 1).val = 3072 + q → v = bitsAt a (j 0).val (j 0).isLt q h) : v = allBits a b c j := by
  have h1 : (j 1).val < 3328 := (j 1).isLt
  unfold allBits
  split
  · exact hb _ _ rfl
  split
  · exact hc _ _ (by omega)
  · exact ha _ _ (by omega)

end Cert.Proof.Knn

end
-- ==== Proof.KeysValue.lean ====
/-
  The keys' kernel: its result is the bits of the distances.
-/
module

public import proofs.«01_k».proof.Proof.Bits
public import proofs.«01_k».proof.Proof.Gen.Keys.Value
public import Idealize.ShloMosaic.Lib.WritesUnit
public import Idealize.ShloMosaic.Lib.Pipeline.ValueKit

@[expose] public section

noncomputable section

namespace Cert.Proof.KeysValue

open Cert.Keys Cert.Keys.Gen Cert.Keys.Value Cert.Proof.Knn
open Idealize.ShloMosaic Idealize.ShloMosaic.TcCoe Idealize.SL.Sem

variable {F : FTy → Type} [BitOps F]

/-- One plane of a block of positions, at an index. -/
theorem row_at {n r : ℕ} (x : (⟨3, ![16, 2, n]⟩ : Shape).Idx → F .f32)
    (inb : ∀ a, (![0, r, 0] : Fin 3 → ℕ) a + (![16, 1, n] : Fin 3 → ℕ) a ≤ (⟨3, ![16, 2, n]⟩ : Shape).size a)
    (hc : (⟨3, ![16, 1, n]⟩ : Shape).ShapeCasts ⟨2, ![16, n]⟩) (hr : r < 2) (p : ℕ) (hp : p < 16) (q : ℕ) (hq : q < n) :
    shapeCast ⟨2, ![16, n]⟩ (View.ld (Val := Elt F) (e' := .f32) x (Rect.unit (s := ⟨3, ![16, 2, n]⟩) ![0, r, 0] ![16, 1, n] inb)) hc (two p hp q hq)
      = x (three p hp r hr q hq) := by
  refine (shapeCast_apply _ _ _ (three p hp 0 (by decide) q hq) ?_).trans (View.ld_unit_apply_of (Val := Elt F) (e := .f32) x ![0, r, 0] ![16, 1, n] inb _ _ fun a => ?_)
  · rw [Shape.rowMajor_val_two, Shape.rowMajor_val_three]
    show (p * 1 + 0) * n + q = p * n + q
    rw [Nat.mul_one, Nat.add_zero]
  · match a with
    | 0 => show p = 0 + p; omega
    | 1 => show r = r + 0; rfl
    | 2 => show q = 0 + q; omega

/-- What the three stores leave, from a block of each kind's positions: the bits side by side. -/
theorem block_at (c : Dev nD) (i : grid0.Coords) (arg1 : Memref sig .tc .vmem S16x2x2048 .f32) (h1 : arg1.IsWhole)
    (arg2 : Memref sig .tc .vmem S16x2x1024 .f32) (h2 : arg2.IsWhole) (arg3 : Memref sig .tc .vmem S16x2x256 .f32) (h3 : arg3.IsWhole)
    (arg4 : Memref sig .tc .vmem S16x3328 .i32) (h4 : arg4.IsWhole)
    (x0 : Vec F S16x2x2048 .f32) (x1 : Vec F S16x2x1024 .f32) (x2 : Vec F S16x2x256 .f32) (y : S16x3328.Idx) (p : ℕ) (hp : p < 16)
    (q : ℕ) (hy0 : (y 0).val = p) (hy1 : (y 1).val = q) :
    (∀ h : q < 2048, out0_A_3 c i arg1 h1 arg2 h2 arg3 h3 arg4 h4 x0 x1 x2 y
        = bitsOf (x0 (three p hp 0 (by decide) q h)) (x0 (three p hp 1 (by decide) q h)))
    ∧ (∀ k (h : k < 1024), q = 2048 + k → out0_A_3 c i arg1 h1 arg2 h2 arg3 h3 arg4 h4 x0 x1 x2 y
        = bitsOf (x1 (three p hp 0 (by decide) k h)) (x1 (three p hp 1 (by decide) k h)))
    ∧ (∀ k (h : k < 256), q = 3072 + k → out0_A_3 c i arg1 h1 arg2 h2 arg3 h3 arg4 h4 x0 x1 x2 y
        = bitsOf (x2 (three p hp 0 (by decide) k h)) (x2 (three p hp 1 (by decide) k h))) := by
  have e : out0_A_3 c i arg1 h1 arg2 h2 arg3 h3 arg4 h4 x0 x1 x2
      = VO0_3.read (Elt F) (VO0_3.writes (Elt F) VO0_3.junk
        [⟨Rect.unit (s := S16x3328) ![0, 3072] S16x256.size inb_S16x3328_S16x256_0_3072,
            k0_pay3 (View.ld x2 (Rect.unit (s := S16x2x256) ![0, 0, 0] S16x1x256.size inb_S16x2x256_S16x1x256_0_0_0))
              (View.ld x2 (Rect.unit (s := S16x2x256) ![0, 1, 0] S16x1x256.size inb_S16x2x256_S16x1x256_0_1_0))⟩,
          ⟨Rect.unit (s := S16x3328) ![0, 2048] S16x1024.size inb_S16x3328_S16x1024_0_2048,
            k0_pay2 (View.ld x1 (Rect.unit (s := S16x2x1024) ![0, 0, 0] S16x1x1024.size inb_S16x2x1024_S16x1x1024_0_0_0))
              (View.ld x1 (Rect.unit (s := S16x2x1024) ![0, 1, 0] S16x1x1024.size inb_S16x2x1024_S16x1x1024_0_1_0))⟩,
          ⟨Rect.unit (s := S16x3328) ![0, 0] S16x2048.size inb_S16x3328_S16x2048_0_0,
            k0_pay1 (View.ld x0 (Rect.unit (s := S16x2x2048) ![0, 0, 0] S16x1x2048.size inb_S16x2x2048_S16x1x2048_0_0_0))
              (View.ld x0 (Rect.unit (s := S16x2x2048) ![0, 1, 0] S16x1x2048.size inb_S16x2x2048_S16x1x2048_0_1_0))⟩]) := by
    rw [← h1.read_unread x0, ← h2.read_unread x1, ← h3.read_unread x2]
    simp only [h1.read_unread, h2.read_unread, h3.read_unread]
    unfold out0_A_3
    show VO0_3.read (Elt F) (VO0_3.writes (Elt F) VO0_3.junk
        [⟨Rect.unit (s := S16x3328) ![0, 3072] S16x256.size inb_S16x3328_S16x256_0_3072,
            k0_pay3 (View.readAt (Elt F) arg3.view (Rect.unit (s := S16x2x256) ![0, 0, 0] S16x1x256.size inb_S16x2x256_S16x1x256_0_0_0).toLoadRect (h3.unread x2))
              (View.readAt (Elt F) arg3.view (Rect.unit (s := S16x2x256) ![0, 1, 0] S16x1x256.size inb_S16x2x256_S16x1x256_0_1_0).toLoadRect (h3.unread x2))⟩,
          ⟨Rect.unit (s := S16x3328) ![0, 2048] S16x1024.size inb_S16x3328_S16x1024_0_2048,
            k0_pay2 (View.readAt (Elt F) arg2.view (Rect.unit (s := S16x2x1024) ![0, 0, 0] S16x1x1024.size inb_S16x2x1024_S16x1x1024_0_0_0).toLoadRect (h2.unread x1))
              (View.readAt (Elt F) arg2.view (Rect.unit (s := S16x2x1024) ![0, 1, 0] S16x1x1024.size inb_S16x2x1024_S16x1x1024_0_1_0).toLoadRect (h2.unread x1))⟩,
          ⟨Rect.unit (s := S16x3328) ![0, 0] S16x2048.size inb_S16x3328_S16x2048_0_0,
            k0_pay1 (View.readAt (Elt F) arg1.view (Rect.unit (s := S16x2x2048) ![0, 0, 0] S16x1x2048.size inb_S16x2x2048_S16x1x2048_0_0_0).toLoadRect (h1.unread x0))
              (View.readAt (Elt F) arg1.view (Rect.unit (s := S16x2x2048) ![0, 1, 0] S16x1x2048.size inb_S16x2x2048_S16x1x2048_0_1_0).toLoadRect (h1.unread x0))⟩]) = _
    simp only [View.readAt_eq_ld, h1.read_unread, h2.read_unread, h3.read_unread]
  rw [e]
  refine ⟨fun h => ?_, fun k h hk => ?_, fun k h hk => ?_⟩
  · refine (View.read_writes_cons_unit_of_not_mem _ _ _ _ _ y rfl (1 : Fin 2) (.inl (show (y 1).val < 3072 by omega))).trans ?_
    refine (View.read_writes_cons_unit_of_not_mem _ _ _ _ _ y rfl (1 : Fin 2) (.inl (show (y 1).val < 2048 by omega))).trans ?_
    refine (View.read_writes_cons_unit_of_mem _ _ _ _ _ y (two p hp q h) rfl fun a => ?_).trans ?_
    · match a with
      | 0 => show (y 0).val = 0 + p; omega
      | 1 => show (y 1).val = 0 + q; omega
    · exact congrArg₂ bitsOf (row_at _ _ _ (by decide) p hp q h) (row_at _ _ _ (by decide) p hp q h)
  · refine (View.read_writes_cons_unit_of_not_mem _ _ _ _ _ y rfl (1 : Fin 2) (.inl (show (y 1).val < 3072 by omega))).trans ?_
    refine (View.read_writes_cons_unit_of_mem _ _ _ _ _ y (two p hp k h) rfl fun a => ?_).trans ?_
    · match a with
      | 0 => show (y 0).val = 0 + p; omega
      | 1 => show (y 1).val = 2048 + k; omega
    · exact congrArg₂ bitsOf (row_at _ _ _ (by decide) p hp k h) (row_at _ _ _ (by decide) p hp k h)
  · refine (View.read_writes_cons_unit_of_mem _ _ _ _ _ y (two p hp k h) rfl fun a => ?_).trans ?_
    · match a with
      | 0 => show (y 0).val = 0 + p; omega
      | 1 => show (y 1).val = 3072 + k; omega
    · exact congrArg₂ bitsOf (row_at _ _ _ (by decide) p hp k h) (row_at _ _ _ (by decide) p hp k h)

variable (m : (ℓ : Loc nD τ sig) → Buf (Elt F) ℓ) (ρ : Dev nD → PrngReg)

/-- The bits of the distances of device `c`'s positions. -/
abbrev keys (c : Dev nD) : S128x3328.Idx → BitVec 32 :=
  allBits (m ((c : Thread nD τ).loc main_arg0)) (m ((c : Thread nD τ).loc main_arg1)) (m ((c : Thread nD τ).loc main_arg2))

/-- The positions with the planes outermost in each batch, at an index. -/
theorem swapped_at {n : ℕ} (x : (⟨3, ![128, n, 2]⟩ : Shape).Idx → F .f32) (h : (⟨3, ![128, n, 2]⟩ : Shape).Transposes [0, 2, 1] ⟨3, ![128, 2, n]⟩)
    (z : (⟨3, ![128, 2, n]⟩ : Shape).Idx) (p : ℕ) (hp : p < 128) (r : ℕ) (hr : r < 2) (q : ℕ) (hq : q < n)
    (h0 : (z 0).val = p) (h1 : (z 1).val = r) (h2 : (z 2).val = q) :
    transpose ⟨3, ![128, 2, n]⟩ [0, 2, 1] x h z = x (three p hp q hq r hr) :=
  transpose_apply _ _ _ _ _ fun b => match b with
    | 0 => h0.symm
    | 1 => h1.symm
    | 2 => h2.symm

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)

/-- Each input's block of a point, from the positions as given. -/
theorem in0_at (c : Dev nD) (t : Fin cfg0.N) (p : ℕ) (hp : p < 16) (r : ℕ) (hr : r < 2) (q : ℕ) (hq : q < 2048) (b : ℕ) (hb : b < 128)
    (e : b = t.val * 16 + p) : iblk m c 0 t (three p hp r hr q hq) = m ((c : Thread nD τ).loc main_arg1) (three b hb q hq r hr) := by
  obtain ⟨e0, e1, e2⟩ := index0 t
  refine swapped_at (n := 2048) _ _ _ b hb r hr q hq ?_ ?_ ?_
  · show win0_0.index t (0 : Fin 3) * 16 + 1 * p = b; omega
  · show win0_0.index t (1 : Fin 3) * 2 + 1 * r = r; omega
  · show win0_0.index t (2 : Fin 3) * 2048 + 1 * q = q; omega

theorem in1_at (c : Dev nD) (t : Fin cfg0.N) (p : ℕ) (hp : p < 16) (r : ℕ) (hr : r < 2) (q : ℕ) (hq : q < 1024) (b : ℕ) (hb : b < 128)
    (e : b = t.val * 16 + p) : iblk m c 1 t (three p hp r hr q hq) = m ((c : Thread nD τ).loc main_arg2) (three b hb q hq r hr) := by
  obtain ⟨e0, e1, e2⟩ := index1 t
  refine swapped_at (n := 1024) _ _ _ b hb r hr q hq ?_ ?_ ?_
  · show win0_1.index t (0 : Fin 3) * 16 + 1 * p = b; omega
  · show win0_1.index t (1 : Fin 3) * 2 + 1 * r = r; omega
  · show win0_1.index t (2 : Fin 3) * 1024 + 1 * q = q; omega

theorem in2_at (c : Dev nD) (t : Fin cfg0.N) (p : ℕ) (hp : p < 16) (r : ℕ) (hr : r < 2) (q : ℕ) (hq : q < 256) (b : ℕ) (hb : b < 128)
    (e : b = t.val * 16 + p) : iblk m c 2 t (three p hp r hr q hq) = m ((c : Thread nD τ).loc main_arg0) (three b hb q hq r hr) := by
  obtain ⟨e0, e1, e2⟩ := index2 t
  refine swapped_at (n := 256) _ _ _ b hb r hr q hq ?_ ?_ ?_
  · show win0_2.index t (0 : Fin 3) * 16 + 1 * p = b; omega
  · show win0_2.index t (1 : Fin 3) * 2 + 1 * r = r; omega
  · show win0_2.index t (2 : Fin 3) * 256 + 1 * q = q; omega

/-- What a point writes back is its block of the keys. -/
theorem flushed_eq (c : Dev nD) (t : Fin cfg0.N) :
    (dats m 0 c).flushed 3 t = ((cfg0.win 3).blk t).view.read (Elt F) (keys m c) := by
  obtain ⟨e0, e1⟩ := index3 t
  rw [flushed3_A]
  funext y
  let z : S128x3328.Idx := ((cfg0.win 3).blk t).view.emb y
  have z0 : (z 0).val = t.val * 16 + (y 0).val := by
    show win0_3.index t (0 : Fin 2) * 16 + 1 * (y 0).val = _
    omega
  have z1 : (z 1).val = (y 1).val := by
    show win0_3.index t (1 : Fin 2) * 3328 + 1 * (y 1).val = _
    omega
  show out0_A_3 _ _ _ _ _ _ _ _ _ _ _ _ _ y = keys m c z
  obtain ⟨f0, f1, f2⟩ := block_at c (grid0.coords t) (ms0_0 t) (hs0_0 t) (ms0_1 t) (hs0_1 t) (ms0_2 t) (hs0_2 t) (ms0_3 t) (hs0_3 t)
    (iblk m c 0 t) (iblk m c 1 t) (iblk m c 2 t) y _ (y 0).isLt _ rfl rfl
  refine allBits_eq _ _ _ _ z (fun q h e => ?_) (fun q h e => ?_) (fun q h e => ?_)
  · obtain rfl : (y 1).val = q := z1.symm.trans e
    exact (f0 h).trans (congrArg₂ bitsOf (in0_at m c t _ _ _ _ _ _ _ _ z0) (in0_at m c t _ _ _ _ _ _ _ _ z0))
  · exact (f1 q h (z1.symm.trans e)).trans (congrArg₂ bitsOf (in1_at m c t _ _ _ _ _ _ _ _ z0) (in1_at m c t _ _ _ _ _ _ _ _ z0))
  · exact (f2 q h (z1.symm.trans e)).trans (congrArg₂ bitsOf (in2_at m c t _ _ _ _ _ _ _ _ z0) (in2_at m c t _ _ _ _ _ _ _ _ z0))

/-- Every index of the result is in the block of the point of its sixteen batches. -/
theorem covered (i : S128x3328.Idx) : ∃ t : Fin cfg0.N, (cfg0.win 3).flush t = true ∧ i ∈ ((cfg0.win 3).blk t).view.set := by
  have h0 : (i 0).val < 128 := (i 0).isLt
  have hN : cfg0.N = 8 := by decide
  let t : Fin cfg0.N := ⟨(i 0).val / 16, by omega⟩
  refine ⟨t, flush0_3 t, ?_⟩
  obtain ⟨e0, e1⟩ := index3 t
  have h := ((cfg0.win 3).blk t).view.emb_mem_set (two (a := 16) (b := 3328) ((i 0).val % 16) (by omega) (i 1).val (i 1).isLt)
  have e : ((cfg0.win 3).blk t).view.emb (two (a := 16) (b := 3328) ((i 0).val % 16) (by omega) (i 1).val (i 1).isLt) = i :=
    funext fun a => Fin.ext (by
      match a with
      | 0 =>
        show win0_3.index t (0 : Fin 2) * 16 + 1 * ((i 0).val % 16) = (i 0).val
        have : t.val = (i 0).val / 16 := rfl
        omega
      | 1 =>
        show win0_3.index t (1 : Fin 2) * 3328 + 1 * (i 1).val = (i 1).val
        omega)
  rwa [e] at h

/-- The run, with the result the bits of the distances and the arguments unchanged. -/
theorem run : θ_run defs (onTc (τ := τ) (main (F := F))) ⟨m, fun _ => 0, ρ⟩ fun r => ∀ c : Dev nD,
      r.2.mem ((c : Thread nD τ).loc main_v3) = keys m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 (keys m c) (fun t _ => flushed_eq m c t) covered),
    (h c).2⟩) (run_blocks m ρ)

end Cert.Proof.KeysValue

end
-- ==== Proof.DistancesValue.lean ====
/-
  The reference of the keys: its result is the bits of the distances.
-/
module

public import proofs.«01_k».proof.Proof.Bits
public import proofs.«01_k».proof.Proof.Gen.Distances.Value

@[expose] public section

noncomputable section

namespace Cert.Proof.DistancesValue

open Cert.Distances Cert.Distances.Gen Cert.Distances.Value Cert.Proof.Knn
open Idealize.ShloMosaic Idealize.ShloMosaic.TcCoe Idealize.SL.Sem

variable {F : FTy → Type} [BitOps F]

/-- One plane of a kind's positions, at an index. -/
theorem plane_at {n r : ℕ} (x : (⟨3, ![128, n, 2]⟩ : Shape).Idx → F .f32) (hs : (⟨3, ![128, n, 2]⟩ : Shape).Slices ![0, 0, r] ⟨3, ![128, n, 1]⟩)
    (hc : (⟨3, ![128, n, 1]⟩ : Shape).ShapeCasts ⟨2, ![128, n]⟩) (hr : r < 2) (p : ℕ) (hp : p < 128) (q : ℕ) (hq : q < n) :
    shapeCast ⟨2, ![128, n]⟩ (extractStridedSlice ⟨3, ![128, n, 1]⟩ ![0, 0, r] x hs) hc (two p hp q hq) = x (three p hp q hq r hr) := by
  refine (shapeCast_apply _ _ _ (three p hp q hq 0 (by decide)) ?_).trans (extractStridedSlice_apply _ _ _ _ _ fun a => ?_)
  · rw [Shape.rowMajor_val_two, Shape.rowMajor_val_three]
    show (p * n + q) * 1 + 0 = p * n + q
    omega
  · match a with
    | 0 => show p = 0 + p; omega
    | 1 => show q = 0 + q; omega
    | 2 => show r = r + 0; rfl

/-- Three arrays side by side, at a column of each. -/
theorem beside_at (u : S128x2048.Idx → BitVec 32) (v : S128x1024.Idx → BitVec 32) (w : S128x256.Idx → BitVec 32)
    (h : Shape.Concatenates [S128x2048, S128x1024, S128x256] S128x3328 1) (j : S128x3328.Idx) (p : ℕ) (hp : p < 128) (hj : (j 0).val = p := by rfl) :
    (∀ q (hq : q < 2048), (j 1).val = q → concatenate S128x3328 1 [⟨S128x2048, u⟩, ⟨S128x1024, v⟩, ⟨S128x256, w⟩] h j = u (two p hp q hq))
    ∧ (∀ q (hq : q < 1024), (j 1).val = 2048 + q → concatenate S128x3328 1 [⟨S128x2048, u⟩, ⟨S128x1024, v⟩, ⟨S128x256, w⟩] h j = v (two p hp q hq))
    ∧ (∀ q (hq : q < 256), (j 1).val = 3072 + q → concatenate S128x3328 1 [⟨S128x2048, u⟩, ⟨S128x1024, v⟩, ⟨S128x256, w⟩] h j = w (two p hp q hq)) := by
  refine ⟨fun q hq e => ?_, fun q hq e => ?_, fun q hq e => ?_⟩
  · refine concatenate_apply_piece (t := S128x3328) 1 [⟨S128x2048, u⟩, ⟨S128x1024, v⟩, ⟨S128x256, w⟩] h j 0 (by show 0 < 3; decide) S128x2048 u
      rfl rfl 0 rfl (two p hp q hq) (fun d hd => ?_) ?_
    · match d with
      | 0 => exact hj.symm
      | 1 => exact absurd rfl hd
    · show 0 + q = (j 1).val
      omega
  · refine concatenate_apply_piece (t := S128x3328) 1 [⟨S128x2048, u⟩, ⟨S128x1024, v⟩, ⟨S128x256, w⟩] h j 1 (by show 1 < 3; decide) S128x1024 v
      rfl rfl 2048 rfl (two p hp q hq) (fun d hd => ?_) ?_
    · match d with
      | 0 => exact hj.symm
      | 1 => exact absurd rfl hd
    · show 2048 + q = (j 1).val
      omega
  · refine concatenate_apply_piece (t := S128x3328) 1 [⟨S128x2048, u⟩, ⟨S128x1024, v⟩, ⟨S128x256, w⟩] h j 2 (by show 2 < 3; decide) S128x256 w
      rfl rfl 3072 rfl (two p hp q hq) (fun d hd => ?_) ?_
    · match d with
      | 0 => exact hj.symm
      | 1 => exact absurd rfl hd
    · show 3072 + q = (j 1).val
      omega

/-- What the one store leaves, from the six planes: the bits side by side. -/
theorem payload_at (x0 x1 : (⟨2, ![128, 2048]⟩ : Shape).Idx → F .f32) (x2 x3 : (⟨2, ![128, 1024]⟩ : Shape).Idx → F .f32)
    (x4 x5 : (⟨2, ![128, 256]⟩ : Shape).Idx → F .f32)
    (a : (⟨3, ![128, 256, 2]⟩ : Shape).Idx → F .f32) (b : (⟨3, ![128, 2048, 2]⟩ : Shape).Idx → F .f32)
    (c : (⟨3, ![128, 1024, 2]⟩ : Shape).Idx → F .f32)
    (h0 : ∀ p hp q hq, x0 (two p hp q hq) = b (three p hp q hq 0 (by decide)))
    (h1 : ∀ p hp q hq, x1 (two p hp q hq) = b (three p hp q hq 1 (by decide)))
    (h2 : ∀ p hp q hq, x2 (two p hp q hq) = c (three p hp q hq 0 (by decide)))
    (h3 : ∀ p hp q hq, x3 (two p hp q hq) = c (three p hp q hq 1 (by decide)))
    (h4 : ∀ p hp q hq, x4 (two p hp q hq) = a (three p hp q hq 0 (by decide)))
    (h5 : ∀ p hp q hq, x5 (two p hp q hq) = a (three p hp q hq 1 (by decide))) (j : S128x3328.Idx) :
    k0_pay1 (F := F) x0 x1 x2 x3 x4 x5 j = allBits a b c j := by
  have hj : (j 0).val < 128 := (j 0).isLt
  refine allBits_eq a b c _ j (fun q h e => ?_) (fun q h e => ?_) (fun q h e => ?_)
  · refine (beside_at _ _ _ concatenates_S128x2048_S128x1024_S128x256_S128x3328_d1 j _ hj).1 q h e |>.trans ?_
    refine (congrArg₂ bitsOf (shapeCast_apply _ _ _ (two _ hj q h) rfl) (shapeCast_apply _ _ _ (two _ hj q h) rfl)).trans ?_
    exact congrArg₂ bitsOf (h0 _ _ _ _) (h1 _ _ _ _)
  · refine (beside_at _ _ _ concatenates_S128x2048_S128x1024_S128x256_S128x3328_d1 j _ hj).2.1 q h e |>.trans ?_
    refine (congrArg₂ bitsOf (shapeCast_apply _ _ _ (two _ hj q h) rfl) (shapeCast_apply _ _ _ (two _ hj q h) rfl)).trans ?_
    exact congrArg₂ bitsOf (h2 _ _ _ _) (h3 _ _ _ _)
  · refine (beside_at _ _ _ concatenates_S128x2048_S128x1024_S128x256_S128x3328_d1 j _ hj).2.2 q h e |>.trans ?_
    refine (congrArg₂ bitsOf (shapeCast_apply _ _ _ (two _ hj q h) rfl) (shapeCast_apply _ _ _ (two _ hj q h) rfl)).trans ?_
    exact congrArg₂ bitsOf (h4 _ _ _ _) (h5 _ _ _ _)

variable (m : (ℓ : Loc nD τ sig) → Buf (Elt F) ℓ) (ρ : Dev nD → PrngReg)

/-- The bits of the distances of device `c`'s positions. -/
abbrev keys (c : Dev nD) : S128x3328.Idx → BitVec 32 :=
  allBits (m ((c : Thread nD τ).loc main_arg0)) (m ((c : Thread nD τ).loc main_arg1)) (m ((c : Thread nD τ).loc main_arg2))

/-- Each window's block is its whole array. -/
theorem emb0 (t : Fin cfg0.N) (j : S128x2048.Idx) : ((cfg0.win 0).blk t).view.emb j = j :=
  funext fun a => Fin.ext (Pipeline.Window.rect_emb_val_of_index_zero win0_0 t a
    ((by decide +kernel : ∀ (t : Fin grid0.N) (a : Fin 2), win0_0.index t a = 0) t a) j)

theorem emb1 (t : Fin cfg0.N) (j : S128x2048.Idx) : ((cfg0.win 1).blk t).view.emb j = j :=
  funext fun a => Fin.ext (Pipeline.Window.rect_emb_val_of_index_zero win0_1 t a
    ((by decide +kernel : ∀ (t : Fin grid0.N) (a : Fin 2), win0_1.index t a = 0) t a) j)

theorem emb2 (t : Fin cfg0.N) (j : S128x1024.Idx) : ((cfg0.win 2).blk t).view.emb j = j :=
  funext fun a => Fin.ext (Pipeline.Window.rect_emb_val_of_index_zero win0_2 t a
    ((by decide +kernel : ∀ (t : Fin grid0.N) (a : Fin 2), win0_2.index t a = 0) t a) j)

theorem emb3 (t : Fin cfg0.N) (j : S128x1024.Idx) : ((cfg0.win 3).blk t).view.emb j = j :=
  funext fun a => Fin.ext (Pipeline.Window.rect_emb_val_of_index_zero win0_3 t a
    ((by decide +kernel : ∀ (t : Fin grid0.N) (a : Fin 2), win0_3.index t a = 0) t a) j)

theorem emb4 (t : Fin cfg0.N) (j : S128x256.Idx) : ((cfg0.win 4).blk t).view.emb j = j :=
  funext fun a => Fin.ext (Pipeline.Window.rect_emb_val_of_index_zero win0_4 t a
    ((by decide +kernel : ∀ (t : Fin grid0.N) (a : Fin 2), win0_4.index t a = 0) t a) j)

theorem emb5 (t : Fin cfg0.N) (j : S128x256.Idx) : ((cfg0.win 5).blk t).view.emb j = j :=
  funext fun a => Fin.ext (Pipeline.Window.rect_emb_val_of_index_zero win0_5 t a
    ((by decide +kernel : ∀ (t : Fin grid0.N) (a : Fin 2), win0_5.index t a = 0) t a) j)

theorem emb6 (t : Fin cfg0.N) (j : S128x3328.Idx) : ((cfg0.win 6).blk t).view.emb j = j :=
  funext fun a => Fin.ext (Pipeline.Window.rect_emb_val_of_index_zero win0_6 t a
    ((by decide +kernel : ∀ (t : Fin grid0.N) (a : Fin 2), win0_6.index t a = 0) t a) j)

theorem hz : (![0, 0] : Fin 2 → ℕ) = fun _ => 0 := funext fun a => by fin_cases a <;> rfl

/-- What the point writes back is the keys. -/
theorem flushed_eq (c : Dev nD) (t : Fin cfg0.N) :
    (dats m 0 c).flushed 6 t = ((cfg0.win 6).blk t).view.read (Elt F) (keys m c) := by
  rw [flushed6]
  unfold out0_6
  rw [View.canon_unit_zero hz, View.ld_unit_zero hz, View.ld_unit_zero hz, View.ld_unit_zero hz,
    View.ld_unit_zero hz, View.ld_unit_zero hz, View.ld_unit_zero hz]
  funext j
  show k0_pay1 _ _ _ _ _ _ j = keys m c (((cfg0.win 6).blk t).view.emb j)
  rw [emb6]
  refine payload_at _ _ _ _ _ _ _ _ _ (fun p hp q hq => ?_) (fun p hp q hq => ?_) (fun p hp q hq => ?_) (fun p hp q hq => ?_)
    (fun p hp q hq => ?_) (fun p hp q hq => ?_) j
  · show V m c main_v1 (((cfg0.win 0).blk t).view.emb (two p hp q hq)) = _
    rw [emb0]; exact plane_at _ slices_S128x2048x2_S128x2048x1_0_0_0 shapeCasts_S128x2048x1_S128x2048 (by decide) p hp q hq
  · show V m c main_v3 (((cfg0.win 1).blk t).view.emb (two p hp q hq)) = _
    rw [emb1]; exact plane_at _ slices_S128x2048x2_S128x2048x1_0_0_1 shapeCasts_S128x2048x1_S128x2048 (by decide) p hp q hq
  · show V m c main_v5 (((cfg0.win 2).blk t).view.emb (two p hp q hq)) = _
    rw [emb2]; exact plane_at _ slices_S128x1024x2_S128x1024x1_0_0_0 shapeCasts_S128x1024x1_S128x1024 (by decide) p hp q hq
  · show V m c main_v7 (((cfg0.win 3).blk t).view.emb (two p hp q hq)) = _
    rw [emb3]; exact plane_at _ slices_S128x1024x2_S128x1024x1_0_0_1 shapeCasts_S128x1024x1_S128x1024 (by decide) p hp q hq
  · show V m c main_v9 (((cfg0.win 4).blk t).view.emb (two p hp q hq)) = _
    rw [emb4]; exact plane_at _ slices_S128x256x2_S128x256x1_0_0_0 shapeCasts_S128x256x1_S128x256 (by decide) p hp q hq
  · show V m c main_v11 (((cfg0.win 5).blk t).view.emb (two p hp q hq)) = _
    rw [emb5]; exact plane_at _ slices_S128x256x2_S128x256x1_0_0_1 shapeCasts_S128x256x1_S128x256 (by decide) p hp q hq

/-- The result array after the run. -/
theorem final (c : Dev nD) : (dats m 0 c).arrAt 6 cfg0.N = keys m c :=
  (dats m 0 c).arrAt_eq_of_cover 6 (keys m c) (fun t _ => flushed_eq m c t) fun i =>
    ⟨(⟨0, by decide⟩ : Fin cfg0.N), flush0_6 _, by
      have h := ((cfg0.win 6).blk (⟨0, by decide⟩ : Fin cfg0.N)).view.emb_mem_set i
      rwa [emb6] at h⟩

/-- The run, with the result the bits of the distances and the arguments unchanged. -/
theorem run : θ_run defs (onTc (τ := τ) (main (F := F))) ⟨m, fun _ => 0, ρ⟩ fun r => ∀ c : Dev nD,
      r.2.mem ((c : Thread nD τ).loc main_v12) = keys m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Proof.DistancesValue

end
-- ==== Proof.lean ====
module

public import proofs.«01_k».proof.Defs
public import proofs.«01_k».proof.Proof.Launch
public import proofs.«01_k».proof.Proof.Value
public import proofs.«01_k».proof.Proof.KeysValue
public import proofs.«01_k».proof.Proof.DistancesValue
public import proofs.«01_k».proof.Proof.Gen.Kernel
public import proofs.«01_k».proof.Proof.Gen.ReferenceIdeal.Run
public import proofs.«01_k».proof.Proof.Gen.Reference.Run
public import Idealize.ShloMosaic.Adequacy
public import Idealize.ShloMosaic.Init

@[expose] public section

noncomputable section

namespace Cert.Proof

open Idealize.ShloMosaic Idealize.SL.Sem Cert.Kernel

/-- The kernel runs to the end at the bits, its arguments unchanged and its counters zero. -/
theorem frame_p : Cert.quiescent_Kernel := fun m ρ _ =>
  (θ_run Cert.KernelIdeal.defs _ _).mono (fun _ h => ⟨fun c => (h.1 c).2, h.2⟩) (Knn.run_main (F := Bits) m ρ)

/-- The same at the ideal instance. -/
theorem frame_pi : Cert.quiescent_KernelIdeal := fun m ρ _ =>
  (θ_run Cert.KernelIdeal.defs _ _).mono (fun _ h => ⟨fun c => (h.1 c).2, h.2⟩) (Knn.run_main (F := Ideal) m ρ)

/-- The reference runs to the end at the bits; it declares no semaphore. -/
theorem frame_r : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The same at the ideal instance. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation is rewritten. -/
theorem preserves : Cert.preserves_Kernel_KernelIdeal := trivial

/-- The reference's result at the bits: its operations are those of the ideal instance's program. -/
theorem reference_bits (m : (ℓ : Loc Cert.Reference.nD Cert.Reference.τ Cert.Reference.sig) → Buf (Elt Bits) ℓ) (c : Dev Cert.Reference.nD) :
    Cert.Reference.Value.res_main_v36 m c
      = Knn.Gall (F := Bits) (m ((c.tc : Thread Cert.Reference.nD Cert.Reference.τ).loc Cert.Reference.main_arg0))
          (m ((c.tc : Thread Cert.Reference.nD Cert.Reference.τ).loc Cert.Reference.main_arg1))
          (m ((c.tc : Thread Cert.Reference.nD Cert.Reference.τ).loc Cert.Reference.main_arg2))
          (m ((c.tc : Thread Cert.Reference.nD Cert.Reference.τ).loc Cert.Reference.main_arg3))
          (m ((c.tc : Thread Cert.Reference.nD Cert.Reference.τ).loc Cert.Reference.main_arg4)) :=
  Knn.reference_eq (F := Bits) m c

/-- **Bit for bit**, the kernel's result is the reference's. -/
theorem bitexact : Cert.bitexact_Kernel_Reference := fun m ρ m' ρ' _ hm =>
  ⟨Knn.res (F := Bits) m,
   (θ_run Cert.KernelIdeal.defs _ _).mono (fun _ h => h.1) (Knn.run_main (F := Bits) m ρ),
   (θ_run Cert.Reference.defs _ _).mono (fun r h c => ⟨(h c).1.trans ((reference_bits m' c).trans (by
      have e := hm c
      rw [e.1, e.2.1, e.2.2.1, e.2.2.2.1, e.2.2.2.2]; rfl)), (h c).2⟩)
    (Cert.Reference.Value.run (F := Bits) m' ρ')⟩

/-- **At the ideal instance**, the kernel's result is the reference's. -/
theorem algebraic : Cert.algebraic_KernelIdeal_ReferenceIdeal := fun m ρ m' ρ' _ hm =>
  ⟨Knn.res (F := Ideal) m,
   (θ_run Cert.KernelIdeal.defs _ _).mono (fun _ h => h.1) (Knn.run_main (F := Ideal) m ρ),
   (θ_run Cert.ReferenceIdeal.defs _ _).mono (fun r h c => ⟨(h c).1.trans ((Knn.reference_eq (F := Ideal) m' c).trans (by
      have e := hm c
      rw [e.1, e.2.1, e.2.2.1, e.2.2.2.1, e.2.2.2.2]; rfl)), (h c).2⟩)
    (Cert.ReferenceIdeal.Value.run (F := Ideal) m' ρ')⟩

/-- The keys' kernel runs to the end, its arguments unchanged and its counters zero. -/
theorem frame_k : Cert.quiescent_Keys := fun m ρ _ => Cert.Keys.Gen.frame m ρ

/-- So does its reference. -/
theorem frame_d : Cert.quiescent_Distances := fun m ρ _ => Cert.Distances.Gen.frame m ρ

/-- **Bit for bit**, the keys are the bits of the reference's distances. -/
theorem bitexact_keys : Cert.bitexact_Keys_Distances := fun m ρ m' ρ' _ hm =>
  ⟨KeysValue.keys m, KeysValue.run m ρ,
   (θ_run Cert.Distances.defs _ _).mono (fun _ h c => ⟨(h c).1.trans (by
      have e := hm c
      show Knn.allBits _ _ _ = Knn.allBits _ _ _
      rw [e.1, e.2.1, e.2.2]), (h c).2⟩) (DistancesValue.run m' ρ')⟩

theorem claim : Cert.Claim := ⟨Cert.Kernel.Gen.facts, Cert.KernelIdeal.Gen.facts, Cert.Reference.Gen.facts, Cert.ReferenceIdeal.Gen.facts,
  Cert.Keys.Gen.facts, Cert.Distances.Gen.facts,
  frame_p, frame_pi, frame_r, frame_ri, frame_k, frame_d, preserves, bitexact, algebraic, bitexact_keys⟩

end Cert.Proof

end
